-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_off_axis [hPre_off_axis : Cert.Pre_off_axis.Facts] (m : (ℓ : Loc Cert.KernelIdeal.nD Cert.KernelIdeal.τ Cert.KernelIdeal.sig) → Buf (Elt Ideal) ℓ) : Prop :=
  ∀ c : Dev Cert.KernelIdeal.nD,
    (Cert.Pre_off_axis.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_off_axis [hPre_off_axis : Cert.Pre_off_axis.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_off_axis.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_off_axis [hKernelIdeal : Cert.KernelIdeal.Facts] [hPre_off_axis : Cert.Pre_off_axis.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_off_axis m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_off_axis [hReferenceIdeal : Cert.ReferenceIdeal.Facts] [hPre_off_axis : Cert.Pre_off_axis.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_off_axis m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "fifth" .f32 0x3E4CCCCD#32 ((1 / 5 : ℝ) : EReal)
  ∧ IdealRules.named_const.Statement Cert.KernelIdeal.κ "sixth" .f32 0x3E2AAAAB#32 ((1 / 6 : ℝ) : EReal)
  ∧ IdealRules.named_const.Statement Cert.KernelIdeal.κ "y10" .f32 0x3FDDB3D7#32 ((Real.sqrt 3 : ℝ) : EReal)
  ∧ IdealRules.named_const.Statement Cert.KernelIdeal.κ "y22" .f32 0x3F253F4E#32 ((Real.sqrt (5 / 12) : ℝ) : EReal)
  ∧ IdealRules.named_const.Statement Cert.KernelIdeal.κ "y21" .f32 0x3FA53F4E#32 ((Real.sqrt (5 / 3) : ℝ) : EReal)
  ∧ IdealRules.named_const.Statement Cert.KernelIdeal.κ "y20" .f32 0x400F1BBD#32 ((Real.sqrt 5 : ℝ) : EReal)
  ∧ IdealRules.named_const.Statement Cert.KernelIdeal.κ "y33" .f32 0x3E0ECA3C#32 ((Real.sqrt (7 / 360) : ℝ) : EReal)
  ∧ IdealRules.named_const.Statement Cert.KernelIdeal.κ "y32" .f32 0x3EAEE19C#32 ((Real.sqrt (7 / 60) : ℝ) : EReal)
  ∧ IdealRules.named_const.Statement Cert.KernelIdeal.κ "y31" .f32 0x3F8A417C#32 ((Real.sqrt (7 / 6) : ℝ) : EReal)
  ∧ IdealRules.named_const.Statement Cert.KernelIdeal.κ "y30" .f32 0x402953FD#32 ((Real.sqrt 7 : ℝ) : EReal)
  ∧ IdealRules.named_const.Statement Cert.KernelIdeal.κ "y44" .f32 0x3CAD166C#32 ((Real.sqrt (1 / 2240) : ℝ) : EReal)
  ∧ IdealRules.named_const.Statement Cert.KernelIdeal.κ "y43" .f32 0x3D74C867#32 ((Real.sqrt (1 / 280) : ℝ) : EReal)
  ∧ IdealRules.named_const.Statement Cert.KernelIdeal.κ "y42" .f32 0x3E64F92E#32 ((Real.sqrt (1 / 20) : ℝ) : EReal)
  ∧ IdealRules.named_const.Statement Cert.KernelIdeal.κ "y41" .f32 0x3F72DCE9#32 ((Real.sqrt (9 / 10) : ℝ) : EReal)
  ∧ IdealRules.named_const.Statement Cert.KernelIdeal.κ "y55" .f32 0x3B215D7B#32 ((Real.sqrt (11 / 1814400) : ℝ) : EReal)
  ∧ IdealRules.named_const.Statement Cert.KernelIdeal.κ "y54" .f32 0x3BFF2406#32 ((Real.sqrt (11 / 181440) : ℝ) : EReal)
  ∧ IdealRules.named_const.Statement Cert.KernelIdeal.κ "y53" .f32 0x3D074F0D#32 ((Real.sqrt (11 / 10080) : ℝ) : EReal)
  ∧ IdealRules.named_const.Statement Cert.KernelIdeal.κ "y52" .f32 0x3E25B800#32 ((Real.sqrt (11 / 420) : ℝ) : EReal)
  ∧ IdealRules.named_const.Statement Cert.KernelIdeal.κ "y51" .f32 0x3F5B39AD#32 ((Real.sqrt (11 / 15) : ℝ) : EReal)
  ∧ IdealRules.named_const.Statement Cert.KernelIdeal.κ "y50" .f32 0x40544395#32 ((Real.sqrt 11 : ℝ) : EReal)
  ∧ IdealRules.named_const.Statement Cert.KernelIdeal.κ "y66" .f32 0x39744C07#32 ((Real.sqrt (13 / 239500800) : ℝ) : EReal)
  ∧ IdealRules.named_const.Statement Cert.KernelIdeal.κ "y65" .f32 0x3A539141#32 ((Real.sqrt (13 / 19958400) : ℝ) : EReal)
  ∧ IdealRules.named_const.Statement Cert.KernelIdeal.κ "y64" .f32 0x3B7815B3#32 ((Real.sqrt (13 / 907200) : ℝ) : EReal)
  ∧ IdealRules.named_const.Statement Cert.KernelIdeal.κ "y63" .f32 0x3CA9DA1E#32 ((Real.sqrt (13 / 30240) : ℝ) : EReal)
  ∧ IdealRules.named_const.Statement Cert.KernelIdeal.κ "y62" .f32 0x3DFEC72D#32 ((Real.sqrt (13 / 840) : ℝ) : EReal)
  ∧ IdealRules.named_const.Statement Cert.KernelIdeal.κ "y61" .f32 0x3F496B73#32 ((Real.sqrt (13 / 21) : ℝ) : EReal)
  ∧ IdealRules.named_const.Statement Cert.KernelIdeal.κ "y60" .f32 0x4066C15A#32 ((Real.sqrt 13 : ℝ) : EReal)
  ∧ IdealRules.named_const.Statement Cert.KernelIdeal.κ "root_2_over_rcut" .f32 0x3EE4F92E#32 ((Real.sqrt (1 / 5) : ℝ) : EReal)
  ∧ IdealRules.named_const.Statement Cert.KernelIdeal.κ "pi_over_rcut" .f32 0x3EA0D97C#32 ((Real.pi * (1 / 10) : ℝ) : EReal)

def algebraic_KernelIdeal_ReferenceIdeal_pre_off_axis [hKernelIdeal : Cert.KernelIdeal.Facts] [hReferenceIdeal : Cert.ReferenceIdeal.Facts] [hPre_off_axis : Cert.Pre_off_axis.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_off_axis m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v835) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_off_axis : Cert.Pre_off_axis.Facts),
    quiescent_Kernel (hKernel := hKernel)
    ∧ quiescent_KernelIdeal (hKernelIdeal := hKernelIdeal)
    ∧ quiescent_KernelIdeal_pre_off_axis (hKernelIdeal := hKernelIdeal) (hPre_off_axis := hPre_off_axis)
    ∧ quiescent_ReferenceIdeal (hReferenceIdeal := hReferenceIdeal)
    ∧ quiescent_ReferenceIdeal_pre_off_axis (hReferenceIdeal := hReferenceIdeal) (hPre_off_axis := hPre_off_axis)
    ∧ preserves_Kernel_KernelIdeal
    ∧ algebraic_KernelIdeal_ReferenceIdeal_pre_off_axis (hKernelIdeal := hKernelIdeal) (hReferenceIdeal := hReferenceIdeal) (hPre_off_axis := hPre_off_axis)
-- ==== Pre_off_axis.lean ====
abbrev S16384x3 : Shape := ⟨2, ![16384, 3]⟩
abbrev S16384 : Shape := ⟨1, ![16384]⟩
abbrev S_ : Shape := ⟨0, ![]⟩
abbrev S16384x1 : Shape := ⟨2, ![16384, 1]⟩

class Facts : Prop where
  reducesTo_S16384x3_S16384_d1 : S16384x3.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  slices_S16384x3_S16384x1_0_0 : S16384x3.Slices ![0, 0] S16384x1
  shapeCasts_S16384x1_S16384 : S16384x1.ShapeCasts S16384
  slices_S16384x3_S16384x1_0_1 : S16384x3.Slices ![0, 1] S16384x1
  reducesTo_S16384_S_d0 : S16384.ReducesTo [0] S_

variable [Facts]

def fn_norm {F : FTy → Type} [FloatOps F] (arg0 : FVec F S16384x3 .f32) : FVec F S16384 .f32 :=
  let v0 : FVec F S16384x3 .f32 := mulf arg0 arg0
  let cst : FVec F S_ .f32 := constant S_ .f32 0x00000000#32
  let v1 : FVec F S16384 .f32 := (fun x v => Host.reduceAdd x v reducesTo_S16384x3_S16384_d1 h_S_) v0 cst
  let v2 : FVec F S16384 .f32 := Host.sqrt v1
  v2

def fn_clip {F : FTy → Type} [FloatOps F] (arg0 : FVec F S16384 .f32) (arg1 : FVec F S_ .f32) : FVec F S16384 .f32 :=
  let v0 : FVec F S_ .f32 := id arg1
  let v1 : FVec F S16384 .f32 := broadcastInDim S16384 ![] bcast_S_S16384 v0
  let v2 : FVec F S16384 .f32 := maximumf v1 arg0
  v2

def fn {F : FTy → Type} [FloatOps F] (main_arg0 : FVec F S16384x3 .f32) (main_arg1 : IVec S16384 32) (main_arg2 : IVec S16384 32) : IVec S_ 1 :=
  let main_v0 : FVec F S16384 .f32 := fn_norm (F := F) main_arg0
  let main_cst : FVec F S_ .f32 := constant S_ .f32 0x2B8CBCCC#32
  let main_v1 : FVec F S16384 .f32 := fn_clip (F := F) main_v0 main_cst
  let main_v2 : FVec F S16384x1 .f32 := broadcastInDim S16384x1 ![0] bcast_S16384_S16384x1_0 main_v1
  let main_v3 : FVec F S16384x3 .f32 := broadcastInDim S16384x3 ![0, 1] bcast_S16384x1_S16384x3_0_1 main_v2
  let main_v4 : FVec F S16384x3 .f32 := Host.divf main_arg0 main_v3
  let main_v5 : FVec F S16384x1 .f32 := (extractStridedSlice S16384x1 ![0, 0] · slices_S16384x3_S16384x1_0_0) main_v4
  let main_v6 : FVec F S16384 .f32 := shapeCast S16384 main_v5 shapeCasts_S16384x1_S16384
  let main_v7 : FVec F S16384x1 .f32 := (extractStridedSlice S16384x1 ![0, 1] · slices_S16384x3_S16384x1_0_1) main_v4
  let main_v8 : FVec F S16384 .f32 := shapeCast S16384 main_v7 shapeCasts_S16384x1_S16384
  let main_v9 : FVec F S16384 .f32 := mulf main_v6 main_v6
  let main_v10 : FVec F S16384 .f32 := mulf main_v8 main_v8
  let main_v11 : FVec F S16384 .f32 := addf main_v9 main_v10
  let main_v12 : FVec F S16384 .f32 := Host.sqrt main_v11
  let main_cst_0 : FVec F S_ .f32 := constant S_ .f32 0x1E3CE508#32
  let main_v13 : FVec F S16384 .f32 := broadcastInDim S16384 ![] bcast_S_S16384 main_cst_0
  let main_v14 : IVec S16384 1 := cmpf .oge main_v12 main_v13
  let main_c : IVec S_ 1 := constantI S_ 1 1#1
  let main_v15 : IVec S_ 1 := (fun x v => Host.reduce IntOp.andi x v reducesTo_S16384_S_d0 h_S_) main_v14 main_c
  main_v15
-- ==== Kernel.lean ====
abbrev S16384x3 : Shape := ⟨2, ![16384, 3]⟩
abbrev S16384 : Shape := ⟨1, ![16384]⟩
abbrev S_ : Shape := ⟨0, ![]⟩
abbrev S3x16384 : Shape := ⟨2, ![3, 16384]⟩
abbrev S3x8x2048 : Shape := ⟨3, ![3, 8, 2048]⟩
abbrev S8x3x2048 : Shape := ⟨3, ![8, 3, 2048]⟩
abbrev S8x2048x1 : Shape := ⟨3, ![8, 2048, 1]⟩
abbrev S980x64 : Shape := ⟨2, ![980, 64]⟩
abbrev S1x3x2048 : Shape := ⟨3, ![1, 3, 2048]⟩
abbrev S1x2048x1 : Shape := ⟨3, ![1, 2048, 1]⟩
abbrev S3x2048 : Shape := ⟨2, ![3, 2048]⟩
abbrev S1x2048 : Shape := ⟨2, ![1, 2048]⟩
abbrev S49x2048 : Shape := ⟨2, ![49, 2048]⟩
abbrev S20x1 : Shape := ⟨2, ![20, 1]⟩
abbrev S20x2048 : Shape := ⟨2, ![20, 2048]⟩
abbrev S49x1x2048 : Shape := ⟨3, ![49, 1, 2048]⟩
abbrev S49x20x2048 : Shape := ⟨3, ![49, 20, 2048]⟩
abbrev S980x2048 : Shape := ⟨2, ![980, 2048]⟩
abbrev S1x20x2048 : Shape := ⟨3, ![1, 20, 2048]⟩
abbrev S2048x1 : Shape := ⟨2, ![2048, 1]⟩
abbrev S1x64 : Shape := ⟨2, ![1, 64]⟩
abbrev S2048x64 : Shape := ⟨2, ![2048, 64]⟩
abbrev S49x20x16x4 : Shape := ⟨4, ![49, 20, 16, 4]⟩
abbrev S16x4x49x20 : Shape := ⟨4, ![16, 4, 49, 20]⟩
abbrev S16x4x1x20 : Shape := ⟨4, ![16, 4, 1, 20]⟩
abbrev S16x4x20x1 : Shape := ⟨4, ![16, 4, 20, 1]⟩
abbrev S16x80 : Shape := ⟨2, ![16, 80]⟩
abbrev S16x4x3x20 : Shape := ⟨4, ![16, 4, 3, 20]⟩
abbrev S16x4x20x3 : Shape := ⟨4, ![16, 4, 20, 3]⟩
abbrev S16x240 : Shape := ⟨2, ![16, 240]⟩
abbrev S16x4x5x20 : Shape := ⟨4, ![16, 4, 5, 20]⟩
abbrev S16x4x20x5 : Shape := ⟨4, ![16, 4, 20, 5]⟩
abbrev S16x400 : Shape := ⟨2, ![16, 400]⟩
abbrev S16x4x7x20 : Shape := ⟨4, ![16, 4, 7, 20]⟩
abbrev S16x4x20x7 : Shape := ⟨4, ![16, 4, 20, 7]⟩
abbrev S16x560 : Shape := ⟨2, ![16, 560]⟩
abbrev S16x4x9x20 : Shape := ⟨4, ![16, 4, 9, 20]⟩
abbrev S16x4x20x9 : Shape := ⟨4, ![16, 4, 20, 9]⟩
abbrev S16x720 : Shape := ⟨2, ![16, 720]⟩
abbrev S16x4x11x20 : Shape := ⟨4, ![16, 4, 11, 20]⟩
abbrev S16x4x20x11 : Shape := ⟨4, ![16, 4, 20, 11]⟩
abbrev S16x880 : Shape := ⟨2, ![16, 880]⟩
abbrev S16x4x13x20 : Shape := ⟨4, ![16, 4, 13, 20]⟩
abbrev S16x4x20x13 : Shape := ⟨4, ![16, 4, 20, 13]⟩
abbrev S16x1040 : Shape := ⟨2, ![16, 1040]⟩
abbrev S16x3920 : Shape := ⟨2, ![16, 3920]⟩

abbrev nBuf : Space → Nat
  | .hbm => 36
  | .vmem => 5
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S3x16384, .f32⟩
  | .hbm, ⟨8, _⟩ => ⟨S3x8x2048, .f32⟩
  | .hbm, ⟨9, _⟩ => ⟨S8x3x2048, .f32⟩
  | .hbm, ⟨10, _⟩ => ⟨S8x2048x1, .i32⟩
  | .hbm, ⟨11, _⟩ => ⟨S980x64, .f32⟩
  | .hbm, ⟨12, _⟩ => ⟨S49x20x16x4, .f32⟩
  | .hbm, ⟨13, _⟩ => ⟨S16x4x49x20, .f32⟩
  | .hbm, ⟨14, _⟩ => ⟨S16x4x1x20, .f32⟩
  | .hbm, ⟨15, _⟩ => ⟨S16x4x20x1, .f32⟩
  | .hbm, ⟨16, _⟩ => ⟨S16x80, .f32⟩
  | .hbm, ⟨17, _⟩ => ⟨S16x4x3x20, .f32⟩
  | .hbm, ⟨18, _⟩ => ⟨S16x4x20x3, .f32⟩
  | .hbm, ⟨19, _⟩ => ⟨S16x240, .f32⟩
  | .hbm, ⟨20, _⟩ => ⟨S16x4x5x20, .f32⟩
  | .hbm, ⟨21, _⟩ => ⟨S16x4x20x5, .f32⟩
  | .hbm, ⟨22, _⟩ => ⟨S16x400, .f32⟩
  | .hbm, ⟨23, _⟩ => ⟨S16x4x7x20, .f32⟩
  | .hbm, ⟨24, _⟩ => ⟨S16x4x20x7, .f32⟩
  | .hbm, ⟨25, _⟩ => ⟨S16x560, .f32⟩
  | .hbm, ⟨26, _⟩ => ⟨S16x4x9x20, .f32⟩
  | .hbm, ⟨27, _⟩ => ⟨S16x4x20x9, .f32⟩
  | .hbm, ⟨28, _⟩ => ⟨S16x720, .f32⟩
  | .hbm, ⟨29, _⟩ => ⟨S16x4x11x20, .f32⟩
  | .hbm, ⟨30, _⟩ => ⟨S16x4x20x11, .f32⟩
  | .hbm, ⟨31, _⟩ => ⟨S16x880, .f32⟩
  | .hbm, ⟨32, _⟩ => ⟨S16x4x13x20, .f32⟩
  | .hbm, ⟨33, _⟩ => ⟨S16x4x20x13, .f32⟩
  | .hbm, ⟨34, _⟩ => ⟨S16x1040, .f32⟩
  | .hbm, ⟨35, _⟩ => ⟨S16x3920, .f32⟩
  | .local _ .vmem, ⟨0, _⟩ => ⟨S1x3x2048, .f32⟩
  | .local _ .vmem, ⟨1, _⟩ => ⟨S1x3x2048, .f32⟩
  | .local _ .vmem, ⟨2, _⟩ => ⟨S1x2048x1, .i32⟩
  | .local _ .vmem, ⟨3, _⟩ => ⟨S1x2048x1, .i32⟩
  | .local _ .vmem, ⟨4, _⟩ => ⟨S980x64, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v396 : BitVec 1 := Scalar.cmpi .eq arg0 c0_i32
  let v397 : BitVec 32 := Scalar.extui v396
  let c0_i32_122 : BitVec 32 := 0#32
  let v398 : BitVec 1 := Scalar.cmpi .ne v397 c0_i32_122
  v398

def k0_cond2 (i : grid0.Coords) : BitVec 1 :=
  let arg0 : BitVec 32 := BitVec.ofNat 32 (i 0).val
  let c0_i32_123 : BitVec 32 := 0#32
  let v399 : BitVec 1 := Scalar.cmpi .sgt arg0 c0_i32_123
  let v400 : BitVec 32 := Scalar.extui v399
  let c0_i32_124 : BitVec 32 := 0#32
  let v401 : BitVec 1 := Scalar.cmpi .ne v400 c0_i32_124
  v401

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S980x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "fifth" => some ((1 / 5 : ℝ) : EReal)
  | "pi_over_rcut" => some ((Real.pi * (1 / 10) : ℝ) : EReal)
  | "root_2_over_rcut" => some ((Real.sqrt (1 / 5) : ℝ) : EReal)
  | "sixth" => some ((1 / 6 : ℝ) : EReal)
  | "third" => some ((1 / 3 : ℝ) : EReal)
  | "y10" => some ((Real.sqrt 3 : ℝ) : EReal)
  | "y20" => some ((Real.sqrt 5 : ℝ) : EReal)
  | "y21" => some ((Real.sqrt (5 / 3) : ℝ) : EReal)
  | "y22" => some ((Real.sqrt (5 / 12) : ℝ) : EReal)
  | "y30" => some ((Real.sqrt 7 : ℝ) : EReal)
  | "y31" => some ((Real.sqrt (7 / 6) : ℝ) : EReal)
  | "y32" => some ((Real.sqrt (7 / 60) : ℝ) : EReal)
  | "y33" => some ((Real.sqrt (7 / 360) : ℝ) : EReal)
  | "y41" => some ((Real.sqrt (9 / 10) : ℝ) : EReal)
  | "y42" => some ((Real.sqrt (1 / 20) : ℝ) : EReal)
  | "y43" => some ((Real.sqrt (1 / 280) : ℝ) : EReal)
  | "y44" => some ((Real.sqrt (1 / 2240) : ℝ) : EReal)
  | "y50" => some ((Real.sqrt 11 : ℝ) : EReal)
  | "y51" => some ((Real.sqrt (11 / 15) : ℝ) : EReal)
  | "y52" => some ((Real.sqrt (11 / 420) : ℝ) : EReal)
  | "y53" => some ((Real.sqrt (11 / 10080) : ℝ) : EReal)
  | "y54" => some ((Real.sqrt (11 / 181440) : ℝ) : EReal)
  | "y55" => some ((Real.sqrt (11 / 1814400) : ℝ) : EReal)
  | "y60" => some ((Real.sqrt 13 : ℝ) : EReal)
  | "y61" => some ((Real.sqrt (13 / 21) : ℝ) : EReal)
  | "y62" => some ((Real.sqrt (13 / 840) : ℝ) : EReal)
  | "y63" => some ((Real.sqrt (13 / 30240) : ℝ) : EReal)
  | "y64" => some ((Real.sqrt (13 / 907200) : ℝ) : EReal)
  | "y65" => some ((Real.sqrt (13 / 19958400) : ℝ) : EReal)
  | "y66" => some ((Real.sqrt (13 / 239500800) : ℝ) : EReal)
  | _ => none
-- ==== ReferenceIdeal.lean ====
abbrev S16384x3 : Shape := ⟨2, ![16384, 3]⟩
abbrev S16384 : Shape := ⟨1, ![16384]⟩
abbrev S_ : Shape := ⟨0, ![]⟩
abbrev S16384x1 : Shape := ⟨2, ![16384, 1]⟩
abbrev S16384x5 : Shape := ⟨2, ![16384, 5]⟩
abbrev S16384x7 : Shape := ⟨2, ![16384, 7]⟩
abbrev S16384x9 : Shape := ⟨2, ![16384, 9]⟩
abbrev S16384x11 : Shape := ⟨2, ![16384, 11]⟩
abbrev S16384x13 : Shape := ⟨2, ![16384, 13]⟩
abbrev S20 : Shape := ⟨1, ![20]⟩
abbrev S1x20 : Shape := ⟨2, ![1, 20]⟩
abbrev S16384x20 : Shape := ⟨2, ![16384, 20]⟩
abbrev S16384x20x1 : Shape := ⟨3, ![16384, 20, 1]⟩
abbrev S16384x1x1 : Shape := ⟨3, ![16384, 1, 1]⟩
abbrev S16384x1x3 : Shape := ⟨3, ![16384, 1, 3]⟩
abbrev S16384x20x3 : Shape := ⟨3, ![16384, 20, 3]⟩
abbrev S16384x60 : Shape := ⟨2, ![16384, 60]⟩
abbrev S16384x1x5 : Shape := ⟨3, ![16384, 1, 5]⟩
abbrev S16384x20x5 : Shape := ⟨3, ![16384, 20, 5]⟩
abbrev S16384x100 : Shape := ⟨2, ![16384, 100]⟩
abbrev S16384x1x7 : Shape := ⟨3, ![16384, 1, 7]⟩
abbrev S16384x20x7 : Shape := ⟨3, ![16384, 20, 7]⟩
abbrev S16384x140 : Shape := ⟨2, ![16384, 140]⟩
abbrev S16384x1x9 : Shape := ⟨3, ![16384, 1, 9]⟩
abbrev S16384x20x9 : Shape := ⟨3, ![16384, 20, 9]⟩
abbrev S16384x180 : Shape := ⟨2, ![16384, 180]⟩
abbrev S16384x1x11 : Shape := ⟨3, ![16384, 1, 11]⟩
abbrev S16384x20x11 : Shape := ⟨3, ![16384, 20, 11]⟩
abbrev S16384x220 : Shape := ⟨2, ![16384, 220]⟩
abbrev S16384x1x13 : Shape := ⟨3, ![16384, 1, 13]⟩
abbrev S16384x20x13 : Shape := ⟨3, ![16384, 20, 13]⟩
abbrev S16384x260 : Shape := ⟨2, ![16384, 260]⟩
abbrev S16384x980 : Shape := ⟨2, ![16384, 980]⟩
abbrev S64x980 : Shape := ⟨2, ![64, 980]⟩
abbrev S16x4x980 : Shape := ⟨3, ![16, 4, 980]⟩
abbrev S16x4x20 : Shape := ⟨3, ![16, 4, 20]⟩
abbrev S16x80 : Shape := ⟨2, ![16, 80]⟩
abbrev S16x4x60 : Shape := ⟨3, ![16, 4, 60]⟩
abbrev S16x240 : Shape := ⟨2, ![16, 240]⟩
abbrev S16x4x100 : Shape := ⟨3, ![16, 4, 100]⟩
abbrev S16x400 : Shape := ⟨2, ![16, 400]⟩
abbrev S16x4x140 : Shape := ⟨3, ![16, 4, 140]⟩
abbrev S16x560 : Shape := ⟨2, ![16, 560]⟩
abbrev S16x4x180 : Shape := ⟨3, ![16, 4, 180]⟩
abbrev S16x720 : Shape := ⟨2, ![16, 720]⟩
abbrev S16x4x220 : Shape := ⟨3, ![16, 4, 220]⟩
abbrev S16x880 : Shape := ⟨2, ![16, 880]⟩
abbrev S16x4x260 : Shape := ⟨3, ![16, 4, 260]⟩
abbrev S16x1040 : Shape := ⟨2, ![16, 1040]⟩
abbrev S16x3920 : Shape := ⟨2, ![16, 3920]⟩

abbrev nBuf : Space → Nat
  | .hbm => 1048
  | .vmem => 0
  | .smem => 0
  | _ => 0

abbrev hbmTy0_0 (i : Nat) : BufTy := match i % 128 with
  | 0 => ⟨S16384x3, .f32⟩
  | 1 => ⟨S16384, .i32⟩
  | 2 => ⟨S16384, .i32⟩
  | 3 => ⟨S16384x3, .f32⟩
  | 4 => ⟨S_, .f32⟩
  | 5 => ⟨S16384, .f32⟩
  | 6 => ⟨S16384, .f32⟩
  | 7 => ⟨S_, .f32⟩
  | 8 => ⟨S_, .f32⟩
  | 9 => ⟨S16384, .f32⟩
  | 10 => ⟨S16384, .f32⟩
  | 11 => ⟨S16384x1, .f32⟩
  | 12 => ⟨S16384x3, .f32⟩
  | 13 => ⟨S16384x3, .f32⟩
  | 14 => ⟨S16384x1, .f32⟩
  | 15 => ⟨S16384, .f32⟩
  | 16 => ⟨S16384x1, .f32⟩
  | 17 => ⟨S16384, .f32⟩
  | 18 => ⟨S16384x1, .f32⟩
  | 19 => ⟨S16384, .f32⟩
  | 20 => ⟨S16384, .f32⟩
  | 21 => ⟨S_, .f32⟩
  | 22 => ⟨S16384, .f32⟩
  | 23 => ⟨S16384, .f32⟩
  | 24 => ⟨S_, .f32⟩
  | 25 => ⟨S_, .f32⟩
  | 26 => ⟨S16384, .f32⟩
  | 27 => ⟨S16384, .f32⟩
  | 28 => ⟨S16384, .f32⟩
  | 29 => ⟨S16384, .f32⟩
  | 30 => ⟨S_, .f32⟩
  | 31 => ⟨S16384, .f32⟩
  | 32 => ⟨S_, .f32⟩
  | 33 => ⟨S16384, .f32⟩
  | 34 => ⟨S16384, .f32⟩
  | 35 => ⟨S16384, .f32⟩
  | 36 => ⟨S_, .f32⟩
  | 37 => ⟨S16384, .f32⟩
  | 38 => ⟨S16384, .f32⟩
  | 39 => ⟨S16384, .f32⟩
  | 40 => ⟨S_, .f32⟩
  | 41 => ⟨S16384, .f32⟩
  | 42 => ⟨S16384, .f32⟩
  | 43 => ⟨S16384, .f32⟩
  | 44 => ⟨S_, .f32⟩
  | 45 => ⟨S16384, .f32⟩
  | 46 => ⟨S16384, .f32⟩
  | 47 => ⟨S16384, .f32⟩
  | 48 => ⟨S_, .f32⟩
  | 49 => ⟨S16384, .f32⟩
  | 50 => ⟨S16384, .f32⟩
  | 51 => ⟨S16384, .f32⟩
  | 52 => ⟨S_, .f32⟩
  | 53 => ⟨S16384, .f32⟩
  | 54 => ⟨S16384, .f32⟩
  | 55 => ⟨S16384, .f32⟩
  | 56 => ⟨S_, .f32⟩
  | 57 => ⟨S16384, .f32⟩
  | 58 => ⟨S16384, .f32⟩
  | 59 => ⟨S16384, .f32⟩
  | 60 => ⟨S_, .f32⟩
  | 61 => ⟨S16384, .f32⟩
  | 62 => ⟨S16384, .f32⟩
  | 63 => ⟨S16384, .f32⟩
  | 64 => ⟨S_, .f32⟩
  | 65 => ⟨S16384, .f32⟩
  | 66 => ⟨S16384, .f32⟩
  | 67 => ⟨S16384, .f32⟩
  | 68 => ⟨S_, .f32⟩
  | 69 => ⟨S16384, .f32⟩
  | 70 => ⟨S16384, .f32⟩
  | 71 => ⟨S16384, .f32⟩
  | 72 => ⟨S_, .f32⟩
  | 73 => ⟨S16384, .f32⟩
  | 74 => ⟨S16384, .f32⟩
  | 75 => ⟨S16384, .f32⟩
  | 76 => ⟨S_, .f32⟩
  | 77 => ⟨S16384, .f32⟩
  | 78 => ⟨S16384, .f32⟩
  | 79 => ⟨S16384, .f32⟩
  | 80 => ⟨S_, .f32⟩
  | 81 => ⟨S16384, .f32⟩
  | 82 => ⟨S16384, .f32⟩
  | 83 => ⟨S16384, .f32⟩
  | 84 => ⟨S_, .f32⟩
  | 85 => ⟨S16384, .f32⟩
  | 86 => ⟨S16384, .f32⟩
  | 87 => ⟨S16384, .f32⟩
  | 88 => ⟨S_, .f32⟩
  | 89 => ⟨S16384, .f32⟩
  | 90 => ⟨S16384, .f32⟩
  | 91 => ⟨S_, .f32⟩
  | 92 => ⟨S16384, .f32⟩
  | 93 => ⟨S16384, .f32⟩
  | 94 => ⟨S16384, .f32⟩
  | 95 => ⟨S_, .f32⟩
  | 96 => ⟨S16384, .f32⟩
  | 97 => ⟨S16384, .f32⟩
  | 98 => ⟨S16384, .f32⟩
  | 99 => ⟨S_, .f32⟩
  | 100 => ⟨S16384, .f32⟩
  | 101 => ⟨S16384, .f32⟩
  | 102 => ⟨S_, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S16384, .f32⟩
  | 110 => ⟨S_, .f32⟩
  | 111 => ⟨S16384, .f32⟩
  | 112 => ⟨S16384, .f32⟩
  | 113 => ⟨S_, .f32⟩
  | 114 => ⟨S16384, .f32⟩
  | 115 => ⟨S16384, .f32⟩
  | 116 => ⟨S16384, .f32⟩
  | 117 => ⟨S_, .f32⟩
  | 118 => ⟨S16384, .f32⟩
  | 119 => ⟨S16384, .f32⟩
  | 120 => ⟨S16384, .f32⟩
  | 121 => ⟨S_, .f32⟩
  | 122 => ⟨S16384, .f32⟩
  | 123 => ⟨S16384, .f32⟩
  | 124 => ⟨S_, .f32⟩
  | 125 => ⟨S16384, .f32⟩
  | 126 => ⟨S16384, .f32⟩
  | 127 => ⟨S16384, .f32⟩
  | _ => ⟨S16384x3, .f32⟩

abbrev hbmTy0_1 (i : Nat) : BufTy := match i % 128 with
  | 0 => ⟨S_, .f32⟩
  | 1 => ⟨S16384, .f32⟩
  | 2 => ⟨S16384, .f32⟩
  | 3 => ⟨S16384, .f32⟩
  | 4 => ⟨S_, .f32⟩
  | 5 => ⟨S16384, .f32⟩
  | 6 => ⟨S16384, .f32⟩
  | 7 => ⟨S_, .f32⟩
  | 8 => ⟨S16384, .f32⟩
  | 9 => ⟨S16384, .f32⟩
  | 10 => ⟨S16384, .f32⟩
  | 11 => ⟨S_, .f32⟩
  | 12 => ⟨S16384, .f32⟩
  | 13 => ⟨S16384, .f32⟩
  | 14 => ⟨S16384, .f32⟩
  | 15 => ⟨S_, .f32⟩
  | 16 => ⟨S16384, .f32⟩
  | 17 => ⟨S16384, .f32⟩
  | 18 => ⟨S_, .f32⟩
  | 19 => ⟨S16384, .f32⟩
  | 20 => ⟨S16384, .f32⟩
  | 21 => ⟨S16384, .f32⟩
  | 22 => ⟨S_, .f32⟩
  | 23 => ⟨S16384, .f32⟩
  | 24 => ⟨S16384, .f32⟩
  | 25 => ⟨S16384, .f32⟩
  | 26 => ⟨S_, .f32⟩
  | 27 => ⟨S16384, .f32⟩
  | 28 => ⟨S16384, .f32⟩
  | 29 => ⟨S_, .f32⟩
  | 30 => ⟨S16384, .f32⟩
  | 31 => ⟨S16384, .f32⟩
  | 32 => ⟨S16384, .f32⟩
  | 33 => ⟨S_, .f32⟩
  | 34 => ⟨S16384, .f32⟩
  | 35 => ⟨S16384, .f32⟩
  | 36 => ⟨S16384, .f32⟩
  | 37 => ⟨S_, .f32⟩
  | 38 => ⟨S16384, .f32⟩
  | 39 => ⟨S16384, .f32⟩
  | 40 => ⟨S_, .f32⟩
  | 41 => ⟨S16384, .f32⟩
  | 42 => ⟨S16384, .f32⟩
  | 43 => ⟨S16384, .f32⟩
  | 44 => ⟨S_, .f32⟩
  | 45 => ⟨S16384, .f32⟩
  | 46 => ⟨S16384, .f32⟩
  | 47 => ⟨S16384, .f32⟩
  | 48 => ⟨S_, .f32⟩
  | 49 => ⟨S16384, .f32⟩
  | 50 => ⟨S16384, .f32⟩
  | 51 => ⟨S_, .f32⟩
  | 52 => ⟨S16384, .f32⟩
  | 53 => ⟨S16384, .f32⟩
  | 54 => ⟨S16384, .f32⟩
  | 55 => ⟨S_, .f32⟩
  | 56 => ⟨S16384, .f32⟩
  | 57 => ⟨S16384, .f32⟩
  | 58 => ⟨S16384, .f32⟩
  | 59 => ⟨S_, .f32⟩
  | 60 => ⟨S16384, .f32⟩
  | 61 => ⟨S16384, .f32⟩
  | 62 => ⟨S_, .f32⟩
  | 63 => ⟨S16384, .f32⟩
  | 64 => ⟨S16384, .f32⟩
  | 65 => ⟨S16384, .f32⟩
  | 66 => ⟨S_, .f32⟩
  | 67 => ⟨S16384, .f32⟩
  | 68 => ⟨S16384, .f32⟩
  | 69 => ⟨S16384, .f32⟩
  | 70 => ⟨S_, .f32⟩
  | 71 => ⟨S16384, .f32⟩
  | 72 => ⟨S16384, .f32⟩
  | 73 => ⟨S_, .f32⟩
  | 74 => ⟨S16384, .f32⟩
  | 75 => ⟨S16384, .f32⟩
  | 76 => ⟨S16384, .f32⟩
  | 77 => ⟨S_, .f32⟩
  | 78 => ⟨S16384, .f32⟩
  | 79 => ⟨S16384, .f32⟩
  | 80 => ⟨S16384, .f32⟩
  | 81 => ⟨S_, .f32⟩
  | 82 => ⟨S16384, .f32⟩
  | 83 => ⟨S16384, .f32⟩
  | 84 => ⟨S_, .f32⟩
  | 85 => ⟨S16384, .f32⟩
  | 86 => ⟨S16384, .f32⟩
  | 87 => ⟨S16384, .f32⟩
  | 88 => ⟨S_, .f32⟩
  | 89 => ⟨S16384, .f32⟩
  | 90 => ⟨S16384, .f32⟩
  | 91 => ⟨S16384, .f32⟩
  | 92 => ⟨S_, .f32⟩
  | 93 => ⟨S16384, .f32⟩
  | 94 => ⟨S16384, .f32⟩
  | 95 => ⟨S_, .f32⟩
  | 96 => ⟨S16384, .f32⟩
  | 97 => ⟨S16384, .f32⟩
  | 98 => ⟨S16384, .f32⟩
  | 99 => ⟨S_, .f32⟩
  | 100 => ⟨S16384, .f32⟩
  | 101 => ⟨S16384, .f32⟩
  | 102 => ⟨S16384, .f32⟩
  | 103 => ⟨S_, .f32⟩
  | 104 => ⟨S16384, .f32⟩
  | 105 => ⟨S16384, .f32⟩
  | 106 => ⟨S_, .f32⟩
  | 107 => ⟨S16384, .f32⟩
  | 108 => ⟨S16384, .f32⟩
  | 109 => ⟨S16384, .f32⟩
  | 110 => ⟨S_, .f32⟩
  | 111 => ⟨S16384, .f32⟩
  | 112 => ⟨S16384, .f32⟩
  | 113 => ⟨S16384, .f32⟩
  | 114 => ⟨S_, .f32⟩
  | 115 => ⟨S16384, .f32⟩
  | 116 => ⟨S16384, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x3, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x3, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S16384, .f32⟩
  | 66 => ⟨S16384, .f32⟩
  | 67 => ⟨S16384, .f32⟩
  | 68 => ⟨S16384, .f32⟩
  | 69 => ⟨S16384x1, .f32⟩
  | 70 => ⟨S_, .f32⟩
  | 71 => ⟨S16384, .f32⟩
  | 72 => ⟨S16384, .f32⟩
  | 73 => ⟨S_, .f32⟩
  | 74 => ⟨S16384, .f32⟩
  | 75 => ⟨S16384, .f32⟩
  | 76 => ⟨S16384, .f32⟩
  | 77 => ⟨S16384, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S_, .f32⟩
  | 85 => ⟨S16384, .f32⟩
  | 86 => ⟨S16384, .f32⟩
  | 87 => ⟨S_, .f32⟩
  | 88 => ⟨S16384, .f32⟩
  | 89 => ⟨S16384, .f32⟩
  | 90 => ⟨S16384, .f32⟩
  | 91 => ⟨S16384, .f32⟩
  | 92 => ⟨S16384, .f32⟩
  | 93 => ⟨S16384, .f32⟩
  | 94 => ⟨S16384x1, .f32⟩
  | 95 => ⟨S16384x1, .f32⟩
  | 96 => ⟨S16384x1, .f32⟩
  | 97 => ⟨S16384x3, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S_, .f32⟩
  | 109 => ⟨S16384, .f32⟩
  | 110 => ⟨S16384, .f32⟩
  | 111 => ⟨S_, .f32⟩
  | 112 => ⟨S16384, .f32⟩
  | 113 => ⟨S16384, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S16384x3, .f32⟩

abbrev hbmTy0_4 (i : Nat) : BufTy := match i % 128 with
  | 0 => ⟨S16384, .f32⟩
  | 1 => ⟨S16384, .f32⟩
  | 2 => ⟨S16384, .f32⟩
  | 3 => ⟨S16384, .f32⟩
  | 4 => ⟨S_, .f32⟩
  | 5 => ⟨S16384, .f32⟩
  | 6 => ⟨S16384, .f32⟩
  | 7 => ⟨S_, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S16384x1, .f32⟩
  | 15 => ⟨S16384x1, .f32⟩
  | 16 => ⟨S16384x1, .f32⟩
  | 17 => ⟨S16384x1, .f32⟩
  | 18 => ⟨S16384x1, .f32⟩
  | 19 => ⟨S16384x5, .f32⟩
  | 20 => ⟨S_, .f32⟩
  | 21 => ⟨S16384, .f32⟩
  | 22 => ⟨S16384, .f32⟩
  | 23 => ⟨S_, .f32⟩
  | 24 => ⟨S16384, .f32⟩
  | 25 => ⟨S16384, .f32⟩
  | 26 => ⟨S16384, .f32⟩
  | 27 => ⟨S16384, .f32⟩
  | 28 => ⟨S16384, .f32⟩
  | 29 => ⟨S16384, .f32⟩
  | 30 => ⟨S_, .f32⟩
  | 31 => ⟨S16384, .f32⟩
  | 32 => ⟨S16384, .f32⟩
  | 33 => ⟨S_, .f32⟩
  | 34 => ⟨S16384, .f32⟩
  | 35 => ⟨S16384, .f32⟩
  | 36 => ⟨S16384, .f32⟩
  | 37 => ⟨S16384, .f32⟩
  | 38 => ⟨S16384, .f32⟩
  | 39 => ⟨S16384, .f32⟩
  | 40 => ⟨S_, .f32⟩
  | 41 => ⟨S16384, .f32⟩
  | 42 => ⟨S16384, .f32⟩
  | 43 => ⟨S_, .f32⟩
  | 44 => ⟨S16384, .f32⟩
  | 45 => ⟨S16384, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S16384, .f32⟩
  | 53 => ⟨S16384, .f32⟩
  | 54 => ⟨S_, .f32⟩
  | 55 => ⟨S16384, .f32⟩
  | 56 => ⟨S16384, .f32⟩
  | 57 => ⟨S_, .f32⟩
  | 58 => ⟨S16384, .f32⟩
  | 59 => ⟨S16384, .f32⟩
  | 60 => ⟨S16384, .f32⟩
  | 61 => ⟨S16384, .f32⟩
  | 62 => ⟨S16384, .f32⟩
  | 63 => ⟨S16384, .f32⟩
  | 64 => ⟨S_, .f32⟩
  | 65 => ⟨S16384, .f32⟩
  | 66 => ⟨S16384, .f32⟩
  | 67 => ⟨S_, .f32⟩
  | 68 => ⟨S16384, .f32⟩
  | 69 => ⟨S16384, .f32⟩
  | 70 => ⟨S16384, .f32⟩
  | 71 => ⟨S16384, .f32⟩
  | 72 => ⟨S16384, .f32⟩
  | 73 => ⟨S16384, .f32⟩
  | 74 => ⟨S_, .f32⟩
  | 75 => ⟨S16384, .f32⟩
  | 76 => ⟨S16384, .f32⟩
  | 77 => ⟨S_, .f32⟩
  | 78 => ⟨S16384, .f32⟩
  | 79 => ⟨S16384, .f32⟩
  | 80 => ⟨S16384, .f32⟩
  | 81 => ⟨S16384, .f32⟩
  | 82 => ⟨S16384, .f32⟩
  | 83 => ⟨S16384, .f32⟩
  | 84 => ⟨S16384x1, .f32⟩
  | 85 => ⟨S16384x1, .f32⟩
  | 86 => ⟨S16384x1, .f32⟩
  | 87 => ⟨S16384x1, .f32⟩
  | 88 => ⟨S16384x1, .f32⟩
  | 89 => ⟨S16384x1, .f32⟩
  | 90 => ⟨S16384x1, .f32⟩
  | 91 => ⟨S16384x7, .f32⟩
  | 92 => ⟨S_, .f32⟩
  | 93 => ⟨S16384, .f32⟩
  | 94 => ⟨S16384, .f32⟩
  | 95 => ⟨S_, .f32⟩
  | 96 => ⟨S16384, .f32⟩
  | 97 => ⟨S16384, .f32⟩
  | 98 => ⟨S16384, .f32⟩
  | 99 => ⟨S16384, .f32⟩
  | 100 => ⟨S16384, .f32⟩
  | 101 => ⟨S16384, .f32⟩
  | 102 => ⟨S_, .f32⟩
  | 103 => ⟨S16384, .f32⟩
  | 104 => ⟨S16384, .f32⟩
  | 105 => ⟨S_, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .f32⟩
  | 113 => ⟨S16384, .f32⟩
  | 114 => ⟨S16384, .f32⟩
  | 115 => ⟨S_, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S16384x3, .f32⟩

abbrev hbmTy0_5 (i : Nat) : BufTy := match i % 128 with
  | 0 => ⟨S16384, .f32⟩
  | 1 => ⟨S16384, .f32⟩
  | 2 => ⟨S16384, .f32⟩
  | 3 => ⟨S16384, .f32⟩
  | 4 => ⟨S16384, .f32⟩
  | 5 => ⟨S16384, .f32⟩
  | 6 => ⟨S16384, .f32⟩
  | 7 => ⟨S16384, .f32⟩
  | 8 => ⟨S_, .f32⟩
  | 9 => ⟨S16384, .f32⟩
  | 10 => ⟨S16384, .f32⟩
  | 11 => ⟨S_, .f32⟩
  | 12 => ⟨S16384, .f32⟩
  | 13 => ⟨S16384, .f32⟩
  | 14 => ⟨S16384, .f32⟩
  | 15 => ⟨S16384, .f32⟩
  | 16 => ⟨S16384, .f32⟩
  | 17 => ⟨S16384, .f32⟩
  | 18 => ⟨S_, .f32⟩
  | 19 => ⟨S16384, .f32⟩
  | 20 => ⟨S16384, .f32⟩
  | 21 => ⟨S_, .f32⟩
  | 22 => ⟨S16384, .f32⟩
  | 23 => ⟨S16384, .f32⟩
  | 24 => ⟨S16384, .f32⟩
  | 25 => ⟨S16384, .f32⟩
  | 26 => ⟨S16384, .f32⟩
  | 27 => ⟨S16384, .f32⟩
  | 28 => ⟨S_, .f32⟩
  | 29 => ⟨S16384, .f32⟩
  | 30 => ⟨S16384, .f32⟩
  | 31 => ⟨S_, .f32⟩
  | 32 => ⟨S16384, .f32⟩
  | 33 => ⟨S16384, .f32⟩
  | 34 => ⟨S16384, .f32⟩
  | 35 => ⟨S16384, .f32⟩
  | 36 => ⟨S16384, .f32⟩
  | 37 => ⟨S16384, .f32⟩
  | 38 => ⟨S_, .f32⟩
  | 39 => ⟨S16384, .f32⟩
  | 40 => ⟨S16384, .f32⟩
  | 41 => ⟨S_, .f32⟩
  | 42 => ⟨S16384, .f32⟩
  | 43 => ⟨S16384, .f32⟩
  | 44 => ⟨S16384, .f32⟩
  | 45 => ⟨S16384, .f32⟩
  | 46 => ⟨S16384, .f32⟩
  | 47 => ⟨S16384, .f32⟩
  | 48 => ⟨S16384x1, .f32⟩
  | 49 => ⟨S16384x1, .f32⟩
  | 50 => ⟨S16384x1, .f32⟩
  | 51 => ⟨S16384x1, .f32⟩
  | 52 => ⟨S16384x1, .f32⟩
  | 53 => ⟨S16384x1, .f32⟩
  | 54 => ⟨S16384x1, .f32⟩
  | 55 => ⟨S16384x1, .f32⟩
  | 56 => ⟨S16384x1, .f32⟩
  | 57 => ⟨S16384x9, .f32⟩
  | 58 => ⟨S_, .f32⟩
  | 59 => ⟨S16384, .f32⟩
  | 60 => ⟨S16384, .f32⟩
  | 61 => ⟨S_, .f32⟩
  | 62 => ⟨S16384, .f32⟩
  | 63 => ⟨S16384, .f32⟩
  | 64 => ⟨S16384, .f32⟩
  | 65 => ⟨S16384, .f32⟩
  | 66 => ⟨S16384, .f32⟩
  | 67 => ⟨S16384, .f32⟩
  | 68 => ⟨S_, .f32⟩
  | 69 => ⟨S16384, .f32⟩
  | 70 => ⟨S16384, .f32⟩
  | 71 => ⟨S_, .f32⟩
  | 72 => ⟨S16384, .f32⟩
  | 73 => ⟨S16384, .f32⟩
  | 74 => ⟨S16384, .f32⟩
  | 75 => ⟨S16384, .f32⟩
  | 76 => ⟨S16384, .f32⟩
  | 77 => ⟨S16384, .f32⟩
  | 78 => ⟨S_, .f32⟩
  | 79 => ⟨S16384, .f32⟩
  | 80 => ⟨S16384, .f32⟩
  | 81 => ⟨S_, .f32⟩
  | 82 => ⟨S16384, .f32⟩
  | 83 => ⟨S16384, .f32⟩
  | 84 => ⟨S16384, .f32⟩
  | 85 => ⟨S16384, .f32⟩
  | 86 => ⟨S16384, .f32⟩
  | 87 => ⟨S16384, .f32⟩
  | 88 => ⟨S_, .f32⟩
  | 89 => ⟨S16384, .f32⟩
  | 90 => ⟨S16384, .f32⟩
  | 91 => ⟨S_, .f32⟩
  | 92 => ⟨S16384, .f32⟩
  | 93 => ⟨S16384, .f32⟩
  | 94 => ⟨S16384, .f32⟩
  | 95 => ⟨S16384, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .f32⟩
  | 113 => ⟨S16384, .f32⟩
  | 114 => ⟨S16384, .f32⟩
  | 115 => ⟨S_, .f32⟩
  | 116 => ⟨S16384, .f32⟩
  | 117 => ⟨S16384, .f32⟩
  | 118 => ⟨S16384, .f32⟩
  | 119 => ⟨S16384, .f32⟩
  | 120 => ⟨S16384, .f32⟩
  | 121 => ⟨S16384, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S16384x3, .f32⟩

abbrev hbmTy0_6 (i : Nat) : BufTy := match i % 128 with
  | 0 => ⟨S16384, .f32⟩
  | 1 => ⟨S16384, .f32⟩
  | 2 => ⟨S16384, .f32⟩
  | 3 => ⟨S16384, .f32⟩
  | 4 => ⟨S_, .f32⟩
  | 5 => ⟨S16384, .f32⟩
  | 6 => ⟨S16384, .f32⟩
  | 7 => ⟨S_, .f32⟩
  | 8 => ⟨S16384, .f32⟩
  | 9 => ⟨S16384, .f32⟩
  | 10 => ⟨S16384, .f32⟩
  | 11 => ⟨S16384, .f32⟩
  | 12 => ⟨S16384, .f32⟩
  | 13 => ⟨S16384, .f32⟩
  | 14 => ⟨S_, .f32⟩
  | 15 => ⟨S16384, .f32⟩
  | 16 => ⟨S16384, .f32⟩
  | 17 => ⟨S_, .f32⟩
  | 18 => ⟨S16384, .f32⟩
  | 19 => ⟨S16384, .f32⟩
  | 20 => ⟨S16384, .f32⟩
  | 21 => ⟨S16384, .f32⟩
  | 22 => ⟨S16384, .f32⟩
  | 23 => ⟨S16384, .f32⟩
  | 24 => ⟨S_, .f32⟩
  | 25 => ⟨S16384, .f32⟩
  | 26 => ⟨S16384, .f32⟩
  | 27 => ⟨S_, .f32⟩
  | 28 => ⟨S16384, .f32⟩
  | 29 => ⟨S16384, .f32⟩
  | 30 => ⟨S16384, .f32⟩
  | 31 => ⟨S16384, .f32⟩
  | 32 => ⟨S16384, .f32⟩
  | 33 => ⟨S16384, .f32⟩
  | 34 => ⟨S16384x1, .f32⟩
  | 35 => ⟨S16384x1, .f32⟩
  | 36 => ⟨S16384x1, .f32⟩
  | 37 => ⟨S16384x1, .f32⟩
  | 38 => ⟨S16384x1, .f32⟩
  | 39 => ⟨S16384x1, .f32⟩
  | 40 => ⟨S16384x1, .f32⟩
  | 41 => ⟨S16384x1, .f32⟩
  | 42 => ⟨S16384x1, .f32⟩
  | 43 => ⟨S16384x1, .f32⟩
  | 44 => ⟨S16384x1, .f32⟩
  | 45 => ⟨S16384x11, .f32⟩
  | 46 => ⟨S_, .f32⟩
  | 47 => ⟨S16384, .f32⟩
  | 48 => ⟨S16384, .f32⟩
  | 49 => ⟨S_, .f32⟩
  | 50 => ⟨S16384, .f32⟩
  | 51 => ⟨S16384, .f32⟩
  | 52 => ⟨S16384, .f32⟩
  | 53 => ⟨S16384, .f32⟩
  | 54 => ⟨S16384, .f32⟩
  | 55 => ⟨S16384, .f32⟩
  | 56 => ⟨S_, .f32⟩
  | 57 => ⟨S16384, .f32⟩
  | 58 => ⟨S16384, .f32⟩
  | 59 => ⟨S_, .f32⟩
  | 60 => ⟨S16384, .f32⟩
  | 61 => ⟨S16384, .f32⟩
  | 62 => ⟨S16384, .f32⟩
  | 63 => ⟨S16384, .f32⟩
  | 64 => ⟨S16384, .f32⟩
  | 65 => ⟨S16384, .f32⟩
  | 66 => ⟨S_, .f32⟩
  | 67 => ⟨S16384, .f32⟩
  | 68 => ⟨S16384, .f32⟩
  | 69 => ⟨S_, .f32⟩
  | 70 => ⟨S16384, .f32⟩
  | 71 => ⟨S16384, .f32⟩
  | 72 => ⟨S16384, .f32⟩
  | 73 => ⟨S16384, .f32⟩
  | 74 => ⟨S16384, .f32⟩
  | 75 => ⟨S16384, .f32⟩
  | 76 => ⟨S_, .f32⟩
  | 77 => ⟨S16384, .f32⟩
  | 78 => ⟨S16384, .f32⟩
  | 79 => ⟨S_, .f32⟩
  | 80 => ⟨S16384, .f32⟩
  | 81 => ⟨S16384, .f32⟩
  | 82 => ⟨S16384, .f32⟩
  | 83 => ⟨S16384, .f32⟩
  | 84 => ⟨S16384, .f32⟩
  | 85 => ⟨S16384, .f32⟩
  | 86 => ⟨S_, .f32⟩
  | 87 => ⟨S16384, .f32⟩
  | 88 => ⟨S16384, .f32⟩
  | 89 => ⟨S_, .f32⟩
  | 90 => ⟨S16384, .f32⟩
  | 91 => ⟨S16384, .f32⟩
  | 92 => ⟨S16384, .f32⟩
  | 93 => ⟨S16384, .f32⟩
  | 94 => ⟨S16384, .f32⟩
  | 95 => ⟨S16384, .f32⟩
  | 96 => ⟨S_, .f32⟩
  | 97 => ⟨S16384, .f32⟩
  | 98 => ⟨S16384, .f32⟩
  | 99 => ⟨S_, .f32⟩
  | 100 => ⟨S16384, .f32⟩
  | 101 => ⟨S16384, .f32⟩
  | 102 => ⟨S16384, .f32⟩
  | 103 => ⟨S16384, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S_, .f32⟩
  | 111 => ⟨S16384, .f32⟩
  | 112 => ⟨S16384, .f32⟩
  | 113 => ⟨S_, .f32⟩
  | 114 => ⟨S16384, .f32⟩
  | 115 => ⟨S16384, .f32⟩
  | 116 => ⟨S16384, .f32⟩
  | 117 => ⟨S16384, .f32⟩
  | 118 => ⟨S16384, .f32⟩
  | 119 => ⟨S16384, .f32⟩
  | 120 => ⟨S_, .f32⟩
  | 121 => ⟨S16384, .f32⟩
  | 122 => ⟨S16384, .f32⟩
  | 123 => ⟨S_, .f32⟩
  | 124 => ⟨S16384, .f32⟩
  | 125 => ⟨S16384, .f32⟩
  | 126 => ⟨S16384, .f32⟩
  | 127 => ⟨S16384, .f32⟩
  | _ => ⟨S16384x3, .f32⟩

abbrev hbmTy0_7 (i : Nat) : BufTy := match i % 128 with
  | 0 => ⟨S16384, .f32⟩
  | 1 => ⟨S16384, .f32⟩
  | 2 => ⟨S_, .f32⟩
  | 3 => ⟨S16384, .f32⟩
  | 4 => ⟨S16384, .f32⟩
  | 5 => ⟨S_, .f32⟩
  | 6 => ⟨S16384, .f32⟩
  | 7 => ⟨S16384, .f32⟩
  | 8 => ⟨S16384, .f32⟩
  | 9 => ⟨S16384, .f32⟩
  | 10 => ⟨S16384, .f32⟩
  | 11 => ⟨S16384, .f32⟩
  | 12 => ⟨S_, .f32⟩
  | 13 => ⟨S16384, .f32⟩
  | 14 => ⟨S16384, .f32⟩
  | 15 => ⟨S_, .f32⟩
  | 16 => ⟨S16384, .f32⟩
  | 17 => ⟨S16384, .f32⟩
  | 18 => ⟨S16384, .f32⟩
  | 19 => ⟨S16384, .f32⟩
  | 20 => ⟨S16384, .f32⟩
  | 21 => ⟨S16384, .f32⟩
  | 22 => ⟨S_, .f32⟩
  | 23 => ⟨S16384, .f32⟩
  | 24 => ⟨S16384, .f32⟩
  | 25 => ⟨S_, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384, .f32⟩
  | 32 => ⟨S_, .f32⟩
  | 33 => ⟨S16384, .f32⟩
  | 34 => ⟨S16384, .f32⟩
  | 35 => ⟨S_, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384, .f32⟩
  | 42 => ⟨S16384x1, .f32⟩
  | 43 => ⟨S16384x1, .f32⟩
  | 44 => ⟨S16384x1, .f32⟩
  | 45 => ⟨S16384x1, .f32⟩
  | 46 => ⟨S16384x1, .f32⟩
  | 47 => ⟨S16384x1, .f32⟩
  | 48 => ⟨S16384x1, .f32⟩
  | 49 => ⟨S16384x1, .f32⟩
  | 50 => ⟨S16384x1, .f32⟩
  | 51 => ⟨S16384x1, .f32⟩
  | 52 => ⟨S16384x1, .f32⟩
  | 53 => ⟨S16384x1, .f32⟩
  | 54 => ⟨S16384x1, .f32⟩
  | 55 => ⟨S16384x13, .f32⟩
  | 56 => ⟨S20, .f32⟩
  | 57 => ⟨S_, .f32⟩
  | 58 => ⟨S20, .f32⟩
  | 59 => ⟨S20, .f32⟩
  | 60 => ⟨S_, .f32⟩
  | 61 => ⟨S_, .f32⟩
  | 62 => ⟨S16384, .f32⟩
  | 63 => ⟨S16384, .f32⟩
  | 64 => ⟨S16384x1, .f32⟩
  | 65 => ⟨S_, .f32⟩
  | 66 => ⟨S_, .f32⟩
  | 67 => ⟨S_, .f32⟩
  | 68 => ⟨S_, .f32⟩
  | 69 => ⟨S1x20, .f32⟩
  | 70 => ⟨S_, .f32⟩
  | 71 => ⟨S_, .f32⟩
  | 72 => ⟨S_, .f32⟩
  | 73 => ⟨S1x20, .f32⟩
  | 74 => ⟨S1x20, .f32⟩
  | 75 => ⟨S16384x20, .f32⟩
  | 76 => ⟨S16384x20, .f32⟩
  | 77 => ⟨S16384x20, .f32⟩
  | 78 => ⟨S_, .f32⟩
  | 79 => ⟨S16384x20, .f32⟩
  | 80 => ⟨S16384x20, .f32⟩
  | 81 => ⟨S16384x20, .f32⟩
  | 82 => ⟨S16384x20, .f32⟩
  | 83 => ⟨S16384x20, .f32⟩
  | 84 => ⟨S16384x20, .f32⟩
  | 85 => ⟨S16384x20, .f32⟩
  | 86 => ⟨S16384x20x1, .f32⟩
  | 87 => ⟨S16384x1x1, .f32⟩
  | 88 => ⟨S16384x20x1, .f32⟩
  | 89 => ⟨S16384x20x1, .f32⟩
  | 90 => ⟨S16384x20, .f32⟩
  | 91 => ⟨S16384x20x1, .f32⟩
  | 92 => ⟨S16384x1x3, .f32⟩
  | 93 => ⟨S16384x20x3, .f32⟩
  | 94 => ⟨S16384x20x3, .f32⟩
  | 95 => ⟨S16384x20x3, .f32⟩
  | 96 => ⟨S16384x60, .f32⟩
  | 97 => ⟨S16384x20x1, .f32⟩
  | 98 => ⟨S16384x1x5, .f32⟩
  | 99 => ⟨S16384x20x5, .f32⟩
  | 100 => ⟨S16384x20x5, .f32⟩
  | 101 => ⟨S16384x20x5, .f32⟩
  | 102 => ⟨S16384x100, .f32⟩
  | 103 => ⟨S16384x20x1, .f32⟩
  | 104 => ⟨S16384x1x7, .f32⟩
  | 105 => ⟨S16384x20x7, .f32⟩
  | 106 => ⟨S16384x20x7, .f32⟩
  | 107 => ⟨S16384x20x7, .f32⟩
  | 108 => ⟨S16384x140, .f32⟩
  | 109 => ⟨S16384x20x1, .f32⟩
  | 110 => ⟨S16384x1x9, .f32⟩
  | 111 => ⟨S16384x20x9, .f32⟩
  | 112 => ⟨S16384x20x9, .f32⟩
  | 113 => ⟨S16384x20x9, .f32⟩
  | 114 => ⟨S16384x180, .f32⟩
  | 115 => ⟨S16384x20x1, .f32⟩
  | 116 => ⟨S16384x1x11, .f32⟩
  | 117 => ⟨S16384x20x11, .f32⟩
  | 118 => ⟨S16384x20x11, .f32⟩
  | 119 => ⟨S16384x20x11, .f32⟩
  | 120 => ⟨S16384x220, .f32⟩
  | 121 => ⟨S16384x20x1, .f32⟩
  | 122 => ⟨S16384x1x13, .f32⟩
  | 123 => ⟨S16384x20x13, .f32⟩
  | 124 => ⟨S16384x20x13, .f32⟩
  | 125 => ⟨S16384x20x13, .f32⟩
  | 126 => ⟨S16384x260, .f32⟩
  | 127 => ⟨S16384x980, .f32⟩
  | _ => ⟨S16384x3, .f32⟩

abbrev hbmTy0_8 (i : Nat) : BufTy := match i % 128 with
  | 0 => ⟨S_, .i32⟩
  | 1 => ⟨S16384, .i32⟩
  | 2 => ⟨S16384, .i32⟩
  | 3 => ⟨S16384, .i32⟩
  | 4 => ⟨S_, .f32⟩
  | 5 => ⟨S64x980, .f32⟩
  | 6 => ⟨S16384x1, .i32⟩
  | 7 => ⟨S64x980, .f32⟩
  | 8 => ⟨S16x4x980, .f32⟩
  | 9 => ⟨S16x4x20, .f32⟩
  | 10 => ⟨S16x80, .f32⟩
  | 11 => ⟨S16x4x60, .f32⟩
  | 12 => ⟨S16x240, .f32⟩
  | 13 => ⟨S16x4x100, .f32⟩
  | 14 => ⟨S16x400, .f32⟩
  | 15 => ⟨S16x4x140, .f32⟩
  | 16 => ⟨S16x560, .f32⟩
  | 17 => ⟨S16x4x180, .f32⟩
  | 18 => ⟨S16x720, .f32⟩
  | 19 => ⟨S16x4x220, .f32⟩
  | 20 => ⟨S16x880, .f32⟩
  | 21 => ⟨S16x4x260, .f32⟩
  | 22 => ⟨S16x1040, .f32⟩
  | 23 => ⟨S16x3920, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_cst_18 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_19 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_20 : Ref sig .tc := ⟨.hbm, 99, rfl⟩
abbrev main_v68 : Ref sig .tc := ⟨.hbm, 100, rfl⟩
abbrev main_v69 : Ref sig .tc := ⟨.hbm, 101, rfl⟩
abbrev main_cst_21 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_22 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_23 : Ref sig .tc := ⟨.hbm, 110, rfl⟩
abbrev main_v76 : Ref sig .tc := ⟨.hbm, 111, rfl⟩
abbrev main_v77 : Ref sig .tc := ⟨.hbm, 112, rfl⟩
abbrev main_cst_24 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_25 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_26 : Ref sig .tc := ⟨.hbm, 121, rfl⟩
abbrev main_v84 : Ref sig .tc := ⟨.hbm, 122, rfl⟩
abbrev main_v85 : Ref sig .tc := ⟨.hbm, 123, rfl⟩
abbrev main_cst_27 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_28 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_29 : Ref sig .tc := ⟨.hbm, 132, rfl⟩
abbrev main_v92 : Ref sig .tc := ⟨.hbm, 133, rfl⟩
abbrev main_v93 : Ref sig .tc := ⟨.hbm, 134, rfl⟩
abbrev main_cst_30 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_31 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_32 : Ref sig .tc := ⟨.hbm, 143, rfl⟩
abbrev main_v100 : Ref sig .tc := ⟨.hbm, 144, rfl⟩
abbrev main_v101 : Ref sig .tc := ⟨.hbm, 145, rfl⟩
abbrev main_cst_33 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_34 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_35 : Ref sig .tc := ⟨.hbm, 154, rfl⟩
abbrev main_v108 : Ref sig .tc := ⟨.hbm, 155, rfl⟩
abbrev main_v109 : Ref sig .tc := ⟨.hbm, 156, rfl⟩
abbrev main_cst_36 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_37 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_38 : Ref sig .tc := ⟨.hbm, 165, rfl⟩
abbrev main_v116 : Ref sig .tc := ⟨.hbm, 166, rfl⟩
abbrev main_v117 : Ref sig .tc := ⟨.hbm, 167, rfl⟩
abbrev main_cst_39 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_40 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_41 : Ref sig .tc := ⟨.hbm, 176, rfl⟩
abbrev main_v124 : Ref sig .tc := ⟨.hbm, 177, rfl⟩
abbrev main_v125 : Ref sig .tc := ⟨.hbm, 178, rfl⟩
abbrev main_cst_42 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_43 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_44 : Ref sig .tc := ⟨.hbm, 187, rfl⟩
abbrev main_v132 : Ref sig .tc := ⟨.hbm, 188, rfl⟩
abbrev main_v133 : Ref sig .tc := ⟨.hbm, 189, rfl⟩
abbrev main_cst_45 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_46 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_cst_47 : Ref sig .tc := ⟨.hbm, 198, rfl⟩
abbrev main_v140 : Ref sig .tc := ⟨.hbm, 199, rfl⟩
abbrev main_v141 : Ref sig .tc := ⟨.hbm, 200, rfl⟩
abbrev main_cst_48 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_49 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_50 : Ref sig .tc := ⟨.hbm, 209, rfl⟩
abbrev main_v148 : Ref sig .tc := ⟨.hbm, 210, rfl⟩
abbrev main_v149 : Ref sig .tc := ⟨.hbm, 211, rfl⟩
abbrev main_cst_51 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_52 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_53 : Ref sig .tc := ⟨.hbm, 220, rfl⟩
abbrev main_v156 : Ref sig .tc := ⟨.hbm, 221, rfl⟩
abbrev main_v157 : Ref sig .tc := ⟨.hbm, 222, rfl⟩
abbrev main_cst_54 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_cst_55 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_cst_56 : Ref sig .tc := ⟨.hbm, 231, rfl⟩
abbrev main_v164 : Ref sig .tc := ⟨.hbm, 232, rfl⟩
abbrev main_v165 : Ref sig .tc := ⟨.hbm, 233, rfl⟩
abbrev main_cst_57 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_cst_58 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_cst_59 : Ref sig .tc := ⟨.hbm, 242, rfl⟩
abbrev main_v172 : Ref sig .tc := ⟨.hbm, 243, rfl⟩
abbrev main_v173 : Ref sig .tc := ⟨.hbm, 244, rfl⟩
abbrev main_cst_60 : Ref sig .tc := ⟨.hbm, 245, rfl⟩
abbrev main_cst_61 : Ref sig .tc := ⟨.hbm, 246, rfl⟩
abbrev main_v174 : Ref sig .tc := ⟨.hbm, 247, rfl⟩
abbrev main_cst_62 : Ref sig .tc := ⟨.hbm, 248, rfl⟩
abbrev main_v175 : Ref sig .tc := ⟨.hbm, 249, rfl⟩
abbrev main_cst_63 : Ref sig .tc := ⟨.hbm, 250, rfl⟩
abbrev main_v176 : Ref sig .tc := ⟨.hbm, 251, rfl⟩
abbrev main_v177 : Ref sig .tc := ⟨.hbm, 252, rfl⟩
abbrev main_cst_64 : Ref sig .tc := ⟨.hbm, 253, rfl⟩
abbrev main_v178 : Ref sig .tc := ⟨.hbm, 254, rfl⟩
abbrev main_cst_65 : Ref sig .tc := ⟨.hbm, 255, rfl⟩
abbrev main_v179 : Ref sig .tc := ⟨.hbm, 256, rfl⟩
abbrev main_cst_66 : Ref sig .tc := ⟨.hbm, 257, rfl⟩
abbrev main_v180 : Ref sig .tc := ⟨.hbm, 258, rfl⟩
abbrev main_v181 : Ref sig .tc := ⟨.hbm, 259, rfl⟩
abbrev main_cst_67 : Ref sig .tc := ⟨.hbm, 260, rfl⟩
abbrev main_v182 : Ref sig .tc := ⟨.hbm, 261, rfl⟩
abbrev main_cst_68 : Ref sig .tc := ⟨.hbm, 262, rfl⟩
abbrev main_v183 : Ref sig .tc := ⟨.hbm, 263, rfl⟩
abbrev main_cst_69 : Ref sig .tc := ⟨.hbm, 264, rfl⟩
abbrev main_v184 : Ref sig .tc := ⟨.hbm, 265, rfl⟩
abbrev main_v185 : Ref sig .tc := ⟨.hbm, 266, rfl⟩
abbrev main_cst_70 : Ref sig .tc := ⟨.hbm, 267, rfl⟩
abbrev main_v186 : Ref sig .tc := ⟨.hbm, 268, rfl⟩
abbrev main_cst_71 : Ref sig .tc := ⟨.hbm, 269, rfl⟩
abbrev main_v187 : Ref sig .tc := ⟨.hbm, 270, rfl⟩
abbrev main_cst_72 : Ref sig .tc := ⟨.hbm, 271, rfl⟩
abbrev main_v188 : Ref sig .tc := ⟨.hbm, 272, rfl⟩
abbrev main_v189 : Ref sig .tc := ⟨.hbm, 273, rfl⟩
abbrev main_cst_73 : Ref sig .tc := ⟨.hbm, 274, rfl⟩
abbrev main_v190 : Ref sig .tc := ⟨.hbm, 275, rfl⟩
abbrev main_cst_74 : Ref sig .tc := ⟨.hbm, 276, rfl⟩
abbrev main_v191 : Ref sig .tc := ⟨.hbm, 277, rfl⟩
abbrev main_cst_75 : Ref sig .tc := ⟨.hbm, 278, rfl⟩
abbrev main_v192 : Ref sig .tc := ⟨.hbm, 279, rfl⟩
abbrev main_v193 : Ref sig .tc := ⟨.hbm, 280, rfl⟩
abbrev main_cst_76 : Ref sig .tc := ⟨.hbm, 281, rfl⟩
abbrev main_v194 : Ref sig .tc := ⟨.hbm, 282, rfl⟩
abbrev main_cst_77 : Ref sig .tc := ⟨.hbm, 283, rfl⟩
abbrev main_v195 : Ref sig .tc := ⟨.hbm, 284, rfl⟩
abbrev main_cst_78 : Ref sig .tc := ⟨.hbm, 285, rfl⟩
abbrev main_v196 : Ref sig .tc := ⟨.hbm, 286, rfl⟩
abbrev main_v197 : Ref sig .tc := ⟨.hbm, 287, rfl⟩
abbrev main_cst_79 : Ref sig .tc := ⟨.hbm, 288, rfl⟩
abbrev main_v198 : Ref sig .tc := ⟨.hbm, 289, rfl⟩
abbrev main_cst_80 : Ref sig .tc := ⟨.hbm, 290, rfl⟩
abbrev main_v199 : Ref sig .tc := ⟨.hbm, 291, rfl⟩
abbrev main_cst_81 : Ref sig .tc := ⟨.hbm, 292, rfl⟩
abbrev main_v200 : Ref sig .tc := ⟨.hbm, 293, rfl⟩
abbrev main_v201 : Ref sig .tc := ⟨.hbm, 294, rfl⟩
abbrev main_cst_82 : Ref sig .tc := ⟨.hbm, 295, rfl⟩
abbrev main_v202 : Ref sig .tc := ⟨.hbm, 296, rfl⟩
abbrev main_cst_83 : Ref sig .tc := ⟨.hbm, 297, rfl⟩
abbrev main_v203 : Ref sig .tc := ⟨.hbm, 298, rfl⟩
abbrev main_cst_84 : Ref sig .tc := ⟨.hbm, 299, rfl⟩
abbrev main_v204 : Ref sig .tc := ⟨.hbm, 300, rfl⟩
abbrev main_v205 : Ref sig .tc := ⟨.hbm, 301, rfl⟩
abbrev main_cst_85 : Ref sig .tc := ⟨.hbm, 302, rfl⟩
abbrev main_v206 : Ref sig .tc := ⟨.hbm, 303, rfl⟩
abbrev main_cst_86 : Ref sig .tc := ⟨.hbm, 304, rfl⟩
abbrev main_v207 : Ref sig .tc := ⟨.hbm, 305, rfl⟩
abbrev main_cst_87 : Ref sig .tc := ⟨.hbm, 306, rfl⟩
abbrev main_v208 : Ref sig .tc := ⟨.hbm, 307, rfl⟩
abbrev main_v209 : Ref sig .tc := ⟨.hbm, 308, rfl⟩
abbrev main_cst_88 : Ref sig .tc := ⟨.hbm, 309, rfl⟩
abbrev main_v210 : Ref sig .tc := ⟨.hbm, 310, rfl⟩
abbrev main_cst_89 : Ref sig .tc := ⟨.hbm, 311, rfl⟩
abbrev main_v211 : Ref sig .tc := ⟨.hbm, 312, rfl⟩
abbrev main_cst_90 : Ref sig .tc := ⟨.hbm, 313, rfl⟩
abbrev main_v212 : Ref sig .tc := ⟨.hbm, 314, rfl⟩
abbrev main_v213 : Ref sig .tc := ⟨.hbm, 315, rfl⟩
abbrev main_cst_91 : Ref sig .tc := ⟨.hbm, 316, rfl⟩
abbrev main_v214 : Ref sig .tc := ⟨.hbm, 317, rfl⟩
abbrev main_cst_92 : Ref sig .tc := ⟨.hbm, 318, rfl⟩
abbrev main_v215 : Ref sig .tc := ⟨.hbm, 319, rfl⟩
abbrev main_cst_93 : Ref sig .tc := ⟨.hbm, 320, rfl⟩
abbrev main_v216 : Ref sig .tc := ⟨.hbm, 321, rfl⟩
abbrev main_v217 : Ref sig .tc := ⟨.hbm, 322, rfl⟩
abbrev main_cst_94 : Ref sig .tc := ⟨.hbm, 323, rfl⟩
abbrev main_v218 : Ref sig .tc := ⟨.hbm, 324, rfl⟩
abbrev main_cst_95 : Ref sig .tc := ⟨.hbm, 325, rfl⟩
abbrev main_v219 : Ref sig .tc := ⟨.hbm, 326, rfl⟩
abbrev main_cst_96 : Ref sig .tc := ⟨.hbm, 327, rfl⟩
abbrev main_v220 : Ref sig .tc := ⟨.hbm, 328, rfl⟩
abbrev main_v221 : Ref sig .tc := ⟨.hbm, 329, rfl⟩
abbrev main_cst_97 : Ref sig .tc := ⟨.hbm, 330, rfl⟩
abbrev main_v222 : Ref sig .tc := ⟨.hbm, 331, rfl⟩
abbrev main_cst_98 : Ref sig .tc := ⟨.hbm, 332, rfl⟩
abbrev main_v223 : Ref sig .tc := ⟨.hbm, 333, rfl⟩
abbrev main_cst_99 : Ref sig .tc := ⟨.hbm, 334, rfl⟩
abbrev main_v224 : Ref sig .tc := ⟨.hbm, 335, rfl⟩
abbrev main_v225 : Ref sig .tc := ⟨.hbm, 336, rfl⟩
abbrev main_cst_100 : Ref sig .tc := ⟨.hbm, 337, rfl⟩
abbrev main_v226 : Ref sig .tc := ⟨.hbm, 338, rfl⟩
abbrev main_cst_101 : Ref sig .tc := ⟨.hbm, 339, rfl⟩
abbrev main_v227 : Ref sig .tc := ⟨.hbm, 340, rfl⟩
abbrev main_cst_102 : Ref sig .tc := ⟨.hbm, 341, rfl⟩
abbrev main_v228 : Ref sig .tc := ⟨.hbm, 342, rfl⟩
abbrev main_v229 : Ref sig .tc := ⟨.hbm, 343, rfl⟩
abbrev main_cst_103 : Ref sig .tc := ⟨.hbm, 344, rfl⟩
abbrev main_v230 : Ref sig .tc := ⟨.hbm, 345, rfl⟩
abbrev main_cst_104 : Ref sig .tc := ⟨.hbm, 346, rfl⟩
abbrev main_v231 : Ref sig .tc := ⟨.hbm, 347, rfl⟩
abbrev main_cst_105 : Ref sig .tc := ⟨.hbm, 348, rfl⟩
abbrev main_v232 : Ref sig .tc := ⟨.hbm, 349, rfl⟩
abbrev main_v233 : Ref sig .tc := ⟨.hbm, 350, rfl⟩
abbrev main_cst_106 : Ref sig .tc := ⟨.hbm, 351, rfl⟩
abbrev main_v234 : Ref sig .tc := ⟨.hbm, 352, rfl⟩
abbrev main_cst_107 : Ref sig .tc := ⟨.hbm, 353, rfl⟩
abbrev main_v235 : Ref sig .tc := ⟨.hbm, 354, rfl⟩
abbrev main_cst_108 : Ref sig .tc := ⟨.hbm, 355, rfl⟩
abbrev main_v236 : Ref sig .tc := ⟨.hbm, 356, rfl⟩
abbrev main_v237 : Ref sig .tc := ⟨.hbm, 357, rfl⟩
abbrev main_cst_109 : Ref sig .tc := ⟨.hbm, 358, rfl⟩
abbrev main_v238 : Ref sig .tc := ⟨.hbm, 359, rfl⟩
abbrev main_cst_110 : Ref sig .tc := ⟨.hbm, 360, rfl⟩
abbrev main_v239 : Ref sig .tc := ⟨.hbm, 361, rfl⟩
abbrev main_cst_111 : Ref sig .tc := ⟨.hbm, 362, rfl⟩
abbrev main_v240 : Ref sig .tc := ⟨.hbm, 363, rfl⟩
abbrev main_v241 : Ref sig .tc := ⟨.hbm, 364, rfl⟩
abbrev main_cst_112 : Ref sig .tc := ⟨.hbm, 365, rfl⟩
abbrev main_v242 : Ref sig .tc := ⟨.hbm, 366, rfl⟩
abbrev main_cst_113 : Ref sig .tc := ⟨.hbm, 367, rfl⟩
abbrev main_v243 : Ref sig .tc := ⟨.hbm, 368, rfl⟩
abbrev main_cst_114 : Ref sig .tc := ⟨.hbm, 369, rfl⟩
abbrev main_v244 : Ref sig .tc := ⟨.hbm, 370, rfl⟩
abbrev main_v245 : Ref sig .tc := ⟨.hbm, 371, rfl⟩
abbrev main_cst_115 : Ref sig .tc := ⟨.hbm, 372, rfl⟩
abbrev main_v246 : Ref sig .tc := ⟨.hbm, 373, rfl⟩
abbrev main_cst_116 : Ref sig .tc := ⟨.hbm, 374, rfl⟩
abbrev main_v247 : Ref sig .tc := ⟨.hbm, 375, rfl⟩
abbrev main_cst_117 : Ref sig .tc := ⟨.hbm, 376, rfl⟩
abbrev main_v248 : Ref sig .tc := ⟨.hbm, 377, rfl⟩
abbrev main_v249 : Ref sig .tc := ⟨.hbm, 378, rfl⟩
abbrev main_cst_118 : Ref sig .tc := ⟨.hbm, 379, rfl⟩
abbrev main_v250 : Ref sig .tc := ⟨.hbm, 380, rfl⟩
abbrev main_cst_119 : Ref sig .tc := ⟨.hbm, 381, rfl⟩
abbrev main_v251 : Ref sig .tc := ⟨.hbm, 382, rfl⟩
abbrev main_cst_120 : Ref sig .tc := ⟨.hbm, 383, rfl⟩
abbrev main_v252 : Ref sig .tc := ⟨.hbm, 384, rfl⟩
abbrev main_v253 : Ref sig .tc := ⟨.hbm, 385, rfl⟩
abbrev main_cst_121 : Ref sig .tc := ⟨.hbm, 386, rfl⟩
abbrev main_v254 : Ref sig .tc := ⟨.hbm, 387, rfl⟩
abbrev main_cst_122 : Ref sig .tc := ⟨.hbm, 388, rfl⟩
abbrev main_v255 : Ref sig .tc := ⟨.hbm, 389, rfl⟩
abbrev main_cst_123 : Ref sig .tc := ⟨.hbm, 390, rfl⟩
abbrev main_v256 : Ref sig .tc := ⟨.hbm, 391, rfl⟩
abbrev main_v257 : Ref sig .tc := ⟨.hbm, 392, rfl⟩
abbrev main_cst_124 : Ref sig .tc := ⟨.hbm, 393, rfl⟩
abbrev main_v258 : Ref sig .tc := ⟨.hbm, 394, rfl⟩
abbrev main_cst_125 : Ref sig .tc := ⟨.hbm, 395, rfl⟩
abbrev main_v259 : Ref sig .tc := ⟨.hbm, 396, rfl⟩
abbrev main_cst_126 : Ref sig .tc := ⟨.hbm, 397, rfl⟩
abbrev main_v260 : Ref sig .tc := ⟨.hbm, 398, rfl⟩
abbrev main_v261 : Ref sig .tc := ⟨.hbm, 399, rfl⟩
abbrev main_cst_127 : Ref sig .tc := ⟨.hbm, 400, rfl⟩
abbrev main_v262 : Ref sig .tc := ⟨.hbm, 401, rfl⟩
abbrev main_cst_128 : Ref sig .tc := ⟨.hbm, 402, rfl⟩
abbrev main_v263 : Ref sig .tc := ⟨.hbm, 403, rfl⟩
abbrev main_cst_129 : Ref sig .tc := ⟨.hbm, 404, rfl⟩
abbrev main_v264 : Ref sig .tc := ⟨.hbm, 405, rfl⟩
abbrev main_v265 : Ref sig .tc := ⟨.hbm, 406, rfl⟩
abbrev main_cst_130 : Ref sig .tc := ⟨.hbm, 407, rfl⟩
abbrev main_v266 : Ref sig .tc := ⟨.hbm, 408, rfl⟩
abbrev main_cst_131 : Ref sig .tc := ⟨.hbm, 409, rfl⟩
abbrev main_v267 : Ref sig .tc := ⟨.hbm, 410, rfl⟩
abbrev main_cst_132 : Ref sig .tc := ⟨.hbm, 411, rfl⟩
abbrev main_v268 : Ref sig .tc := ⟨.hbm, 412, rfl⟩
abbrev main_v269 : Ref sig .tc := ⟨.hbm, 413, rfl⟩
abbrev main_cst_133 : Ref sig .tc := ⟨.hbm, 414, rfl⟩
abbrev main_v270 : Ref sig .tc := ⟨.hbm, 415, rfl⟩
abbrev main_cst_134 : Ref sig .tc := ⟨.hbm, 416, rfl⟩
abbrev main_v271 : Ref sig .tc := ⟨.hbm, 417, rfl⟩
abbrev main_cst_135 : Ref sig .tc := ⟨.hbm, 418, rfl⟩
abbrev main_v272 : Ref sig .tc := ⟨.hbm, 419, rfl⟩
abbrev main_v273 : Ref sig .tc := ⟨.hbm, 420, rfl⟩
abbrev main_cst_136 : Ref sig .tc := ⟨.hbm, 421, rfl⟩
abbrev main_v274 : Ref sig .tc := ⟨.hbm, 422, rfl⟩
abbrev main_cst_137 : Ref sig .tc := ⟨.hbm, 423, rfl⟩
abbrev main_v275 : Ref sig .tc := ⟨.hbm, 424, rfl⟩
abbrev main_cst_138 : Ref sig .tc := ⟨.hbm, 425, rfl⟩
abbrev main_v276 : Ref sig .tc := ⟨.hbm, 426, rfl⟩
abbrev main_v277 : Ref sig .tc := ⟨.hbm, 427, rfl⟩
abbrev main_cst_139 : Ref sig .tc := ⟨.hbm, 428, rfl⟩
abbrev main_v278 : Ref sig .tc := ⟨.hbm, 429, rfl⟩
abbrev main_cst_140 : Ref sig .tc := ⟨.hbm, 430, rfl⟩
abbrev main_v279 : Ref sig .tc := ⟨.hbm, 431, rfl⟩
abbrev main_cst_141 : Ref sig .tc := ⟨.hbm, 432, rfl⟩
abbrev main_v280 : Ref sig .tc := ⟨.hbm, 433, rfl⟩
abbrev main_v281 : Ref sig .tc := ⟨.hbm, 434, rfl⟩
abbrev main_cst_142 : Ref sig .tc := ⟨.hbm, 435, rfl⟩
abbrev main_v282 : Ref sig .tc := ⟨.hbm, 436, rfl⟩
abbrev main_cst_143 : Ref sig .tc := ⟨.hbm, 437, rfl⟩
abbrev main_v283 : Ref sig .tc := ⟨.hbm, 438, rfl⟩
abbrev main_cst_144 : Ref sig .tc := ⟨.hbm, 439, rfl⟩
abbrev main_v284 : Ref sig .tc := ⟨.hbm, 440, rfl⟩
abbrev main_v285 : Ref sig .tc := ⟨.hbm, 441, rfl⟩
abbrev main_cst_145 : Ref sig .tc := ⟨.hbm, 442, rfl⟩
abbrev main_v286 : Ref sig .tc := ⟨.hbm, 443, rfl⟩
abbrev main_cst_146 : Ref sig .tc := ⟨.hbm, 444, rfl⟩
abbrev main_v287 : Ref sig .tc := ⟨.hbm, 445, rfl⟩
abbrev main_cst_147 : Ref sig .tc := ⟨.hbm, 446, rfl⟩
abbrev main_v288 : Ref sig .tc := ⟨.hbm, 447, rfl⟩
abbrev main_v289 : Ref sig .tc := ⟨.hbm, 448, rfl⟩
abbrev main_v290 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_v297 : Ref sig .tc := ⟨.hbm, 456, rfl⟩
abbrev main_cst_148 : Ref sig .tc := ⟨.hbm, 457, rfl⟩
abbrev main_v298 : Ref sig .tc := ⟨.hbm, 458, rfl⟩
abbrev main_v299 : Ref sig .tc := ⟨.hbm, 459, rfl⟩
abbrev main_v300 : Ref sig .tc := ⟨.hbm, 460, rfl⟩
abbrev main_v301 : Ref sig .tc := ⟨.hbm, 461, rfl⟩
abbrev main_v302 : Ref sig .tc := ⟨.hbm, 462, rfl⟩
abbrev main_v303 : Ref sig .tc := ⟨.hbm, 463, rfl⟩
abbrev main_v304 : Ref sig .tc := ⟨.hbm, 464, rfl⟩
abbrev main_v305 : Ref sig .tc := ⟨.hbm, 465, rfl⟩
abbrev main_v306 : Ref sig .tc := ⟨.hbm, 466, rfl⟩
abbrev main_v307 : Ref sig .tc := ⟨.hbm, 467, rfl⟩
abbrev main_v308 : Ref sig .tc := ⟨.hbm, 468, rfl⟩
abbrev main_v309 : Ref sig .tc := ⟨.hbm, 469, rfl⟩
abbrev main_v310 : Ref sig .tc := ⟨.hbm, 470, rfl⟩
abbrev main_cst_149 : Ref sig .tc := ⟨.hbm, 471, rfl⟩
abbrev main_v311 : Ref sig .tc := ⟨.hbm, 472, rfl⟩
abbrev main_v312 : Ref sig .tc := ⟨.hbm, 473, rfl⟩
abbrev main_v313 : Ref sig .tc := ⟨.hbm, 474, rfl⟩
abbrev main_v314 : Ref sig .tc := ⟨.hbm, 475, rfl⟩
abbrev main_v315 : Ref sig .tc := ⟨.hbm, 476, rfl⟩
abbrev main_v316 : Ref sig .tc := ⟨.hbm, 477, rfl⟩
abbrev main_v317 : Ref sig .tc := ⟨.hbm, 478, rfl⟩
abbrev main_v318 : Ref sig .tc := ⟨.hbm, 479, rfl⟩
abbrev main_v319 : Ref sig .tc := ⟨.hbm, 480, rfl⟩
abbrev main_v320 : Ref sig .tc := ⟨.hbm, 481, rfl⟩
abbrev main_v321 : Ref sig .tc := ⟨.hbm, 482, rfl⟩
abbrev main_v322 : Ref sig .tc := ⟨.hbm, 483, rfl⟩
abbrev main_v323 : Ref sig .tc := ⟨.hbm, 484, rfl⟩
abbrev main_cst_150 : Ref sig .tc := ⟨.hbm, 485, rfl⟩
abbrev main_v324 : Ref sig .tc := ⟨.hbm, 486, rfl⟩
abbrev main_v325 : Ref sig .tc := ⟨.hbm, 487, rfl⟩
abbrev main_v326 : Ref sig .tc := ⟨.hbm, 488, rfl⟩
abbrev main_v327 : Ref sig .tc := ⟨.hbm, 489, rfl⟩
abbrev main_v328 : Ref sig .tc := ⟨.hbm, 490, rfl⟩
abbrev main_v329 : Ref sig .tc := ⟨.hbm, 491, rfl⟩
abbrev main_v330 : Ref sig .tc := ⟨.hbm, 492, rfl⟩
abbrev main_v331 : Ref sig .tc := ⟨.hbm, 493, rfl⟩
abbrev main_v332 : Ref sig .tc := ⟨.hbm, 494, rfl⟩
abbrev main_cst_151 : Ref sig .tc := ⟨.hbm, 495, rfl⟩
abbrev main_v333 : Ref sig .tc := ⟨.hbm, 496, rfl⟩
abbrev main_v334 : Ref sig .tc := ⟨.hbm, 497, rfl⟩
abbrev main_v335 : Ref sig .tc := ⟨.hbm, 498, rfl⟩
abbrev main_v336 : Ref sig .tc := ⟨.hbm, 499, rfl⟩
abbrev main_v337 : Ref sig .tc := ⟨.hbm, 500, rfl⟩
abbrev main_v338 : Ref sig .tc := ⟨.hbm, 501, rfl⟩
abbrev main_v339 : Ref sig .tc := ⟨.hbm, 502, rfl⟩
abbrev main_v340 : Ref sig .tc := ⟨.hbm, 503, rfl⟩
abbrev main_v341 : Ref sig .tc := ⟨.hbm, 504, rfl⟩
abbrev main_v342 : Ref sig .tc := ⟨.hbm, 505, rfl⟩
abbrev main_v343 : Ref sig .tc := ⟨.hbm, 506, rfl⟩
abbrev main_v344 : Ref sig .tc := ⟨.hbm, 507, rfl⟩
abbrev main_v345 : Ref sig .tc := ⟨.hbm, 508, rfl⟩
abbrev main_cst_152 : Ref sig .tc := ⟨.hbm, 509, rfl⟩
abbrev main_v346 : Ref sig .tc := ⟨.hbm, 510, rfl⟩
abbrev main_v347 : Ref sig .tc := ⟨.hbm, 511, rfl⟩
abbrev main_v348 : Ref sig .tc := ⟨.hbm, 512, rfl⟩
abbrev main_v349 : Ref sig .tc := ⟨.hbm, 513, rfl⟩
abbrev main_v350 : Ref sig .tc := ⟨.hbm, 514, rfl⟩
abbrev main_v351 : Ref sig .tc := ⟨.hbm, 515, rfl⟩
abbrev main_v352 : Ref sig .tc := ⟨.hbm, 516, rfl⟩
abbrev main_v353 : Ref sig .tc := ⟨.hbm, 517, rfl⟩
abbrev main_v354 : Ref sig .tc := ⟨.hbm, 518, rfl⟩
abbrev main_cst_153 : Ref sig .tc := ⟨.hbm, 519, rfl⟩
abbrev main_v355 : Ref sig .tc := ⟨.hbm, 520, rfl⟩
abbrev main_v356 : Ref sig .tc := ⟨.hbm, 521, rfl⟩
abbrev main_v357 : Ref sig .tc := ⟨.hbm, 522, rfl⟩
abbrev main_v358 : Ref sig .tc := ⟨.hbm, 523, rfl⟩
abbrev main_v359 : Ref sig .tc := ⟨.hbm, 524, rfl⟩
abbrev main_v360 : Ref sig .tc := ⟨.hbm, 525, rfl⟩
abbrev main_v361 : Ref sig .tc := ⟨.hbm, 526, rfl⟩
abbrev main_v362 : Ref sig .tc := ⟨.hbm, 527, rfl⟩
abbrev main_v363 : Ref sig .tc := ⟨.hbm, 528, rfl⟩
abbrev main_v364 : Ref sig .tc := ⟨.hbm, 529, rfl⟩
abbrev main_v365 : Ref sig .tc := ⟨.hbm, 530, rfl⟩
abbrev main_v366 : Ref sig .tc := ⟨.hbm, 531, rfl⟩
abbrev main_v367 : Ref sig .tc := ⟨.hbm, 532, rfl⟩
abbrev main_v368 : Ref sig .tc := ⟨.hbm, 533, rfl⟩
abbrev main_v369 : Ref sig .tc := ⟨.hbm, 534, rfl⟩
abbrev main_cst_154 : Ref sig .tc := ⟨.hbm, 535, rfl⟩
abbrev main_v370 : Ref sig .tc := ⟨.hbm, 536, rfl⟩
abbrev main_v371 : Ref sig .tc := ⟨.hbm, 537, rfl⟩
abbrev main_v372 : Ref sig .tc := ⟨.hbm, 538, rfl⟩
abbrev main_v373 : Ref sig .tc := ⟨.hbm, 539, rfl⟩
abbrev main_v374 : Ref sig .tc := ⟨.hbm, 540, rfl⟩
abbrev main_v375 : Ref sig .tc := ⟨.hbm, 541, rfl⟩
abbrev main_v376 : Ref sig .tc := ⟨.hbm, 542, rfl⟩
abbrev main_v377 : Ref sig .tc := ⟨.hbm, 543, rfl⟩
abbrev main_v378 : Ref sig .tc := ⟨.hbm, 544, rfl⟩
abbrev main_cst_155 : Ref sig .tc := ⟨.hbm, 545, rfl⟩
abbrev main_v379 : Ref sig .tc := ⟨.hbm, 546, rfl⟩
abbrev main_v380 : Ref sig .tc := ⟨.hbm, 547, rfl⟩
abbrev main_v381 : Ref sig .tc := ⟨.hbm, 548, rfl⟩
abbrev main_v382 : Ref sig .tc := ⟨.hbm, 549, rfl⟩
abbrev main_v383 : Ref sig .tc := ⟨.hbm, 550, rfl⟩
abbrev main_v384 : Ref sig .tc := ⟨.hbm, 551, rfl⟩
abbrev main_v385 : Ref sig .tc := ⟨.hbm, 552, rfl⟩
abbrev main_v386 : Ref sig .tc := ⟨.hbm, 553, rfl⟩
abbrev main_v387 : Ref sig .tc := ⟨.hbm, 554, rfl⟩
abbrev main_cst_156 : Ref sig .tc := ⟨.hbm, 555, rfl⟩
abbrev main_v388 : Ref sig .tc := ⟨.hbm, 556, rfl⟩
abbrev main_v389 : Ref sig .tc := ⟨.hbm, 557, rfl⟩
abbrev main_v390 : Ref sig .tc := ⟨.hbm, 558, rfl⟩
abbrev main_v391 : Ref sig .tc := ⟨.hbm, 559, rfl⟩
abbrev main_v392 : Ref sig .tc := ⟨.hbm, 560, rfl⟩
abbrev main_v393 : Ref sig .tc := ⟨.hbm, 561, rfl⟩
abbrev main_v394 : Ref sig .tc := ⟨.hbm, 562, rfl⟩
abbrev main_v395 : Ref sig .tc := ⟨.hbm, 563, rfl⟩
abbrev main_v396 : Ref sig .tc := ⟨.hbm, 564, rfl⟩
abbrev main_v397 : Ref sig .tc := ⟨.hbm, 565, rfl⟩
abbrev main_v398 : Ref sig .tc := ⟨.hbm, 566, rfl⟩
abbrev main_v399 : Ref sig .tc := ⟨.hbm, 567, rfl⟩
abbrev main_v400 : Ref sig .tc := ⟨.hbm, 568, rfl⟩
abbrev main_cst_157 : Ref sig .tc := ⟨.hbm, 569, rfl⟩
abbrev main_v401 : Ref sig .tc := ⟨.hbm, 570, rfl⟩
abbrev main_v402 : Ref sig .tc := ⟨.hbm, 571, rfl⟩
abbrev main_v403 : Ref sig .tc := ⟨.hbm, 572, rfl⟩
abbrev main_v404 : Ref sig .tc := ⟨.hbm, 573, rfl⟩
abbrev main_v405 : Ref sig .tc := ⟨.hbm, 574, rfl⟩
abbrev main_v406 : Ref sig .tc := ⟨.hbm, 575, rfl⟩
abbrev main_v407 : Ref sig .tc := ⟨.hbm, 576, rfl⟩
abbrev main_v408 : Ref sig .tc := ⟨.hbm, 577, rfl⟩
abbrev main_v409 : Ref sig .tc := ⟨.hbm, 578, rfl⟩
abbrev main_cst_158 : Ref sig .tc := ⟨.hbm, 579, rfl⟩
abbrev main_v410 : Ref sig .tc := ⟨.hbm, 580, rfl⟩
abbrev main_v411 : Ref sig .tc := ⟨.hbm, 581, rfl⟩
abbrev main_v412 : Ref sig .tc := ⟨.hbm, 582, rfl⟩
abbrev main_v413 : Ref sig .tc := ⟨.hbm, 583, rfl⟩
abbrev main_v414 : Ref sig .tc := ⟨.hbm, 584, rfl⟩
abbrev main_v415 : Ref sig .tc := ⟨.hbm, 585, rfl⟩
abbrev main_v416 : Ref sig .tc := ⟨.hbm, 586, rfl⟩
abbrev main_v417 : Ref sig .tc := ⟨.hbm, 587, rfl⟩
abbrev main_v418 : Ref sig .tc := ⟨.hbm, 588, rfl⟩
abbrev main_cst_159 : Ref sig .tc := ⟨.hbm, 589, rfl⟩
abbrev main_v419 : Ref sig .tc := ⟨.hbm, 590, rfl⟩
abbrev main_v420 : Ref sig .tc := ⟨.hbm, 591, rfl⟩
abbrev main_v421 : Ref sig .tc := ⟨.hbm, 592, rfl⟩
abbrev main_v422 : Ref sig .tc := ⟨.hbm, 593, rfl⟩
abbrev main_v423 : Ref sig .tc := ⟨.hbm, 594, rfl⟩
abbrev main_v424 : Ref sig .tc := ⟨.hbm, 595, rfl⟩
abbrev main_v425 : Ref sig .tc := ⟨.hbm, 596, rfl⟩
abbrev main_v426 : Ref sig .tc := ⟨.hbm, 597, rfl⟩
abbrev main_v427 : Ref sig .tc := ⟨.hbm, 598, rfl⟩
abbrev main_v428 : Ref sig .tc := ⟨.hbm, 599, rfl⟩
abbrev main_v429 : Ref sig .tc := ⟨.hbm, 600, rfl⟩
abbrev main_v430 : Ref sig .tc := ⟨.hbm, 601, rfl⟩
abbrev main_v431 : Ref sig .tc := ⟨.hbm, 602, rfl⟩
abbrev main_v432 : Ref sig .tc := ⟨.hbm, 603, rfl⟩
abbrev main_v433 : Ref sig .tc := ⟨.hbm, 604, rfl⟩
abbrev main_v434 : Ref sig .tc := ⟨.hbm, 605, rfl⟩
abbrev main_v435 : Ref sig .tc := ⟨.hbm, 606, rfl⟩
abbrev main_cst_160 : Ref sig .tc := ⟨.hbm, 607, rfl⟩
abbrev main_v436 : Ref sig .tc := ⟨.hbm, 608, rfl⟩
abbrev main_v437 : Ref sig .tc := ⟨.hbm, 609, rfl⟩
abbrev main_v438 : Ref sig .tc := ⟨.hbm, 610, rfl⟩
abbrev main_v439 : Ref sig .tc := ⟨.hbm, 611, rfl⟩
abbrev main_v440 : Ref sig .tc := ⟨.hbm, 612, rfl⟩
abbrev main_v441 : Ref sig .tc := ⟨.hbm, 613, rfl⟩
abbrev main_v442 : Ref sig .tc := ⟨.hbm, 614, rfl⟩
abbrev main_v443 : Ref sig .tc := ⟨.hbm, 615, rfl⟩
abbrev main_v444 : Ref sig .tc := ⟨.hbm, 616, rfl⟩
abbrev main_cst_161 : Ref sig .tc := ⟨.hbm, 617, rfl⟩
abbrev main_v445 : Ref sig .tc := ⟨.hbm, 618, rfl⟩
abbrev main_v446 : Ref sig .tc := ⟨.hbm, 619, rfl⟩
abbrev main_v447 : Ref sig .tc := ⟨.hbm, 620, rfl⟩
abbrev main_v448 : Ref sig .tc := ⟨.hbm, 621, rfl⟩
abbrev main_v449 : Ref sig .tc := ⟨.hbm, 622, rfl⟩
abbrev main_v450 : Ref sig .tc := ⟨.hbm, 623, rfl⟩
abbrev main_v451 : Ref sig .tc := ⟨.hbm, 624, rfl⟩
abbrev main_v452 : Ref sig .tc := ⟨.hbm, 625, rfl⟩
abbrev main_v453 : Ref sig .tc := ⟨.hbm, 626, rfl⟩
abbrev main_cst_162 : Ref sig .tc := ⟨.hbm, 627, rfl⟩
abbrev main_v454 : Ref sig .tc := ⟨.hbm, 628, rfl⟩
abbrev main_v455 : Ref sig .tc := ⟨.hbm, 629, rfl⟩
abbrev main_v456 : Ref sig .tc := ⟨.hbm, 630, rfl⟩
abbrev main_v457 : Ref sig .tc := ⟨.hbm, 631, rfl⟩
abbrev main_v458 : Ref sig .tc := ⟨.hbm, 632, rfl⟩
abbrev main_v459 : Ref sig .tc := ⟨.hbm, 633, rfl⟩
abbrev main_v460 : Ref sig .tc := ⟨.hbm, 634, rfl⟩
abbrev main_v461 : Ref sig .tc := ⟨.hbm, 635, rfl⟩
abbrev main_v462 : Ref sig .tc := ⟨.hbm, 636, rfl⟩
abbrev main_cst_163 : Ref sig .tc := ⟨.hbm, 637, rfl⟩
abbrev main_v463 : Ref sig .tc := ⟨.hbm, 638, rfl⟩
abbrev main_v464 : Ref sig .tc := ⟨.hbm, 639, rfl⟩
abbrev main_v465 : Ref sig .tc := ⟨.hbm, 640, rfl⟩
abbrev main_v466 : Ref sig .tc := ⟨.hbm, 641, rfl⟩
abbrev main_v467 : Ref sig .tc := ⟨.hbm, 642, rfl⟩
abbrev main_v468 : Ref sig .tc := ⟨.hbm, 643, rfl⟩
abbrev main_v469 : Ref sig .tc := ⟨.hbm, 644, rfl⟩
abbrev main_v470 : Ref sig .tc := ⟨.hbm, 645, rfl⟩
abbrev main_v471 : Ref sig .tc := ⟨.hbm, 646, rfl⟩
abbrev main_v472 : Ref sig .tc := ⟨.hbm, 647, rfl⟩
abbrev main_v473 : Ref sig .tc := ⟨.hbm, 648, rfl⟩
abbrev main_v474 : Ref sig .tc := ⟨.hbm, 649, rfl⟩
abbrev main_v475 : Ref sig .tc := ⟨.hbm, 650, rfl⟩
abbrev main_cst_164 : Ref sig .tc := ⟨.hbm, 651, rfl⟩
abbrev main_v476 : Ref sig .tc := ⟨.hbm, 652, rfl⟩
abbrev main_v477 : Ref sig .tc := ⟨.hbm, 653, rfl⟩
abbrev main_v478 : Ref sig .tc := ⟨.hbm, 654, rfl⟩
abbrev main_v479 : Ref sig .tc := ⟨.hbm, 655, rfl⟩
abbrev main_v480 : Ref sig .tc := ⟨.hbm, 656, rfl⟩
abbrev main_v481 : Ref sig .tc := ⟨.hbm, 657, rfl⟩
abbrev main_v482 : Ref sig .tc := ⟨.hbm, 658, rfl⟩
abbrev main_v483 : Ref sig .tc := ⟨.hbm, 659, rfl⟩
abbrev main_v484 : Ref sig .tc := ⟨.hbm, 660, rfl⟩
abbrev main_cst_165 : Ref sig .tc := ⟨.hbm, 661, rfl⟩
abbrev main_v485 : Ref sig .tc := ⟨.hbm, 662, rfl⟩
abbrev main_v486 : Ref sig .tc := ⟨.hbm, 663, rfl⟩
abbrev main_v487 : Ref sig .tc := ⟨.hbm, 664, rfl⟩
abbrev main_v488 : Ref sig .tc := ⟨.hbm, 665, rfl⟩
abbrev main_v489 : Ref sig .tc := ⟨.hbm, 666, rfl⟩
abbrev main_v490 : Ref sig .tc := ⟨.hbm, 667, rfl⟩
abbrev main_v491 : Ref sig .tc := ⟨.hbm, 668, rfl⟩
abbrev main_v492 : Ref sig .tc := ⟨.hbm, 669, rfl⟩
abbrev main_v493 : Ref sig .tc := ⟨.hbm, 670, rfl⟩
abbrev main_cst_166 : Ref sig .tc := ⟨.hbm, 671, rfl⟩
abbrev main_v494 : Ref sig .tc := ⟨.hbm, 672, rfl⟩
abbrev main_v495 : Ref sig .tc := ⟨.hbm, 673, rfl⟩
abbrev main_v496 : Ref sig .tc := ⟨.hbm, 674, rfl⟩
abbrev main_v497 : Ref sig .tc := ⟨.hbm, 675, rfl⟩
abbrev main_v498 : Ref sig .tc := ⟨.hbm, 676, rfl⟩
abbrev main_v499 : Ref sig .tc := ⟨.hbm, 677, rfl⟩
abbrev main_v500 : Ref sig .tc := ⟨.hbm, 678, rfl⟩
abbrev main_v501 : Ref sig .tc := ⟨.hbm, 679, rfl⟩
abbrev main_v502 : Ref sig .tc := ⟨.hbm, 680, rfl⟩
abbrev main_cst_167 : Ref sig .tc := ⟨.hbm, 681, rfl⟩
abbrev main_v503 : Ref sig .tc := ⟨.hbm, 682, rfl⟩
abbrev main_v504 : Ref sig .tc := ⟨.hbm, 683, rfl⟩
abbrev main_v505 : Ref sig .tc := ⟨.hbm, 684, rfl⟩
abbrev main_v506 : Ref sig .tc := ⟨.hbm, 685, rfl⟩
abbrev main_v507 : Ref sig .tc := ⟨.hbm, 686, rfl⟩
abbrev main_v508 : Ref sig .tc := ⟨.hbm, 687, rfl⟩
abbrev main_v509 : Ref sig .tc := ⟨.hbm, 688, rfl⟩
abbrev main_v510 : Ref sig .tc := ⟨.hbm, 689, rfl⟩
abbrev main_v511 : Ref sig .tc := ⟨.hbm, 690, rfl⟩
abbrev main_v512 : Ref sig .tc := ⟨.hbm, 691, rfl⟩
abbrev main_v513 : Ref sig .tc := ⟨.hbm, 692, rfl⟩
abbrev main_v514 : Ref sig .tc := ⟨.hbm, 693, rfl⟩
abbrev main_v515 : Ref sig .tc := ⟨.hbm, 694, rfl⟩
abbrev main_v516 : Ref sig .tc := ⟨.hbm, 695, rfl⟩
abbrev main_v517 : Ref sig .tc := ⟨.hbm, 696, rfl⟩
abbrev main_v518 : Ref sig .tc := ⟨.hbm, 697, rfl⟩
abbrev main_v519 : Ref sig .tc := ⟨.hbm, 698, rfl⟩
abbrev main_v520 : Ref sig .tc := ⟨.hbm, 699, rfl⟩
abbrev main_v521 : Ref sig .tc := ⟨.hbm, 700, rfl⟩
abbrev main_cst_168 : Ref sig .tc := ⟨.hbm, 701, rfl⟩
abbrev main_v522 : Ref sig .tc := ⟨.hbm, 702, rfl⟩
abbrev main_v523 : Ref sig .tc := ⟨.hbm, 703, rfl⟩
abbrev main_v524 : Ref sig .tc := ⟨.hbm, 704, rfl⟩
abbrev main_v525 : Ref sig .tc := ⟨.hbm, 705, rfl⟩
abbrev main_v526 : Ref sig .tc := ⟨.hbm, 706, rfl⟩
abbrev main_v527 : Ref sig .tc := ⟨.hbm, 707, rfl⟩
abbrev main_v528 : Ref sig .tc := ⟨.hbm, 708, rfl⟩
abbrev main_v529 : Ref sig .tc := ⟨.hbm, 709, rfl⟩
abbrev main_v530 : Ref sig .tc := ⟨.hbm, 710, rfl⟩
abbrev main_cst_169 : Ref sig .tc := ⟨.hbm, 711, rfl⟩
abbrev main_v531 : Ref sig .tc := ⟨.hbm, 712, rfl⟩
abbrev main_v532 : Ref sig .tc := ⟨.hbm, 713, rfl⟩
abbrev main_v533 : Ref sig .tc := ⟨.hbm, 714, rfl⟩
abbrev main_v534 : Ref sig .tc := ⟨.hbm, 715, rfl⟩
abbrev main_v535 : Ref sig .tc := ⟨.hbm, 716, rfl⟩
abbrev main_v536 : Ref sig .tc := ⟨.hbm, 717, rfl⟩
abbrev main_v537 : Ref sig .tc := ⟨.hbm, 718, rfl⟩
abbrev main_v538 : Ref sig .tc := ⟨.hbm, 719, rfl⟩
abbrev main_v539 : Ref sig .tc := ⟨.hbm, 720, rfl⟩
abbrev main_cst_170 : Ref sig .tc := ⟨.hbm, 721, rfl⟩
abbrev main_v540 : Ref sig .tc := ⟨.hbm, 722, rfl⟩
abbrev main_v541 : Ref sig .tc := ⟨.hbm, 723, rfl⟩
abbrev main_v542 : Ref sig .tc := ⟨.hbm, 724, rfl⟩
abbrev main_v543 : Ref sig .tc := ⟨.hbm, 725, rfl⟩
abbrev main_v544 : Ref sig .tc := ⟨.hbm, 726, rfl⟩
abbrev main_v545 : Ref sig .tc := ⟨.hbm, 727, rfl⟩
abbrev main_v546 : Ref sig .tc := ⟨.hbm, 728, rfl⟩
abbrev main_v547 : Ref sig .tc := ⟨.hbm, 729, rfl⟩
abbrev main_v548 : Ref sig .tc := ⟨.hbm, 730, rfl⟩
abbrev main_cst_171 : Ref sig .tc := ⟨.hbm, 731, rfl⟩
abbrev main_v549 : Ref sig .tc := ⟨.hbm, 732, rfl⟩
abbrev main_v550 : Ref sig .tc := ⟨.hbm, 733, rfl⟩
abbrev main_v551 : Ref sig .tc := ⟨.hbm, 734, rfl⟩
abbrev main_v552 : Ref sig .tc := ⟨.hbm, 735, rfl⟩
abbrev main_v553 : Ref sig .tc := ⟨.hbm, 736, rfl⟩
abbrev main_v554 : Ref sig .tc := ⟨.hbm, 737, rfl⟩
abbrev main_v555 : Ref sig .tc := ⟨.hbm, 738, rfl⟩
abbrev main_v556 : Ref sig .tc := ⟨.hbm, 739, rfl⟩
abbrev main_v557 : Ref sig .tc := ⟨.hbm, 740, rfl⟩
abbrev main_cst_172 : Ref sig .tc := ⟨.hbm, 741, rfl⟩
abbrev main_v558 : Ref sig .tc := ⟨.hbm, 742, rfl⟩
abbrev main_v559 : Ref sig .tc := ⟨.hbm, 743, rfl⟩
abbrev main_v560 : Ref sig .tc := ⟨.hbm, 744, rfl⟩
abbrev main_v561 : Ref sig .tc := ⟨.hbm, 745, rfl⟩
abbrev main_v562 : Ref sig .tc := ⟨.hbm, 746, rfl⟩
abbrev main_v563 : Ref sig .tc := ⟨.hbm, 747, rfl⟩
abbrev main_v564 : Ref sig .tc := ⟨.hbm, 748, rfl⟩
abbrev main_v565 : Ref sig .tc := ⟨.hbm, 749, rfl⟩
abbrev main_v566 : Ref sig .tc := ⟨.hbm, 750, rfl⟩
abbrev main_v567 : Ref sig .tc := ⟨.hbm, 751, rfl⟩
abbrev main_v568 : Ref sig .tc := ⟨.hbm, 752, rfl⟩
abbrev main_v569 : Ref sig .tc := ⟨.hbm, 753, rfl⟩
abbrev main_v570 : Ref sig .tc := ⟨.hbm, 754, rfl⟩
abbrev main_cst_173 : Ref sig .tc := ⟨.hbm, 755, rfl⟩
abbrev main_v571 : Ref sig .tc := ⟨.hbm, 756, rfl⟩
abbrev main_v572 : Ref sig .tc := ⟨.hbm, 757, rfl⟩
abbrev main_v573 : Ref sig .tc := ⟨.hbm, 758, rfl⟩
abbrev main_v574 : Ref sig .tc := ⟨.hbm, 759, rfl⟩
abbrev main_v575 : Ref sig .tc := ⟨.hbm, 760, rfl⟩
abbrev main_v576 : Ref sig .tc := ⟨.hbm, 761, rfl⟩
abbrev main_v577 : Ref sig .tc := ⟨.hbm, 762, rfl⟩
abbrev main_v578 : Ref sig .tc := ⟨.hbm, 763, rfl⟩
abbrev main_v579 : Ref sig .tc := ⟨.hbm, 764, rfl⟩
abbrev main_cst_174 : Ref sig .tc := ⟨.hbm, 765, rfl⟩
abbrev main_v580 : Ref sig .tc := ⟨.hbm, 766, rfl⟩
abbrev main_v581 : Ref sig .tc := ⟨.hbm, 767, rfl⟩
abbrev main_v582 : Ref sig .tc := ⟨.hbm, 768, rfl⟩
abbrev main_v583 : Ref sig .tc := ⟨.hbm, 769, rfl⟩
abbrev main_v584 : Ref sig .tc := ⟨.hbm, 770, rfl⟩
abbrev main_v585 : Ref sig .tc := ⟨.hbm, 771, rfl⟩
abbrev main_v586 : Ref sig .tc := ⟨.hbm, 772, rfl⟩
abbrev main_v587 : Ref sig .tc := ⟨.hbm, 773, rfl⟩
abbrev main_v588 : Ref sig .tc := ⟨.hbm, 774, rfl⟩
abbrev main_cst_175 : Ref sig .tc := ⟨.hbm, 775, rfl⟩
abbrev main_v589 : Ref sig .tc := ⟨.hbm, 776, rfl⟩
abbrev main_v590 : Ref sig .tc := ⟨.hbm, 777, rfl⟩
abbrev main_v591 : Ref sig .tc := ⟨.hbm, 778, rfl⟩
abbrev main_v592 : Ref sig .tc := ⟨.hbm, 779, rfl⟩
abbrev main_v593 : Ref sig .tc := ⟨.hbm, 780, rfl⟩
abbrev main_v594 : Ref sig .tc := ⟨.hbm, 781, rfl⟩
abbrev main_v595 : Ref sig .tc := ⟨.hbm, 782, rfl⟩
abbrev main_v596 : Ref sig .tc := ⟨.hbm, 783, rfl⟩
abbrev main_v597 : Ref sig .tc := ⟨.hbm, 784, rfl⟩
abbrev main_cst_176 : Ref sig .tc := ⟨.hbm, 785, rfl⟩
abbrev main_v598 : Ref sig .tc := ⟨.hbm, 786, rfl⟩
abbrev main_v599 : Ref sig .tc := ⟨.hbm, 787, rfl⟩
abbrev main_v600 : Ref sig .tc := ⟨.hbm, 788, rfl⟩
abbrev main_v601 : Ref sig .tc := ⟨.hbm, 789, rfl⟩
abbrev main_v602 : Ref sig .tc := ⟨.hbm, 790, rfl⟩
abbrev main_v603 : Ref sig .tc := ⟨.hbm, 791, rfl⟩
abbrev main_v604 : Ref sig .tc := ⟨.hbm, 792, rfl⟩
abbrev main_v605 : Ref sig .tc := ⟨.hbm, 793, rfl⟩
abbrev main_v606 : Ref sig .tc := ⟨.hbm, 794, rfl⟩
abbrev main_cst_177 : Ref sig .tc := ⟨.hbm, 795, rfl⟩
abbrev main_v607 : Ref sig .tc := ⟨.hbm, 796, rfl⟩
abbrev main_v608 : Ref sig .tc := ⟨.hbm, 797, rfl⟩
abbrev main_v609 : Ref sig .tc := ⟨.hbm, 798, rfl⟩
abbrev main_v610 : Ref sig .tc := ⟨.hbm, 799, rfl⟩
abbrev main_v611 : Ref sig .tc := ⟨.hbm, 800, rfl⟩
abbrev main_v612 : Ref sig .tc := ⟨.hbm, 801, rfl⟩
abbrev main_v613 : Ref sig .tc := ⟨.hbm, 802, rfl⟩
abbrev main_v614 : Ref sig .tc := ⟨.hbm, 803, rfl⟩
abbrev main_v615 : Ref sig .tc := ⟨.hbm, 804, rfl⟩
abbrev main_v616 : Ref sig .tc := ⟨.hbm, 805, rfl⟩
abbrev main_v617 : Ref sig .tc := ⟨.hbm, 806, rfl⟩
abbrev main_v618 : Ref sig .tc := ⟨.hbm, 807, rfl⟩
abbrev main_v619 : Ref sig .tc := ⟨.hbm, 808, rfl⟩
abbrev main_v620 : Ref sig .tc := ⟨.hbm, 809, rfl⟩
abbrev main_v621 : Ref sig .tc := ⟨.hbm, 810, rfl⟩
abbrev main_v622 : Ref sig .tc := ⟨.hbm, 811, rfl⟩
abbrev main_v623 : Ref sig .tc := ⟨.hbm, 812, rfl⟩
abbrev main_v624 : Ref sig .tc := ⟨.hbm, 813, rfl⟩
abbrev main_v625 : Ref sig .tc := ⟨.hbm, 814, rfl⟩
abbrev main_v626 : Ref sig .tc := ⟨.hbm, 815, rfl⟩
abbrev main_v627 : Ref sig .tc := ⟨.hbm, 816, rfl⟩
abbrev main_cst_178 : Ref sig .tc := ⟨.hbm, 817, rfl⟩
abbrev main_v628 : Ref sig .tc := ⟨.hbm, 818, rfl⟩
abbrev main_v629 : Ref sig .tc := ⟨.hbm, 819, rfl⟩
abbrev main_v630 : Ref sig .tc := ⟨.hbm, 820, rfl⟩
abbrev main_v631 : Ref sig .tc := ⟨.hbm, 821, rfl⟩
abbrev main_v632 : Ref sig .tc := ⟨.hbm, 822, rfl⟩
abbrev main_v633 : Ref sig .tc := ⟨.hbm, 823, rfl⟩
abbrev main_v634 : Ref sig .tc := ⟨.hbm, 824, rfl⟩
abbrev main_v635 : Ref sig .tc := ⟨.hbm, 825, rfl⟩
abbrev main_v636 : Ref sig .tc := ⟨.hbm, 826, rfl⟩
abbrev main_cst_179 : Ref sig .tc := ⟨.hbm, 827, rfl⟩
abbrev main_v637 : Ref sig .tc := ⟨.hbm, 828, rfl⟩
abbrev main_v638 : Ref sig .tc := ⟨.hbm, 829, rfl⟩
abbrev main_v639 : Ref sig .tc := ⟨.hbm, 830, rfl⟩
abbrev main_v640 : Ref sig .tc := ⟨.hbm, 831, rfl⟩
abbrev main_v641 : Ref sig .tc := ⟨.hbm, 832, rfl⟩
abbrev main_v642 : Ref sig .tc := ⟨.hbm, 833, rfl⟩
abbrev main_v643 : Ref sig .tc := ⟨.hbm, 834, rfl⟩
abbrev main_v644 : Ref sig .tc := ⟨.hbm, 835, rfl⟩
abbrev main_v645 : Ref sig .tc := ⟨.hbm, 836, rfl⟩
abbrev main_cst_180 : Ref sig .tc := ⟨.hbm, 837, rfl⟩
abbrev main_v646 : Ref sig .tc := ⟨.hbm, 838, rfl⟩
abbrev main_v647 : Ref sig .tc := ⟨.hbm, 839, rfl⟩
abbrev main_v648 : Ref sig .tc := ⟨.hbm, 840, rfl⟩
abbrev main_v649 : Ref sig .tc := ⟨.hbm, 841, rfl⟩
abbrev main_v650 : Ref sig .tc := ⟨.hbm, 842, rfl⟩
abbrev main_v651 : Ref sig .tc := ⟨.hbm, 843, rfl⟩
abbrev main_v652 : Ref sig .tc := ⟨.hbm, 844, rfl⟩
abbrev main_v653 : Ref sig .tc := ⟨.hbm, 845, rfl⟩
abbrev main_v654 : Ref sig .tc := ⟨.hbm, 846, rfl⟩
abbrev main_cst_181 : Ref sig .tc := ⟨.hbm, 847, rfl⟩
abbrev main_v655 : Ref sig .tc := ⟨.hbm, 848, rfl⟩
abbrev main_v656 : Ref sig .tc := ⟨.hbm, 849, rfl⟩
abbrev main_v657 : Ref sig .tc := ⟨.hbm, 850, rfl⟩
abbrev main_v658 : Ref sig .tc := ⟨.hbm, 851, rfl⟩
abbrev main_v659 : Ref sig .tc := ⟨.hbm, 852, rfl⟩
abbrev main_v660 : Ref sig .tc := ⟨.hbm, 853, rfl⟩
abbrev main_v661 : Ref sig .tc := ⟨.hbm, 854, rfl⟩
abbrev main_v662 : Ref sig .tc := ⟨.hbm, 855, rfl⟩
abbrev main_v663 : Ref sig .tc := ⟨.hbm, 856, rfl⟩
abbrev main_cst_182 : Ref sig .tc := ⟨.hbm, 857, rfl⟩
abbrev main_v664 : Ref sig .tc := ⟨.hbm, 858, rfl⟩
abbrev main_v665 : Ref sig .tc := ⟨.hbm, 859, rfl⟩
abbrev main_v666 : Ref sig .tc := ⟨.hbm, 860, rfl⟩
abbrev main_v667 : Ref sig .tc := ⟨.hbm, 861, rfl⟩
abbrev main_v668 : Ref sig .tc := ⟨.hbm, 862, rfl⟩
abbrev main_v669 : Ref sig .tc := ⟨.hbm, 863, rfl⟩
abbrev main_v670 : Ref sig .tc := ⟨.hbm, 864, rfl⟩
abbrev main_v671 : Ref sig .tc := ⟨.hbm, 865, rfl⟩
abbrev main_v672 : Ref sig .tc := ⟨.hbm, 866, rfl⟩
abbrev main_cst_183 : Ref sig .tc := ⟨.hbm, 867, rfl⟩
abbrev main_v673 : Ref sig .tc := ⟨.hbm, 868, rfl⟩
abbrev main_v674 : Ref sig .tc := ⟨.hbm, 869, rfl⟩
abbrev main_v675 : Ref sig .tc := ⟨.hbm, 870, rfl⟩
abbrev main_v676 : Ref sig .tc := ⟨.hbm, 871, rfl⟩
abbrev main_v677 : Ref sig .tc := ⟨.hbm, 872, rfl⟩
abbrev main_v678 : Ref sig .tc := ⟨.hbm, 873, rfl⟩
abbrev main_v679 : Ref sig .tc := ⟨.hbm, 874, rfl⟩
abbrev main_v680 : Ref sig .tc := ⟨.hbm, 875, rfl⟩
abbrev main_v681 : Ref sig .tc := ⟨.hbm, 876, rfl⟩
abbrev main_v682 : Ref sig .tc := ⟨.hbm, 877, rfl⟩
abbrev main_v683 : Ref sig .tc := ⟨.hbm, 878, rfl⟩
abbrev main_v684 : Ref sig .tc := ⟨.hbm, 879, rfl⟩
abbrev main_v685 : Ref sig .tc := ⟨.hbm, 880, rfl⟩
abbrev main_cst_184 : Ref sig .tc := ⟨.hbm, 881, rfl⟩
abbrev main_v686 : Ref sig .tc := ⟨.hbm, 882, rfl⟩
abbrev main_v687 : Ref sig .tc := ⟨.hbm, 883, rfl⟩
abbrev main_v688 : Ref sig .tc := ⟨.hbm, 884, rfl⟩
abbrev main_v689 : Ref sig .tc := ⟨.hbm, 885, rfl⟩
abbrev main_v690 : Ref sig .tc := ⟨.hbm, 886, rfl⟩
abbrev main_v691 : Ref sig .tc := ⟨.hbm, 887, rfl⟩
abbrev main_v692 : Ref sig .tc := ⟨.hbm, 888, rfl⟩
abbrev main_v693 : Ref sig .tc := ⟨.hbm, 889, rfl⟩
abbrev main_v694 : Ref sig .tc := ⟨.hbm, 890, rfl⟩
abbrev main_cst_185 : Ref sig .tc := ⟨.hbm, 891, rfl⟩
abbrev main_v695 : Ref sig .tc := ⟨.hbm, 892, rfl⟩
abbrev main_v696 : Ref sig .tc := ⟨.hbm, 893, rfl⟩
abbrev main_v697 : Ref sig .tc := ⟨.hbm, 894, rfl⟩
abbrev main_v698 : Ref sig .tc := ⟨.hbm, 895, rfl⟩
abbrev main_v699 : Ref sig .tc := ⟨.hbm, 896, rfl⟩
abbrev main_v700 : Ref sig .tc := ⟨.hbm, 897, rfl⟩
abbrev main_v701 : Ref sig .tc := ⟨.hbm, 898, rfl⟩
abbrev main_v702 : Ref sig .tc := ⟨.hbm, 899, rfl⟩
abbrev main_v703 : Ref sig .tc := ⟨.hbm, 900, rfl⟩
abbrev main_cst_186 : Ref sig .tc := ⟨.hbm, 901, rfl⟩
abbrev main_v704 : Ref sig .tc := ⟨.hbm, 902, rfl⟩
abbrev main_v705 : Ref sig .tc := ⟨.hbm, 903, rfl⟩
abbrev main_v706 : Ref sig .tc := ⟨.hbm, 904, rfl⟩
abbrev main_v707 : Ref sig .tc := ⟨.hbm, 905, rfl⟩
abbrev main_v708 : Ref sig .tc := ⟨.hbm, 906, rfl⟩
abbrev main_v709 : Ref sig .tc := ⟨.hbm, 907, rfl⟩
abbrev main_v710 : Ref sig .tc := ⟨.hbm, 908, rfl⟩
abbrev main_v711 : Ref sig .tc := ⟨.hbm, 909, rfl⟩
abbrev main_v712 : Ref sig .tc := ⟨.hbm, 910, rfl⟩
abbrev main_cst_187 : Ref sig .tc := ⟨.hbm, 911, rfl⟩
abbrev main_v713 : Ref sig .tc := ⟨.hbm, 912, rfl⟩
abbrev main_v714 : Ref sig .tc := ⟨.hbm, 913, rfl⟩
abbrev main_v715 : Ref sig .tc := ⟨.hbm, 914, rfl⟩
abbrev main_v716 : Ref sig .tc := ⟨.hbm, 915, rfl⟩
abbrev main_v717 : Ref sig .tc := ⟨.hbm, 916, rfl⟩
abbrev main_v718 : Ref sig .tc := ⟨.hbm, 917, rfl⟩
abbrev main_v719 : Ref sig .tc := ⟨.hbm, 918, rfl⟩
abbrev main_v720 : Ref sig .tc := ⟨.hbm, 919, rfl⟩
abbrev main_v721 : Ref sig .tc := ⟨.hbm, 920, rfl⟩
abbrev main_cst_188 : Ref sig .tc := ⟨.hbm, 921, rfl⟩
abbrev main_v722 : Ref sig .tc := ⟨.hbm, 922, rfl⟩
abbrev main_v723 : Ref sig .tc := ⟨.hbm, 923, rfl⟩
abbrev main_v724 : Ref sig .tc := ⟨.hbm, 924, rfl⟩
abbrev main_v725 : Ref sig .tc := ⟨.hbm, 925, rfl⟩
abbrev main_v726 : Ref sig .tc := ⟨.hbm, 926, rfl⟩
abbrev main_v727 : Ref sig .tc := ⟨.hbm, 927, rfl⟩
abbrev main_v728 : Ref sig .tc := ⟨.hbm, 928, rfl⟩
abbrev main_v729 : Ref sig .tc := ⟨.hbm, 929, rfl⟩
abbrev main_v730 : Ref sig .tc := ⟨.hbm, 930, rfl⟩
abbrev main_cst_189 : Ref sig .tc := ⟨.hbm, 931, rfl⟩
abbrev main_v731 : Ref sig .tc := ⟨.hbm, 932, rfl⟩
abbrev main_v732 : Ref sig .tc := ⟨.hbm, 933, rfl⟩
abbrev main_v733 : Ref sig .tc := ⟨.hbm, 934, rfl⟩
abbrev main_v734 : Ref sig .tc := ⟨.hbm, 935, rfl⟩
abbrev main_v735 : Ref sig .tc := ⟨.hbm, 936, rfl⟩
abbrev main_v736 : Ref sig .tc := ⟨.hbm, 937, rfl⟩
abbrev main_v737 : Ref sig .tc := ⟨.hbm, 938, rfl⟩
abbrev main_v738 : Ref sig .tc := ⟨.hbm, 939, rfl⟩
abbrev main_v739 : Ref sig .tc := ⟨.hbm, 940, rfl⟩
abbrev main_v740 : Ref sig .tc := ⟨.hbm, 941, rfl⟩
abbrev main_v741 : Ref sig .tc := ⟨.hbm, 942, rfl⟩
abbrev main_v742 : Ref sig .tc := ⟨.hbm, 943, rfl⟩
abbrev main_v743 : Ref sig .tc := ⟨.hbm, 944, rfl⟩
abbrev main_v744 : Ref sig .tc := ⟨.hbm, 945, rfl⟩
abbrev main_v745 : Ref sig .tc := ⟨.hbm, 946, rfl⟩
abbrev main_v746 : Ref sig .tc := ⟨.hbm, 947, rfl⟩
abbrev main_v747 : Ref sig .tc := ⟨.hbm, 948, rfl⟩
abbrev main_v748 : Ref sig .tc := ⟨.hbm, 949, rfl⟩
abbrev main_v749 : Ref sig .tc := ⟨.hbm, 950, rfl⟩
abbrev main_v750 : Ref sig .tc := ⟨.hbm, 951, rfl⟩
abbrev main_v751 : Ref sig .tc := ⟨.hbm, 952, rfl⟩
abbrev main_cst_190 : Ref sig .tc := ⟨.hbm, 953, rfl⟩
abbrev main_v752 : Ref sig .tc := ⟨.hbm, 954, rfl⟩
abbrev main_v753 : Ref sig .tc := ⟨.hbm, 955, rfl⟩
abbrev main_cst_191 : Ref sig .tc := ⟨.hbm, 956, rfl⟩
abbrev main_call3_v0 : Ref sig .tc := ⟨.hbm, 957, rfl⟩
abbrev main_call3_v1 : Ref sig .tc := ⟨.hbm, 958, rfl⟩
abbrev main_v754 : Ref sig .tc := ⟨.hbm, 959, rfl⟩
abbrev main_v755 : Ref sig .tc := ⟨.hbm, 960, rfl⟩
abbrev main_cst_192 : Ref sig .tc := ⟨.hbm, 961, rfl⟩
abbrev main_cst_193 : Ref sig .tc := ⟨.hbm, 962, rfl⟩
abbrev main_v756 : Ref sig .tc := ⟨.hbm, 963, rfl⟩
abbrev main_v757 : Ref sig .tc := ⟨.hbm, 964, rfl⟩
abbrev main_v758 : Ref sig .tc := ⟨.hbm, 965, rfl⟩
abbrev main_cst_194 : Ref sig .tc := ⟨.hbm, 966, rfl⟩
abbrev main_cst_195 : Ref sig .tc := ⟨.hbm, 967, rfl⟩
abbrev main_v759 : Ref sig .tc := ⟨.hbm, 968, rfl⟩
abbrev main_v760 : Ref sig .tc := ⟨.hbm, 969, rfl⟩
abbrev main_v761 : Ref sig .tc := ⟨.hbm, 970, rfl⟩
abbrev main_v762 : Ref sig .tc := ⟨.hbm, 971, rfl⟩
abbrev main_v763 : Ref sig .tc := ⟨.hbm, 972, rfl⟩
abbrev main_v764 : Ref sig .tc := ⟨.hbm, 973, rfl⟩
abbrev main_cst_196 : Ref sig .tc := ⟨.hbm, 974, rfl⟩
abbrev main_v765 : Ref sig .tc := ⟨.hbm, 975, rfl⟩
abbrev main_v766 : Ref sig .tc := ⟨.hbm, 976, rfl⟩
abbrev main_v767 : Ref sig .tc := ⟨.hbm, 977, rfl⟩
abbrev main_v768 : Ref sig .tc := ⟨.hbm, 978, rfl⟩
abbrev main_v769 : Ref sig .tc := ⟨.hbm, 979, rfl⟩
abbrev main_v770 : Ref sig .tc := ⟨.hbm, 980, rfl⟩
abbrev main_v771 : Ref sig .tc := ⟨.hbm, 981, rfl⟩
abbrev main_v772 : Ref sig .tc := ⟨.hbm, 982, rfl⟩
abbrev main_v773 : Ref sig .tc := ⟨.hbm, 983, rfl⟩
abbrev main_v774 : Ref sig .tc := ⟨.hbm, 984, rfl⟩
abbrev main_v775 : Ref sig .tc := ⟨.hbm, 985, rfl⟩
abbrev main_v776 : Ref sig .tc := ⟨.hbm, 986, rfl⟩
abbrev main_v777 : Ref sig .tc := ⟨.hbm, 987, rfl⟩
abbrev main_v778 : Ref sig .tc := ⟨.hbm, 988, rfl⟩
abbrev main_v779 : Ref sig .tc := ⟨.hbm, 989, rfl⟩
abbrev main_v780 : Ref sig .tc := ⟨.hbm, 990, rfl⟩
abbrev main_v781 : Ref sig .tc := ⟨.hbm, 991, rfl⟩
abbrev main_v782 : Ref sig .tc := ⟨.hbm, 992, rfl⟩
abbrev main_v783 : Ref sig .tc := ⟨.hbm, 993, rfl⟩
abbrev main_v784 : Ref sig .tc := ⟨.hbm, 994, rfl⟩
abbrev main_v785 : Ref sig .tc := ⟨.hbm, 995, rfl⟩
abbrev main_v786 : Ref sig .tc := ⟨.hbm, 996, rfl⟩
abbrev main_v787 : Ref sig .tc := ⟨.hbm, 997, rfl⟩
abbrev main_v788 : Ref sig .tc := ⟨.hbm, 998, rfl⟩
abbrev main_v789 : Ref sig .tc := ⟨.hbm, 999, rfl⟩
abbrev main_v790 : Ref sig .tc := ⟨.hbm, 1000, rfl⟩
abbrev main_v791 : Ref sig .tc := ⟨.hbm, 1001, rfl⟩
abbrev main_v792 : Ref sig .tc := ⟨.hbm, 1002, rfl⟩
abbrev main_v793 : Ref sig .tc := ⟨.hbm, 1003, rfl⟩
abbrev main_v794 : Ref sig .tc := ⟨.hbm, 1004, rfl⟩
abbrev main_v795 : Ref sig .tc := ⟨.hbm, 1005, rfl⟩
abbrev main_v796 : Ref sig .tc := ⟨.hbm, 1006, rfl⟩
abbrev main_v797 : Ref sig .tc := ⟨.hbm, 1007, rfl⟩
abbrev main_v798 : Ref sig .tc := ⟨.hbm, 1008, rfl⟩
abbrev main_v799 : Ref sig .tc := ⟨.hbm, 1009, rfl⟩
abbrev main_v800 : Ref sig .tc := ⟨.hbm, 1010, rfl⟩
abbrev main_v801 : Ref sig .tc := ⟨.hbm, 1011, rfl⟩
abbrev main_v802 : Ref sig .tc := ⟨.hbm, 1012, rfl⟩
abbrev main_v803 : Ref sig .tc := ⟨.hbm, 1013, rfl⟩
abbrev main_v804 : Ref sig .tc := ⟨.hbm, 1014, rfl⟩
abbrev main_v805 : Ref sig .tc := ⟨.hbm, 1015, rfl⟩
abbrev main_v806 : Ref sig .tc := ⟨.hbm, 1016, rfl⟩
abbrev main_v807 : Ref sig .tc := ⟨.hbm, 1017, rfl⟩
abbrev main_v808 : Ref sig .tc := ⟨.hbm, 1018, rfl⟩
abbrev main_v809 : Ref sig .tc := ⟨.hbm, 1019, rfl⟩
abbrev main_v810 : Ref sig .tc := ⟨.hbm, 1020, rfl⟩
abbrev main_v811 : Ref sig .tc := ⟨.hbm, 1021, rfl⟩
abbrev main_v812 : Ref sig .tc := ⟨.hbm, 1022, rfl⟩
abbrev main_v813 : Ref sig .tc := ⟨.hbm, 1023, rfl⟩
abbrev main_c : Ref sig .tc := ⟨.hbm, 1024, rfl⟩
abbrev main_v814 : Ref sig .tc := ⟨.hbm, 1025, rfl⟩
abbrev main_v815 : Ref sig .tc := ⟨.hbm, 1026, rfl⟩
abbrev main_v816 : Ref sig .tc := ⟨.hbm, 1027, rfl⟩
abbrev main_cst_197 : Ref sig .tc := ⟨.hbm, 1028, rfl⟩
abbrev main_v817 : Ref sig .tc := ⟨.hbm, 1029, rfl⟩
abbrev main_v818 : Ref sig .tc := ⟨.hbm, 1030, rfl⟩
abbrev main_v819 : Ref sig .tc := ⟨.hbm, 1031, rfl⟩
abbrev main_v820 : Ref sig .tc := ⟨.hbm, 1032, rfl⟩
abbrev main_v821 : Ref sig .tc := ⟨.hbm, 1033, rfl⟩
abbrev main_v822 : Ref sig .tc := ⟨.hbm, 1034, rfl⟩
abbrev main_v823 : Ref sig .tc := ⟨.hbm, 1035, rfl⟩
abbrev main_v824 : Ref sig .tc := ⟨.hbm, 1036, rfl⟩
abbrev main_v825 : Ref sig .tc := ⟨.hbm, 1037, rfl⟩
abbrev main_v826 : Ref sig .tc := ⟨.hbm, 1038, rfl⟩
abbrev main_v827 : Ref sig .tc := ⟨.hbm, 1039, rfl⟩
abbrev main_v828 : Ref sig .tc := ⟨.hbm, 1040, rfl⟩
abbrev main_v829 : Ref sig .tc := ⟨.hbm, 1041, rfl⟩
abbrev main_v830 : Ref sig .tc := ⟨.hbm, 1042, rfl⟩
abbrev main_v831 : Ref sig .tc := ⟨.hbm, 1043, rfl⟩
abbrev main_v832 : Ref sig .tc := ⟨.hbm, 1044, rfl⟩
abbrev main_v833 : Ref sig .tc := ⟨.hbm, 1045, rfl⟩
abbrev main_v834 : Ref sig .tc := ⟨.hbm, 1046, rfl⟩
abbrev main_v835 : Ref sig .tc := ⟨.hbm, 1047, rfl⟩

abbrev nD : Nat := 1
abbrev τ : Topo := Topo.v7x

variable {F : FTy → Type} [FloatOps F]
-- ==== Proof.Spec.lean ====
/- The basis functions of one atom, on the extended reals: the vocabulary in which both programs are read.
   Nothing here mentions a program; `Ideal` names only the arithmetic of one element. -/
module

public import Idealize.ShloMosaic.PureOps.Ideal
public import Mathlib.Analysis.SpecialFunctions.Trigonometric.Arctan
public import Mathlib.Data.Nat.Factorial.Basic

@[expose] public section

noncomputable section

namespace Cert.Sph

open Idealize.ShloMosaic

/-- A whole number as an extended real. -/
def num (n : ℕ) : EReal := ((n : ℝ) : EReal)

/-- The negative of a whole number. -/
def neg (n : ℕ) : EReal := ((-(n : ℝ) : ℝ) : EReal)

/-- The reciprocal of a whole number. -/
def recip (n : ℕ) : EReal := (((n : ℝ)⁻¹ : ℝ) : EReal)

/-- The floor under a norm and under the squared sine. -/
def lo : EReal := Ideal.ofBits .f32 0x2B8CBCCC#32

/-- The floor under the distance from the axis. -/
def tiny : EReal := Ideal.ofBits .f32 0x1E3CE508#32

/-- The floor under the radius. -/
def rmin : EReal := Ideal.ofBits .f32 0x358637BD#32

/-- The length of the vector `(x, y, z)`. -/
def len (x y z : EReal) : EReal := Ideal.sqrt (x * x + y * y + z * z)

/-- One over the floored length. -/
def inv (x y z : EReal) : EReal := Ideal.div (num 1) (max (len x y z) lo)

/-- The sine of the polar angle whose cosine is `u`. -/
def sine (u : EReal) : EReal := Ideal.sqrt (max (num 1 - u * u) lo)

/-- One over the floored distance from the axis. -/
def spin (u v : EReal) : EReal := Ideal.div (num 1) (max (Ideal.sqrt (u * u + v * v)) tiny)

/-- Cosine and sine of `m + 1` times an angle, from those of the angle by the addition formulas. -/
def turn (a b : EReal) : ℕ → EReal × EReal
  | 0 => (a, b)
  | m + 1 => ((turn a b m).1 * a - (turn a b m).2 * b, (turn a b m).2 * a + (turn a b m).1 * b)

/-- The associated Legendre function with equal indices, at sine `s`. -/
def diag (s : EReal) : ℕ → EReal
  | 0 => num 1
  | m + 1 => neg (2 * m + 1) * s * diag s m

/-- The associated Legendre function of order `m` and degree `m + d`, at sine `s` and cosine `c`. -/
def leg (s c : EReal) (m : ℕ) : ℕ → EReal
  | 0 => diag s m
  | 1 => num (2 * m + 1) * c * diag s m
  | d + 2 => (num (2 * m + 2 * d + 3) * c * leg s c m (d + 1) - num (2 * m + d + 1) * leg s c m d) * recip (d + 2)

/-- The square of the normalization of degree `l` and order `m`, the factor of the solid angle left out. -/
def sq (l m : ℕ) : ℝ :=
  (if m = 0 then 1 else 2) * (2 * l + 1) * ((l - m).factorial : ℝ) / ((l + m).factorial : ℝ)

/-- The normalization without the solid angle. -/
def w (l m : ℕ) : EReal := ((Real.sqrt (sq l m) : ℝ) : EReal)

/-- The number π, as the angle of the point `(-1, 0)`. -/
def circ : EReal := Ideal.atan2 (num 0) (neg 1)

/-- The root of the solid angle. -/
def root : EReal := Ideal.sqrt (num 4 * circ)

/-- The root of two. -/
def two : EReal := Ideal.sqrt (num 2)

/-- The orthonormal normalization, the factor of the order left out. -/
def nw (l m : ℕ) : EReal :=
  Ideal.sqrt (Ideal.div (Ideal.div (num (2 * l + 1)) (num 4 * circ) * num (l - m).factorial) (num (l + m).factorial))

/-- The `i`-th harmonic of degree `l`, from Legendre values `P m d` and the cosines `C` and sines `S` of the multiples of
    the azimuth (`C m` that of `m + 1` times). -/
def harm (P : ℕ → ℕ → EReal) (C S : ℕ → EReal) (l i : ℕ) : EReal :=
  if i < l then w l (l - i) * P (l - i) i * S (l - i - 1)
  else if i = l then w l 0 * P 0 l
  else w l (i - l) * P (i - l) (2 * l - i) * C (i - l - 1)

/-- The same with the solid angle divided out first and multiplied back last. -/
def harm' (P : ℕ → ℕ → EReal) (C S : ℕ → EReal) (l i : ℕ) : EReal :=
  if i < l then two * nw l (l - i) * P (l - i) i * S (l - i - 1) * root
  else if i = l then nw l 0 * P 0 l * root
  else two * nw l (i - l) * P (i - l) (2 * l - i) * C (i - l - 1) * root

theorem circ_eq : circ = ((Real.pi : ℝ) : EReal) := by
  have h : circ = (((if (0 : ℝ) < -((1 : ℕ) : ℝ) then Real.arctan (((0 : ℕ) : ℝ) / -((1 : ℕ) : ℝ))
    else if -((1 : ℕ) : ℝ) < 0 then
      (if 0 ≤ ((0 : ℕ) : ℝ) then Real.arctan (((0 : ℕ) : ℝ) / -((1 : ℕ) : ℝ)) + Real.pi
        else Real.arctan (((0 : ℕ) : ℝ) / -((1 : ℕ) : ℝ)) - Real.pi)
    else if 0 < ((0 : ℕ) : ℝ) then Real.pi / 2 else if ((0 : ℕ) : ℝ) < 0 then -(Real.pi / 2) else 0 : ℝ)) : EReal) := rfl
  rw [h]
  norm_num

theorem num_ne {n : ℕ} (h : n ≠ 0) : num n ≠ 0 := by
  unfold num
  exact_mod_cast h

/-- A quotient by a whole number is the product with its reciprocal. -/
theorem div_num (x : EReal) {n : ℕ} (h : n ≠ 0) : Ideal.div x (num n) = x * recip n := by
  rw [Ideal.div, if_neg (num_ne h), num, recip, EReal.coe_inv]

theorem four_circ : num 4 * circ = ((4 * Real.pi : ℝ) : EReal) := by
  rw [circ_eq, num, ← EReal.coe_mul]
  norm_num

theorem sqrt_real {r : ℝ} (h : 0 ≤ r) : Ideal.sqrt (r : EReal) = ((Real.sqrt r : ℝ) : EReal) := by
  exact if_neg h.not_gt

theorem root_eq : root = ((Real.sqrt (4 * Real.pi) : ℝ) : EReal) := by
  rw [root, four_circ, sqrt_real (by positivity)]

theorem two_eq : two = ((Real.sqrt 2 : ℝ) : EReal) := by
  rw [two, num, sqrt_real (by positivity)]
  norm_num

/-- The square of the orthonormal normalization. -/
theorem nw_eq (l m : ℕ) : nw l m
    = ((Real.sqrt ((2 * l + 1) / (4 * Real.pi) * (l - m).factorial / (l + m).factorial) : ℝ) : EReal) := by
  have h4 : ((4 * Real.pi : ℝ) : EReal) ≠ 0 := by
    rw [Ne, EReal.coe_eq_zero]
    positivity
  rw [nw, four_circ, div_num _ (Nat.factorial_ne_zero _), Ideal.div, if_neg h4, num, num, recip, ← EReal.coe_inv,
    ← EReal.coe_mul, ← EReal.coe_mul, ← EReal.coe_mul, sqrt_real (by positivity)]
  push_cast
  simp only [div_eq_mul_inv]

/-- The solid angle cancels at order zero. -/
theorem nw_mul_root (l : ℕ) : nw l 0 * root = w l 0 := by
  rw [nw_eq, root_eq, ← EReal.coe_mul, ← Real.sqrt_mul (by positivity), w, sq]
  congr 2
  simp only [if_true, one_mul]
  field_simp

/-- The solid angle cancels at a positive order. -/
theorem two_mul_nw_mul_root (l m : ℕ) (h : m ≠ 0) : two * nw l m * root = w l m := by
  rw [nw_eq, root_eq, two_eq, ← EReal.coe_mul, ← EReal.coe_mul, ← Real.sqrt_mul (by positivity),
    ← Real.sqrt_mul (by positivity), w, sq, if_neg h]
  congr 2
  field_simp

/-- The two spellings of a harmonic agree. -/
theorem harm'_eq (P : ℕ → ℕ → EReal) (C S : ℕ → EReal) (l i : ℕ) : harm' P C S l i = harm P C S l i := by
  have h3 : ∀ n p t : EReal, n * p * t * root = n * root * p * t := fun n p t => by
    rw [mul_right_comm, mul_right_comm n]
  have h2 : ∀ n p : EReal, n * p * root = n * root * p := fun n p => by rw [mul_right_comm]
  unfold harm' harm
  split_ifs with h h'
  · rw [h3, two_mul_nw_mul_root _ _ (by omega)]
  · rw [h2, nw_mul_root]
  · rw [h3, two_mul_nw_mul_root _ _ (by omega)]

/-- Only the cosines and sines that a harmonic names matter. -/
theorem harm_congr {P : ℕ → ℕ → EReal} {C S C' S' : ℕ → EReal} (hC : ∀ m, C m = C' m) (hS : ∀ m, S m = S' m)
    (l i : ℕ) : harm P C S l i = harm P C' S' l i := by
  rw [funext hC, funext hS]

/-- The coordinates of the atom `(x, y, z)` on the unit sphere. -/
def ux (x y z : EReal) : EReal := x * inv x y z
def uy (x y z : EReal) : EReal := y * inv x y z
def uz (x y z : EReal) : EReal := z * inv x y z

/-- The Legendre value of order `m` and degree `m + d` at the atom. -/
def legs (x y z : EReal) (m d : ℕ) : EReal := leg (sine (uz x y z)) (uz x y z) m d

/-- Cosine and sine of `m + 1` times the azimuth, from the coordinates over the floored distance from the axis. -/
def turns (x y z : EReal) (m : ℕ) : EReal × EReal :=
  turn (ux x y z * spin (ux x y z) (uy x y z)) (uy x y z * spin (ux x y z) (uy x y z)) m

/-- The harmonic at the atom. -/
def basis (x y z : EReal) (l i : ℕ) : EReal :=
  harm (legs x y z) (fun m => (turns x y z m).1) (fun m => (turns x y z m).2) l i

/-- The degree of row `k`, the rows of degree `l` being those from `l * l` on. -/
def deg (k : ℕ) : ℕ :=
  if k < 1 then 0 else if k < 4 then 1 else if k < 9 then 2 else if k < 16 then 3 else if k < 25 then 4
  else if k < 36 then 5 else 6

/-- Row `k` of the harmonics at the atom. -/
def row (x y z : EReal) (k : ℕ) : EReal := basis x y z (deg k) (k - deg k * deg k)

/-- The `n`-th radial function at the floored radius, as a sine over the radius. -/
def radial (r : EReal) (n : ℕ) : EReal :=
  Ideal.sin ((num n + num 1) * (((Real.pi * (1 / 10) : ℝ) : EReal) * max r rmin))
    * Ideal.div ((Real.sqrt (1 / 5) : ℝ) : EReal) (max r rmin)

/-- One where the segment word `g` is the number `s`, zero elsewhere. -/
def hot (g : BitVec 32) (s : ℕ) : EReal := if g = BitVec.ofNat 32 s then 1 else 0

theorem num_one : num 1 = 1 := by simp [num]

theorem num_zero : num 0 = 0 := by simp [num]

end Cert.Sph

end
-- ==== Proof.Consts.lean ====
/- The float constants the two programs spell, as the extended reals they denote. -/
module

public import Idealize.ShloMosaic.PureOps.IdealRules
public import proofs.«01_k».proof.KernelIdeal
public import proofs.«01_k».proof.Proof.Spec

@[expose] public section

noncomputable section

namespace Cert.Sph

open Idealize.ShloMosaic

theorem bits_num_1 : Ideal.ofBits .f32 0x3F800000#32 = num 1 := by
  simp [Ideal.ofBits, Ideal.ieee, num, -EReal.coe_mul]; try norm_num

theorem bits_num_2 : Ideal.ofBits .f32 0x40000000#32 = num 2 := by
  simp [Ideal.ofBits, Ideal.ieee, num, -EReal.coe_mul]; try norm_num

theorem bits_num_3 : Ideal.ofBits .f32 0x40400000#32 = num 3 := by
  simp [Ideal.ofBits, Ideal.ieee, num, -EReal.coe_mul]; try norm_num

theorem bits_num_4 : Ideal.ofBits .f32 0x40800000#32 = num 4 := by
  simp [Ideal.ofBits, Ideal.ieee, num, -EReal.coe_mul]; try norm_num

theorem bits_num_5 : Ideal.ofBits .f32 0x40A00000#32 = num 5 := by
  simp [Ideal.ofBits, Ideal.ieee, num, -EReal.coe_mul]; try norm_num

theorem bits_num_6 : Ideal.ofBits .f32 0x40C00000#32 = num 6 := by
  simp [Ideal.ofBits, Ideal.ieee, num, -EReal.coe_mul]; try norm_num

theorem bits_num_7 : Ideal.ofBits .f32 0x40E00000#32 = num 7 := by
  simp [Ideal.ofBits, Ideal.ieee, num, -EReal.coe_mul]; try norm_num

theorem bits_num_8 : Ideal.ofBits .f32 0x41000000#32 = num 8 := by
  simp [Ideal.ofBits, Ideal.ieee, num, -EReal.coe_mul]; try norm_num

theorem bits_num_9 : Ideal.ofBits .f32 0x41100000#32 = num 9 := by
  simp [Ideal.ofBits, Ideal.ieee, num, -EReal.coe_mul]; try norm_num

theorem bits_num_10 : Ideal.ofBits .f32 0x41200000#32 = num 10 := by
  simp [Ideal.ofBits, Ideal.ieee, num, -EReal.coe_mul]; try norm_num

theorem bits_num_11 : Ideal.ofBits .f32 0x41300000#32 = num 11 := by
  simp [Ideal.ofBits, Ideal.ieee, num, -EReal.coe_mul]; try norm_num

theorem bits_num_13 : Ideal.ofBits .f32 0x41500000#32 = num 13 := by
  simp [Ideal.ofBits, Ideal.ieee, num, -EReal.coe_mul]; try norm_num

theorem bits_num_24 : Ideal.ofBits .f32 0x41C00000#32 = num 24 := by
  simp [Ideal.ofBits, Ideal.ieee, num, -EReal.coe_mul]; try norm_num

theorem bits_num_120 : Ideal.ofBits .f32 0x42F00000#32 = num 120 := by
  simp [Ideal.ofBits, Ideal.ieee, num, -EReal.coe_mul]; try norm_num

theorem bits_num_720 : Ideal.ofBits .f32 0x44340000#32 = num 720 := by
  simp [Ideal.ofBits, Ideal.ieee, num, -EReal.coe_mul]; try norm_num

theorem bits_num_5040 : Ideal.ofBits .f32 0x459D8000#32 = num 5040 := by
  simp [Ideal.ofBits, Ideal.ieee, num, -EReal.coe_mul]; try norm_num

theorem bits_num_40320 : Ideal.ofBits .f32 0x471D8000#32 = num 40320 := by
  simp [Ideal.ofBits, Ideal.ieee, num, -EReal.coe_mul]; try norm_num

theorem bits_num_362880 : Ideal.ofBits .f32 0x48B13000#32 = num 362880 := by
  simp [Ideal.ofBits, Ideal.ieee, num, -EReal.coe_mul]; try norm_num

theorem bits_num_3628800 : Ideal.ofBits .f32 0x4A5D7C00#32 = num 3628800 := by
  simp [Ideal.ofBits, Ideal.ieee, num, -EReal.coe_mul]; try norm_num

theorem bits_num_39916800 : Ideal.ofBits .f32 0x4C184540#32 = num 39916800 := by
  simp [Ideal.ofBits, Ideal.ieee, num, -EReal.coe_mul]; try norm_num

theorem bits_num_479001600 : Ideal.ofBits .f32 0x4DE467E0#32 = num 479001600 := by
  simp [Ideal.ofBits, Ideal.ieee, num, -EReal.coe_mul]; try norm_num

theorem bits_num_0 : Ideal.ofBits .f32 0x00000000#32 = num 0 := by
  simp [Ideal.ofBits, Ideal.ieee, num, -EReal.coe_mul]

theorem bits_neg_1 : Ideal.ofBits .f32 0xBF800000#32 = neg 1 := by
  simp [Ideal.ofBits, Ideal.ieee, neg, -EReal.coe_mul]; try norm_num

theorem bits_neg_3 : Ideal.ofBits .f32 0xC0400000#32 = neg 3 := by
  simp [Ideal.ofBits, Ideal.ieee, neg, -EReal.coe_mul]; try norm_num

theorem bits_neg_5 : Ideal.ofBits .f32 0xC0A00000#32 = neg 5 := by
  simp [Ideal.ofBits, Ideal.ieee, neg, -EReal.coe_mul]; try norm_num

theorem bits_neg_7 : Ideal.ofBits .f32 0xC0E00000#32 = neg 7 := by
  simp [Ideal.ofBits, Ideal.ieee, neg, -EReal.coe_mul]; try norm_num

theorem bits_neg_9 : Ideal.ofBits .f32 0xC1100000#32 = neg 9 := by
  simp [Ideal.ofBits, Ideal.ieee, neg, -EReal.coe_mul]; try norm_num

theorem bits_neg_11 : Ideal.ofBits .f32 0xC1300000#32 = neg 11 := by
  simp [Ideal.ofBits, Ideal.ieee, neg, -EReal.coe_mul]; try norm_num

theorem bits_recip_2 : Ideal.ofBits .f32 0x3F000000#32 = recip 2 := by
  simp [Ideal.ofBits, Ideal.ieee, recip, -EReal.coe_mul]; try norm_num

theorem bits_recip_4 : Ideal.ofBits .f32 0x3E800000#32 = recip 4 := by
  simp [Ideal.ofBits, Ideal.ieee, recip, -EReal.coe_mul]; try norm_num

/-- A named constant denotes the value of its name. -/
theorem named {κ : String → Option EReal} {s : String} {v : EReal} {b : BitVec 32} (h : κ s = some v) :
    Named.named (F := Ideal) κ s (φ := .f32) b = v :=
  IdealRules.named_const.ideal_named_scalar _ _ _ _ h

theorem named_third : Named.named (F := Ideal) KernelIdeal.κ "third" (φ := .f32) 0x3EAAAAAB#32 = recip 3 := by
  rw [named rfl, recip]; norm_num

theorem named_fifth : Named.named (F := Ideal) KernelIdeal.κ "fifth" (φ := .f32) 0x3E4CCCCD#32 = recip 5 := by
  rw [named rfl, recip]; norm_num

theorem named_sixth : Named.named (F := Ideal) KernelIdeal.κ "sixth" (φ := .f32) 0x3E2AAAAB#32 = recip 6 := by
  rw [named rfl, recip]; norm_num

theorem named_y10 : Named.named (F := Ideal) KernelIdeal.κ "y10" (φ := .f32) 0x3FDDB3D7#32 = w 1 0 := by
  rw [named rfl, w, sq]; norm_num [Nat.factorial]

theorem named_y20 : Named.named (F := Ideal) KernelIdeal.κ "y20" (φ := .f32) 0x400F1BBD#32 = w 2 0 := by
  rw [named rfl, w, sq]; norm_num [Nat.factorial]

theorem named_y21 : Named.named (F := Ideal) KernelIdeal.κ "y21" (φ := .f32) 0x3FA53F4E#32 = w 2 1 := by
  rw [named rfl, w, sq]; norm_num [Nat.factorial]

theorem named_y22 : Named.named (F := Ideal) KernelIdeal.κ "y22" (φ := .f32) 0x3F253F4E#32 = w 2 2 := by
  rw [named rfl, w, sq]; norm_num [Nat.factorial]

theorem named_y30 : Named.named (F := Ideal) KernelIdeal.κ "y30" (φ := .f32) 0x402953FD#32 = w 3 0 := by
  rw [named rfl, w, sq]; norm_num [Nat.factorial]

theorem named_y31 : Named.named (F := Ideal) KernelIdeal.κ "y31" (φ := .f32) 0x3F8A417C#32 = w 3 1 := by
  rw [named rfl, w, sq]; norm_num [Nat.factorial]

theorem named_y32 : Named.named (F := Ideal) KernelIdeal.κ "y32" (φ := .f32) 0x3EAEE19C#32 = w 3 2 := by
  rw [named rfl, w, sq]; norm_num [Nat.factorial]

theorem named_y33 : Named.named (F := Ideal) KernelIdeal.κ "y33" (φ := .f32) 0x3E0ECA3C#32 = w 3 3 := by
  rw [named rfl, w, sq]; norm_num [Nat.factorial]

theorem named_y41 : Named.named (F := Ideal) KernelIdeal.κ "y41" (φ := .f32) 0x3F72DCE9#32 = w 4 1 := by
  rw [named rfl, w, sq]; norm_num [Nat.factorial]

theorem named_y42 : Named.named (F := Ideal) KernelIdeal.κ "y42" (φ := .f32) 0x3E64F92E#32 = w 4 2 := by
  rw [named rfl, w, sq]; norm_num [Nat.factorial]

theorem named_y43 : Named.named (F := Ideal) KernelIdeal.κ "y43" (φ := .f32) 0x3D74C867#32 = w 4 3 := by
  rw [named rfl, w, sq]; norm_num [Nat.factorial]

theorem named_y44 : Named.named (F := Ideal) KernelIdeal.κ "y44" (φ := .f32) 0x3CAD166C#32 = w 4 4 := by
  rw [named rfl, w, sq]; norm_num [Nat.factorial]

theorem named_y50 : Named.named (F := Ideal) KernelIdeal.κ "y50" (φ := .f32) 0x40544395#32 = w 5 0 := by
  rw [named rfl, w, sq]; norm_num [Nat.factorial]

theorem named_y51 : Named.named (F := Ideal) KernelIdeal.κ "y51" (φ := .f32) 0x3F5B39AD#32 = w 5 1 := by
  rw [named rfl, w, sq]; norm_num [Nat.factorial]

theorem named_y52 : Named.named (F := Ideal) KernelIdeal.κ "y52" (φ := .f32) 0x3E25B800#32 = w 5 2 := by
  rw [named rfl, w, sq]; norm_num [Nat.factorial]

theorem named_y53 : Named.named (F := Ideal) KernelIdeal.κ "y53" (φ := .f32) 0x3D074F0D#32 = w 5 3 := by
  rw [named rfl, w, sq]; norm_num [Nat.factorial]

theorem named_y54 : Named.named (F := Ideal) KernelIdeal.κ "y54" (φ := .f32) 0x3BFF2406#32 = w 5 4 := by
  rw [named rfl, w, sq]; norm_num [Nat.factorial]

theorem named_y55 : Named.named (F := Ideal) KernelIdeal.κ "y55" (φ := .f32) 0x3B215D7B#32 = w 5 5 := by
  rw [named rfl, w, sq]; norm_num [Nat.factorial]

theorem named_y60 : Named.named (F := Ideal) KernelIdeal.κ "y60" (φ := .f32) 0x4066C15A#32 = w 6 0 := by
  rw [named rfl, w, sq]; norm_num [Nat.factorial]

theorem named_y61 : Named.named (F := Ideal) KernelIdeal.κ "y61" (φ := .f32) 0x3F496B73#32 = w 6 1 := by
  rw [named rfl, w, sq]; norm_num [Nat.factorial]

theorem named_y62 : Named.named (F := Ideal) KernelIdeal.κ "y62" (φ := .f32) 0x3DFEC72D#32 = w 6 2 := by
  rw [named rfl, w, sq]; norm_num [Nat.factorial]

theorem named_y63 : Named.named (F := Ideal) KernelIdeal.κ "y63" (φ := .f32) 0x3CA9DA1E#32 = w 6 3 := by
  rw [named rfl, w, sq]; norm_num [Nat.factorial]

theorem named_y64 : Named.named (F := Ideal) KernelIdeal.κ "y64" (φ := .f32) 0x3B7815B3#32 = w 6 4 := by
  rw [named rfl, w, sq]; norm_num [Nat.factorial]

theorem named_y65 : Named.named (F := Ideal) KernelIdeal.κ "y65" (φ := .f32) 0x3A539141#32 = w 6 5 := by
  rw [named rfl, w, sq]; norm_num [Nat.factorial]

theorem named_y66 : Named.named (F := Ideal) KernelIdeal.κ "y66" (φ := .f32) 0x39744C07#32 = w 6 6 := by
  rw [named rfl, w, sq]; norm_num [Nat.factorial]

theorem num_w_0_0 : num 1 = w 0 0 := by
  rw [w, sq, num]; norm_num [Nat.factorial]

theorem named_y11 : w 1 0 = w 1 1 := by
  rw [w, w, sq, sq]; norm_num [Nat.factorial]

theorem num_w_4_0 : num 3 = w 4 0 := by
  rw [w, sq, num, show (3 : ℕ) = Real.sqrt (3 ^ 2) from by rw [Real.sqrt_sq] <;> norm_num]; norm_num [Nat.factorial]

theorem named_pi_over_rcut : Named.named (F := Ideal) KernelIdeal.κ "pi_over_rcut" (φ := .f32) 0x3EA0D97C#32 = ((Real.pi * (1 / 10) : ℝ) : EReal) :=
  named rfl

theorem named_root_2_over_rcut : Named.named (F := Ideal) KernelIdeal.κ "root_2_over_rcut" (φ := .f32) 0x3EE4F92E#32 = ((Real.sqrt (1 / 5) : ℝ) : EReal) :=
  named rfl

end Cert.Sph

end
-- ==== Proof.KernelRow.lean ====
/- The rows of the kernel's block at one lane: each word of the body, read at one atom, is the function of the atom's
   coordinates that the specification names. -/
module

public import proofs.«01_k».proof.Proof.Gen.KernelIdeal.Frame
public import proofs.«01_k».proof.Proof.Consts
public import Idealize.ShloMosaic.Lib.Pointwise
public import Idealize.ShloMosaic.Lib.ValueIdx
public import Idealize.ShloMosaic.Lib.Pipeline.ValueKit

@[expose] public section

set_option maxRecDepth 4096

noncomputable section

namespace Cert.KernelIdeal.Row

open Cert.KernelIdeal Cert.KernelIdeal.Gen Cert.KernelIdeal.Gen.kernelRun0_A Cert.Sph Idealize.ShloMosaic

/-- A lane of a row. -/
abbrev pick (v : FVec Ideal S1x2048 .f32) (j : S1x2048.Idx) : EReal := v j

variable (c : Dev nD) (M : Memref sig .tc .vmem S1x3x2048 .f32) (h : M.IsWhole) (x0 : Vec Ideal S1x3x2048 .f32)
  (j : S1x2048.Idx)

theorem at_v10 : pick (sl.v10 (F := Ideal) c M h x0) j = len (pick (sl.v2 (F := Ideal) c M h x0) j) (pick (sl.v3 (F := Ideal) c M h x0) j) (pick (sl.v4 (F := Ideal) c M h x0) j) := by
  have e : pick (sl.v10 (F := Ideal) c M h x0) j = Ideal.sqrt ((((pick (sl.v2 (F := Ideal) c M h x0) j * pick (sl.v2 (F := Ideal) c M h x0) j) + (pick (sl.v3 (F := Ideal) c M h x0) j * pick (sl.v3 (F := Ideal) c M h x0) j)) + (pick (sl.v4 (F := Ideal) c M h x0) j * pick (sl.v4 (F := Ideal) c M h x0) j))) := rfl
  rw [e] <;> rfl

theorem at_v14 : pick (sl.v14 (F := Ideal) c M h x0) j = inv (pick (sl.v2 (F := Ideal) c M h x0) j) (pick (sl.v3 (F := Ideal) c M h x0) j) (pick (sl.v4 (F := Ideal) c M h x0) j) := by
  have e : pick (sl.v14 (F := Ideal) c M h x0) j = Ideal.div (Ideal.ofBits .f32 0x3F800000#32) (max (pick (sl.v10 (F := Ideal) c M h x0) j) (lo)) := rfl
  rw [e, at_v10, bits_num_1] <;> rfl

theorem at_v15 : pick (sl.v15 (F := Ideal) c M h x0) j = ux (pick (sl.v2 (F := Ideal) c M h x0) j) (pick (sl.v3 (F := Ideal) c M h x0) j) (pick (sl.v4 (F := Ideal) c M h x0) j) := by
  have e : pick (sl.v15 (F := Ideal) c M h x0) j = (pick (sl.v2 (F := Ideal) c M h x0) j * pick (sl.v14 (F := Ideal) c M h x0) j) := rfl
  rw [e, at_v14] <;> rfl

theorem at_v16 : pick (sl.v16 (F := Ideal) c M h x0) j = uy (pick (sl.v2 (F := Ideal) c M h x0) j) (pick (sl.v3 (F := Ideal) c M h x0) j) (pick (sl.v4 (F := Ideal) c M h x0) j) := by
  have e : pick (sl.v16 (F := Ideal) c M h x0) j = (pick (sl.v3 (F := Ideal) c M h x0) j * pick (sl.v14 (F := Ideal) c M h x0) j) := rfl
  rw [e, at_v14] <;> rfl

theorem at_v17 : pick (sl.v17 (F := Ideal) c M h x0) j = uz (pick (sl.v2 (F := Ideal) c M h x0) j) (pick (sl.v3 (F := Ideal) c M h x0) j) (pick (sl.v4 (F := Ideal) c M h x0) j) := by
  have e : pick (sl.v17 (F := Ideal) c M h x0) j = (pick (sl.v4 (F := Ideal) c M h x0) j * pick (sl.v14 (F := Ideal) c M h x0) j) := rfl
  rw [e, at_v14] <;> rfl

theorem at_v23 : pick (sl.v23 (F := Ideal) c M h x0) j = sine (uz (pick (sl.v2 (F := Ideal) c M h x0) j) (pick (sl.v3 (F := Ideal) c M h x0) j) (pick (sl.v4 (F := Ideal) c M h x0) j)) := by
  have e : pick (sl.v23 (F := Ideal) c M h x0) j = Ideal.sqrt (max ((Ideal.ofBits .f32 0x3F800000#32 - (pick (sl.v17 (F := Ideal) c M h x0) j * pick (sl.v17 (F := Ideal) c M h x0) j))) (lo)) := rfl
  rw [e, at_v17, bits_num_1] <;> rfl

theorem at_v31 : pick (sl.v31 (F := Ideal) c M h x0) j = spin (ux (pick (sl.v2 (F := Ideal) c M h x0) j) (pick (sl.v3 (F := Ideal) c M h x0) j) (pick (sl.v4 (F := Ideal) c M h x0) j)) (uy (pick (sl.v2 (F := Ideal) c M h x0) j) (pick (sl.v3 (F := Ideal) c M h x0) j) (pick (sl.v4 (F := Ideal) c M h x0) j)) := by
  have e : pick (sl.v31 (F := Ideal) c M h x0) j = Ideal.div (Ideal.ofBits .f32 0x3F800000#32) (max (Ideal.sqrt (((pick (sl.v15 (F := Ideal) c M h x0) j * pick (sl.v15 (F := Ideal) c M h x0) j) + (pick (sl.v16 (F := Ideal) c M h x0) j * pick (sl.v16 (F := Ideal) c M h x0) j)))) (tiny)) := rfl
  rw [e, at_v15, at_v16, bits_num_1] <;> rfl

theorem at_v32 : pick (sl.v32 (F := Ideal) c M h x0) j = (turns (pick (sl.v2 (F := Ideal) c M h x0) j) (pick (sl.v3 (F := Ideal) c M h x0) j) (pick (sl.v4 (F := Ideal) c M h x0) j) 0).1 := by
  have e : pick (sl.v32 (F := Ideal) c M h x0) j = (pick (sl.v15 (F := Ideal) c M h x0) j * pick (sl.v31 (F := Ideal) c M h x0) j) := rfl
  rw [e, at_v15, at_v31] <;> rfl

theorem at_v33 : pick (sl.v33 (F := Ideal) c M h x0) j = (turns (pick (sl.v2 (F := Ideal) c M h x0) j) (pick (sl.v3 (F := Ideal) c M h x0) j) (pick (sl.v4 (F := Ideal) c M h x0) j) 0).2 := by
  have e : pick (sl.v33 (F := Ideal) c M h x0) j = (pick (sl.v16 (F := Ideal) c M h x0) j * pick (sl.v31 (F := Ideal) c M h x0) j) := rfl
  rw [e, at_v16, at_v31] <;> rfl

theorem at_v36 : pick (sl.v36 (F := Ideal) c M h x0) j = (turns (pick (sl.v2 (F := Ideal) c M h x0) j) (pick (sl.v3 (F := Ideal) c M h x0) j) (pick (sl.v4 (F := Ideal) c M h x0) j) 1).1 := by
  have e : pick (sl.v36 (F := Ideal) c M h x0) j = ((pick (sl.v32 (F := Ideal) c M h x0) j * pick (sl.v32 (F := Ideal) c M h x0) j) - (pick (sl.v33 (F := Ideal) c M h x0) j * pick (sl.v33 (F := Ideal) c M h x0) j)) := rfl
  rw [e, at_v32, at_v33] <;> rfl

theorem at_v39 : pick (sl.v39 (F := Ideal) c M h x0) j = (turns (pick (sl.v2 (F := Ideal) c M h x0) j) (pick (sl.v3 (F := Ideal) c M h x0) j) (pick (sl.v4 (F := Ideal) c M h x0) j) 1).2 := by
  have e : pick (sl.v39 (F := Ideal) c M h x0) j = ((pick (sl.v33 (F := Ideal) c M h x0) j * pick (sl.v32 (F := Ideal) c M h x0) j) + (pick (sl.v32 (F := Ideal) c M h x0) j * pick (sl.v33 (F := Ideal) c M h x0) j)) := rfl
  rw [e, at_v32, at_v33] <;> rfl

theorem at_v42 : pick (sl.v42 (F := Ideal) c M h x0) j = (turns (pick (sl.v2 (F := Ideal) c M h x0) j) (pick (sl.v3 (F := Ideal) c M h x0) j) (pick (sl.v4 (F := Ideal) c M h x0) j) 2).1 := by
  have e : pick (sl.v42 (F := Ideal) c M h x0) j = ((pick (sl.v36 (F := Ideal) c M h x0) j * pick (sl.v32 (F := Ideal) c M h x0) j) - (pick (sl.v39 (F := Ideal) c M h x0) j * pick (sl.v33 (F := Ideal) c M h x0) j)) := rfl
  rw [e, at_v32, at_v33, at_v36, at_v39] <;> rfl

theorem at_v45 : pick (sl.v45 (F := Ideal) c M h x0) j = (turns (pick (sl.v2 (F := Ideal) c M h x0) j) (pick (sl.v3 (F := Ideal) c M h x0) j) (pick (sl.v4 (F := Ideal) c M h x0) j) 2).2 := by
  have e : pick (sl.v45 (F := Ideal) c M h x0) j = ((pick (sl.v39 (F := Ideal) c M h x0) j * pick (sl.v32 (F := Ideal) c M h x0) j) + (pick (sl.v36 (F := Ideal) c M h x0) j * pick (sl.v33 (F := Ideal) c M h x0) j)) := rfl
  rw [e, at_v32, at_v33, at_v36, at_v39] <;> rfl

theorem at_v48 : pick (sl.v48 (F := Ideal) c M h x0) j = (turns (pick (sl.v2 (F := Ideal) c M h x0) j) (pick (sl.v3 (F := Ideal) c M h x0) j) (pick (sl.v4 (F := Ideal) c M h x0) j) 3).1 := by
  have e : pick (sl.v48 (F := Ideal) c M h x0) j = ((pick (sl.v42 (F := Ideal) c M h x0) j * pick (sl.v32 (F := Ideal) c M h x0) j) - (pick (sl.v45 (F := Ideal) c M h x0) j * pick (sl.v33 (F := Ideal) c M h x0) j)) := rfl
  rw [e, at_v32, at_v33, at_v42, at_v45] <;> rfl

theorem at_v51 : pick (sl.v51 (F := Ideal) c M h x0) j = (turns (pick (sl.v2 (F := Ideal) c M h x0) j) (pick (sl.v3 (F := Ideal) c M h x0) j) (pick (sl.v4 (F := Ideal) c M h x0) j) 3).2 := by
  have e : pick (sl.v51 (F := Ideal) c M h x0) j = ((pick (sl.v45 (F := Ideal) c M h x0) j * pick (sl.v32 (F := Ideal) c M h x0) j) + (pick (sl.v42 (F := Ideal) c M h x0) j * pick (sl.v33 (F := Ideal) c M h x0) j)) := rfl
  rw [e, at_v32, at_v33, at_v42, at_v45] <;> rfl

theorem at_v54 : pick (sl.v54 (F := Ideal) c M h x0) j = (turns (pick (sl.v2 (F := Ideal) c M h x0) j) (pick (sl.v3 (F := Ideal) c M h x0) j) (pick (sl.v4 (F := Ideal) c M h x0) j) 4).1 := by
  have e : pick (sl.v54 (F := Ideal) c M h x0) j = ((pick (sl.v48 (F := Ideal) c M h x0) j * pick (sl.v32 (F := Ideal) c M h x0) j) - (pick (sl.v51 (F := Ideal) c M h x0) j * pick (sl.v33 (F := Ideal) c M h x0) j)) := rfl
  rw [e, at_v32, at_v33, at_v48, at_v51] <;> rfl

theorem at_v57 : pick (sl.v57 (F := Ideal) c M h x0) j = (turns (pick (sl.v2 (F := Ideal) c M h x0) j) (pick (sl.v3 (F := Ideal) c M h x0) j) (pick (sl.v4 (F := Ideal) c M h x0) j) 4).2 := by
  have e : pick (sl.v57 (F := Ideal) c M h x0) j = ((pick (sl.v51 (F := Ideal) c M h x0) j * pick (sl.v32 (F := Ideal) c M h x0) j) + (pick (sl.v48 (F := Ideal) c M h x0) j * pick (sl.v33 (F := Ideal) c M h x0) j)) := rfl
  rw [e, at_v32, at_v33, at_v48, at_v51] <;> rfl

theorem at_v60 : pick (sl.v60 (F := Ideal) c M h x0) j = (turns (pick (sl.v2 (F := Ideal) c M h x0) j) (pick (sl.v3 (F := Ideal) c M h x0) j) (pick (sl.v4 (F := Ideal) c M h x0) j) 5).1 := by
  have e : pick (sl.v60 (F := Ideal) c M h x0) j = ((pick (sl.v54 (F := Ideal) c M h x0) j * pick (sl.v32 (F := Ideal) c M h x0) j) - (pick (sl.v57 (F := Ideal) c M h x0) j * pick (sl.v33 (F := Ideal) c M h x0) j)) := rfl
  rw [e, at_v32, at_v33, at_v54, at_v57] <;> rfl

theorem at_v63 : pick (sl.v63 (F := Ideal) c M h x0) j = (turns (pick (sl.v2 (F := Ideal) c M h x0) j) (pick (sl.v3 (F := Ideal) c M h x0) j) (pick (sl.v4 (F := Ideal) c M h x0) j) 5).2 := by
  have e : pick (sl.v63 (F := Ideal) c M h x0) j = ((pick (sl.v57 (F := Ideal) c M h x0) j * pick (sl.v32 (F := Ideal) c M h x0) j) + (pick (sl.v54 (F := Ideal) c M h x0) j * pick (sl.v33 (F := Ideal) c M h x0) j)) := rfl
  rw [e, at_v32, at_v33, at_v54, at_v57] <;> rfl

theorem at_v67 : pick (sl.v67 (F := Ideal) c M h x0) j = legs (pick (sl.v2 (F := Ideal) c M h x0) j) (pick (sl.v3 (F := Ideal) c M h x0) j) (pick (sl.v4 (F := Ideal) c M h x0) j) 1 0 := by
  have e : pick (sl.v67 (F := Ideal) c M h x0) j = ((Ideal.ofBits .f32 0xBF800000#32 * pick (sl.v23 (F := Ideal) c M h x0) j) * Ideal.ofBits .f32 0x3F800000#32) := rfl
  rw [e, at_v23, bits_neg_1, bits_num_1] <;> rfl

theorem at_v70 : pick (sl.v70 (F := Ideal) c M h x0) j = legs (pick (sl.v2 (F := Ideal) c M h x0) j) (pick (sl.v3 (F := Ideal) c M h x0) j) (pick (sl.v4 (F := Ideal) c M h x0) j) 2 0 := by
  have e : pick (sl.v70 (F := Ideal) c M h x0) j = ((Ideal.ofBits .f32 0xC0400000#32 * pick (sl.v23 (F := Ideal) c M h x0) j) * pick (sl.v67 (F := Ideal) c M h x0) j) := rfl
  rw [e, at_v23, at_v67, bits_neg_3] <;> rfl

theorem at_v73 : pick (sl.v73 (F := Ideal) c M h x0) j = legs (pick (sl.v2 (F := Ideal) c M h x0) j) (pick (sl.v3 (F := Ideal) c M h x0) j) (pick (sl.v4 (F := Ideal) c M h x0) j) 3 0 := by
  have e : pick (sl.v73 (F := Ideal) c M h x0) j = ((Ideal.ofBits .f32 0xC0A00000#32 * pick (sl.v23 (F := Ideal) c M h x0) j) * pick (sl.v70 (F := Ideal) c M h x0) j) := rfl
  rw [e, at_v23, at_v70, bits_neg_5] <;> rfl

theorem at_v76 : pick (sl.v76 (F := Ideal) c M h x0) j = legs (pick (sl.v2 (F := Ideal) c M h x0) j) (pick (sl.v3 (F := Ideal) c M h x0) j) (pick (sl.v4 (F := Ideal) c M h x0) j) 4 0 := by
  have e : pick (sl.v76 (F := Ideal) c M h x0) j = ((Ideal.ofBits .f32 0xC0E00000#32 * pick (sl.v23 (F := Ideal) c M h x0) j) * pick (sl.v73 (F := Ideal) c M h x0) j) := rfl
  rw [e, at_v23, at_v73, bits_neg_7] <;> rfl

theorem at_v79 : pick (sl.v79 (F := Ideal) c M h x0) j = legs (pick (sl.v2 (F := Ideal) c M h x0) j) (pick (sl.v3 (F := Ideal) c M h x0) j) (pick (sl.v4 (F := Ideal) c M h x0) j) 5 0 := by
  have e : pick (sl.v79 (F := Ideal) c M h x0) j = ((Ideal.ofBits .f32 0xC1100000#32 * pick (sl.v23 (F := Ideal) c M h x0) j) * pick (sl.v76 (F := Ideal) c M h x0) j) := rfl
  rw [e, at_v23, at_v76, bits_neg_9] <;> rfl

theorem at_v82 : pick (sl.v82 (F := Ideal) c M h x0) j = legs (pick (sl.v2 (F := Ideal) c M h x0) j) (pick (sl.v3 (F := Ideal) c M h x0) j) (pick (sl.v4 (F := Ideal) c M h x0) j) 6 0 := by
  have e : pick (sl.v82 (F := Ideal) c M h x0) j = ((Ideal.ofBits .f32 0xC1300000#32 * pick (sl.v23 (F := Ideal) c M h x0) j) * pick (sl.v79 (F := Ideal) c M h x0) j) := rfl
  rw [e, at_v23, at_v79, bits_neg_11] <;> rfl

theorem at_v85 : pick (sl.v85 (F := Ideal) c M h x0) j = legs (pick (sl.v2 (F := Ideal) c M h x0) j) (pick (sl.v3 (F := Ideal) c M h x0) j) (pick (sl.v4 (F := Ideal) c M h x0) j) 0 1 := by
  have e : pick (sl.v85 (F := Ideal) c M h x0) j = ((Ideal.ofBits .f32 0x3F800000#32 * pick (sl.v17 (F := Ideal) c M h x0) j) * Ideal.ofBits .f32 0x3F800000#32) := rfl
  rw [e, at_v17, bits_num_1] <;> rfl

theorem at_v88 : pick (sl.v88 (F := Ideal) c M h x0) j = legs (pick (sl.v2 (F := Ideal) c M h x0) j) (pick (sl.v3 (F := Ideal) c M h x0) j) (pick (sl.v4 (F := Ideal) c M h x0) j) 1 1 := by
  have e : pick (sl.v88 (F := Ideal) c M h x0) j = ((Ideal.ofBits .f32 0x40400000#32 * pick (sl.v17 (F := Ideal) c M h x0) j) * pick (sl.v67 (F := Ideal) c M h x0) j) := rfl
  rw [e, at_v17, at_v67, bits_num_3] <;> rfl

theorem at_v91 : pick (sl.v91 (F := Ideal) c M h x0) j = legs (pick (sl.v2 (F := Ideal) c M h x0) j) (pick (sl.v3 (F := Ideal) c M h x0) j) (pick (sl.v4 (F := Ideal) c M h x0) j) 2 1 := by
  have e : pick (sl.v91 (F := Ideal) c M h x0) j = ((Ideal.ofBits .f32 0x40A00000#32 * pick (sl.v17 (F := Ideal) c M h x0) j) * pick (sl.v70 (F := Ideal) c M h x0) j) := rfl
  rw [e, at_v17, at_v70, bits_num_5] <;> rfl

theorem at_v94 : pick (sl.v94 (F := Ideal) c M h x0) j = legs (pick (sl.v2 (F := Ideal) c M h x0) j) (pick (sl.v3 (F := Ideal) c M h x0) j) (pick (sl.v4 (F := Ideal) c M h x0) j) 3 1 := by
  have e : pick (sl.v94 (F := Ideal) c M h x0) j = ((Ideal.ofBits .f32 0x40E00000#32 * pick (sl.v17 (F := Ideal) c M h x0) j) * pick (sl.v73 (F := Ideal) c M h x0) j) := rfl
  rw [e, at_v17, at_v73, bits_num_7] <;> rfl

theorem at_v97 : pick (sl.v97 (F := Ideal) c M h x0) j = legs (pick (sl.v2 (F := Ideal) c M h x0) j) (pick (sl.v3 (F := Ideal) c M h x0) j) (pick (sl.v4 (F := Ideal) c M h x0) j) 4 1 := by
  have e : pick (sl.v97 (F := Ideal) c M h x0) j = ((Ideal.ofBits .f32 0x41100000#32 * pick (sl.v17 (F := Ideal) c M h x0) j) * pick (sl.v76 (F := Ideal) c M h x0) j) := rfl
  rw [e, at_v17, at_v76, bits_num_9] <;> rfl

theorem at_r : pick (sl.r (F := Ideal) c M h x0) j = legs (pick (sl.v2 (F := Ideal) c M h x0) j) (pick (sl.v3 (F := Ideal) c M h x0) j) (pick (sl.v4 (F := Ideal) c M h x0) j) 5 1 := by
  have e : pick (sl.r (F := Ideal) c M h x0) j = ((Ideal.ofBits .f32 0x41300000#32 * pick (sl.v17 (F := Ideal) c M h x0) j) * pick (sl.v79 (F := Ideal) c M h x0) j) := rfl
  rw [e, at_v17, at_v79, bits_num_11] <;> rfl

theorem at_r_1 : pick (sl.r_1 (F := Ideal) c M h x0) j = legs (pick (sl.v2 (F := Ideal) c M h x0) j) (pick (sl.v3 (F := Ideal) c M h x0) j) (pick (sl.v4 (F := Ideal) c M h x0) j) 0 2 := by
  have e : pick (sl.r_1 (F := Ideal) c M h x0) j = ((((Ideal.ofBits .f32 0x40400000#32 * pick (sl.v17 (F := Ideal) c M h x0) j) * pick (sl.v85 (F := Ideal) c M h x0) j) - (Ideal.ofBits .f32 0x3F800000#32 * Ideal.ofBits .f32 0x3F800000#32)) * Ideal.ofBits .f32 0x3F000000#32) := rfl
  rw [e, at_v17, at_v85, bits_num_1, bits_num_3, bits_recip_2] <;> rfl

theorem at_r_2 : pick (sl.r_2 (F := Ideal) c M h x0) j = legs (pick (sl.v2 (F := Ideal) c M h x0) j) (pick (sl.v3 (F := Ideal) c M h x0) j) (pick (sl.v4 (F := Ideal) c M h x0) j) 0 3 := by
  have e : pick (sl.r_2 (F := Ideal) c M h x0) j = ((((Ideal.ofBits .f32 0x40A00000#32 * pick (sl.v17 (F := Ideal) c M h x0) j) * pick (sl.r_1 (F := Ideal) c M h x0) j) - (Ideal.ofBits .f32 0x40000000#32 * pick (sl.v85 (F := Ideal) c M h x0) j)) * Named.named (F := Ideal) κ "third" (φ := .f32) 0x3EAAAAAB#32) := rfl
  rw [e, at_r_1, at_v17, at_v85, bits_num_2, bits_num_5, named_third] <;> rfl

theorem at_r_3 : pick (sl.r_3 (F := Ideal) c M h x0) j = legs (pick (sl.v2 (F := Ideal) c M h x0) j) (pick (sl.v3 (F := Ideal) c M h x0) j) (pick (sl.v4 (F := Ideal) c M h x0) j) 0 4 := by
  have e : pick (sl.r_3 (F := Ideal) c M h x0) j = ((((Ideal.ofBits .f32 0x40E00000#32 * pick (sl.v17 (F := Ideal) c M h x0) j) * pick (sl.r_2 (F := Ideal) c M h x0) j) - (Ideal.ofBits .f32 0x40400000#32 * pick (sl.r_1 (F := Ideal) c M h x0) j)) * Ideal.ofBits .f32 0x3E800000#32) := rfl
  rw [e, at_r_1, at_r_2, at_v17, bits_num_3, bits_num_7, bits_recip_4] <;> rfl

theorem at_r_4 : pick (sl.r_4 (F := Ideal) c M h x0) j = legs (pick (sl.v2 (F := Ideal) c M h x0) j) (pick (sl.v3 (F := Ideal) c M h x0) j) (pick (sl.v4 (F := Ideal) c M h x0) j) 0 5 := by
  have e : pick (sl.r_4 (F := Ideal) c M h x0) j = ((((Ideal.ofBits .f32 0x41100000#32 * pick (sl.v17 (F := Ideal) c M h x0) j) * pick (sl.r_3 (F := Ideal) c M h x0) j) - (Ideal.ofBits .f32 0x40800000#32 * pick (sl.r_2 (F := Ideal) c M h x0) j)) * Named.named (F := Ideal) κ "fifth" (φ := .f32) 0x3E4CCCCD#32) := rfl
  rw [e, at_r_2, at_r_3, at_v17, bits_num_4, bits_num_9, named_fifth] <;> rfl

theorem at_r_5 : pick (sl.r_5 (F := Ideal) c M h x0) j = legs (pick (sl.v2 (F := Ideal) c M h x0) j) (pick (sl.v3 (F := Ideal) c M h x0) j) (pick (sl.v4 (F := Ideal) c M h x0) j) 0 6 := by
  have e : pick (sl.r_5 (F := Ideal) c M h x0) j = ((((Ideal.ofBits .f32 0x41300000#32 * pick (sl.v17 (F := Ideal) c M h x0) j) * pick (sl.r_4 (F := Ideal) c M h x0) j) - (Ideal.ofBits .f32 0x40A00000#32 * pick (sl.r_3 (F := Ideal) c M h x0) j)) * Named.named (F := Ideal) κ "sixth" (φ := .f32) 0x3E2AAAAB#32) := rfl
  rw [e, at_r_3, at_r_4, at_v17, bits_num_11, bits_num_5, named_sixth] <;> rfl

theorem at_r_6 : pick (sl.r_6 (F := Ideal) c M h x0) j = legs (pick (sl.v2 (F := Ideal) c M h x0) j) (pick (sl.v3 (F := Ideal) c M h x0) j) (pick (sl.v4 (F := Ideal) c M h x0) j) 1 2 := by
  have e : pick (sl.r_6 (F := Ideal) c M h x0) j = ((((Ideal.ofBits .f32 0x40A00000#32 * pick (sl.v17 (F := Ideal) c M h x0) j) * pick (sl.v88 (F := Ideal) c M h x0) j) - (Ideal.ofBits .f32 0x40400000#32 * pick (sl.v67 (F := Ideal) c M h x0) j)) * Ideal.ofBits .f32 0x3F000000#32) := rfl
  rw [e, at_v17, at_v67, at_v88, bits_num_3, bits_num_5, bits_recip_2] <;> rfl

theorem at_r_7 : pick (sl.r_7 (F := Ideal) c M h x0) j = legs (pick (sl.v2 (F := Ideal) c M h x0) j) (pick (sl.v3 (F := Ideal) c M h x0) j) (pick (sl.v4 (F := Ideal) c M h x0) j) 1 3 := by
  have e : pick (sl.r_7 (F := Ideal) c M h x0) j = ((((Ideal.ofBits .f32 0x40E00000#32 * pick (sl.v17 (F := Ideal) c M h x0) j) * pick (sl.r_6 (F := Ideal) c M h x0) j) - (Ideal.ofBits .f32 0x40800000#32 * pick (sl.v88 (F := Ideal) c M h x0) j)) * Named.named (F := Ideal) κ "third" (φ := .f32) 0x3EAAAAAB#32) := rfl
  rw [e, at_r_6, at_v17, at_v88, bits_num_4, bits_num_7, named_third] <;> rfl

theorem at_r_8 : pick (sl.r_8 (F := Ideal) c M h x0) j = legs (pick (sl.v2 (F := Ideal) c M h x0) j) (pick (sl.v3 (F := Ideal) c M h x0) j) (pick (sl.v4 (F := Ideal) c M h x0) j) 1 4 := by
  have e : pick (sl.r_8 (F := Ideal) c M h x0) j = ((((Ideal.ofBits .f32 0x41100000#32 * pick (sl.v17 (F := Ideal) c M h x0) j) * pick (sl.r_7 (F := Ideal) c M h x0) j) - (Ideal.ofBits .f32 0x40A00000#32 * pick (sl.r_6 (F := Ideal) c M h x0) j)) * Ideal.ofBits .f32 0x3E800000#32) := rfl
  rw [e, at_r_6, at_r_7, at_v17, bits_num_5, bits_num_9, bits_recip_4] <;> rfl

theorem at_r_9 : pick (sl.r_9 (F := Ideal) c M h x0) j = legs (pick (sl.v2 (F := Ideal) c M h x0) j) (pick (sl.v3 (F := Ideal) c M h x0) j) (pick (sl.v4 (F := Ideal) c M h x0) j) 1 5 := by
  have e : pick (sl.r_9 (F := Ideal) c M h x0) j = ((((Ideal.ofBits .f32 0x41300000#32 * pick (sl.v17 (F := Ideal) c M h x0) j) * pick (sl.r_8 (F := Ideal) c M h x0) j) - (Ideal.ofBits .f32 0x40C00000#32 * pick (sl.r_7 (F := Ideal) c M h x0) j)) * Named.named (F := Ideal) κ "fifth" (φ := .f32) 0x3E4CCCCD#32) := rfl
  rw [e, at_r_7, at_r_8, at_v17, bits_num_11, bits_num_6, named_fifth] <;> rfl

theorem at_r_10 : pick (sl.r_10 (F := Ideal) c M h x0) j = legs (pick (sl.v2 (F := Ideal) c M h x0) j) (pick (sl.v3 (F := Ideal) c M h x0) j) (pick (sl.v4 (F := Ideal) c M h x0) j) 2 2 := by
  have e : pick (sl.r_10 (F := Ideal) c M h x0) j = ((((Ideal.ofBits .f32 0x40E00000#32 * pick (sl.v17 (F := Ideal) c M h x0) j) * pick (sl.v91 (F := Ideal) c M h x0) j) - (Ideal.ofBits .f32 0x40A00000#32 * pick (sl.v70 (F := Ideal) c M h x0) j)) * Ideal.ofBits .f32 0x3F000000#32) := rfl
  rw [e, at_v17, at_v70, at_v91, bits_num_5, bits_num_7, bits_recip_2] <;> rfl

theorem at_r_12 : pick (sl.r_12 (F := Ideal) c M h x0) j = legs (pick (sl.v2 (F := Ideal) c M h x0) j) (pick (sl.v3 (F := Ideal) c M h x0) j) (pick (sl.v4 (F := Ideal) c M h x0) j) 2 3 := by
  have e : pick (sl.r_12 (F := Ideal) c M h x0) j = ((((Ideal.ofBits .f32 0x41100000#32 * pick (sl.v17 (F := Ideal) c M h x0) j) * pick (sl.r_10 (F := Ideal) c M h x0) j) - (Ideal.ofBits .f32 0x40C00000#32 * pick (sl.v91 (F := Ideal) c M h x0) j)) * Named.named (F := Ideal) κ "third" (φ := .f32) 0x3EAAAAAB#32) := rfl
  rw [e, at_r_10, at_v17, at_v91, bits_num_6, bits_num_9, named_third] <;> rfl

theorem at_r_13 : pick (sl.r_13 (F := Ideal) c M h x0) j = legs (pick (sl.v2 (F := Ideal) c M h x0) j) (pick (sl.v3 (F := Ideal) c M h x0) j) (pick (sl.v4 (F := Ideal) c M h x0) j) 2 4 := by
  have e : pick (sl.r_13 (F := Ideal) c M h x0) j = ((((Ideal.ofBits .f32 0x41300000#32 * pick (sl.v17 (F := Ideal) c M h x0) j) * pick (sl.r_12 (F := Ideal) c M h x0) j) - (Ideal.ofBits .f32 0x40E00000#32 * pick (sl.r_10 (F := Ideal) c M h x0) j)) * Ideal.ofBits .f32 0x3E800000#32) := rfl
  rw [e, at_r_10, at_r_12, at_v17, bits_num_11, bits_num_7, bits_recip_4] <;> rfl

theorem at_r_14 : pick (sl.r_14 (F := Ideal) c M h x0) j = legs (pick (sl.v2 (F := Ideal) c M h x0) j) (pick (sl.v3 (F := Ideal) c M h x0) j) (pick (sl.v4 (F := Ideal) c M h x0) j) 3 2 := by
  have e : pick (sl.r_14 (F := Ideal) c M h x0) j = ((((Ideal.ofBits .f32 0x41100000#32 * pick (sl.v17 (F := Ideal) c M h x0) j) * pick (sl.v94 (F := Ideal) c M h x0) j) - (Ideal.ofBits .f32 0x40E00000#32 * pick (sl.v73 (F := Ideal) c M h x0) j)) * Ideal.ofBits .f32 0x3F000000#32) := rfl
  rw [e, at_v17, at_v73, at_v94, bits_num_7, bits_num_9, bits_recip_2] <;> rfl

theorem at_r_15 : pick (sl.r_15 (F := Ideal) c M h x0) j = legs (pick (sl.v2 (F := Ideal) c M h x0) j) (pick (sl.v3 (F := Ideal) c M h x0) j) (pick (sl.v4 (F := Ideal) c M h x0) j) 3 3 := by
  have e : pick (sl.r_15 (F := Ideal) c M h x0) j = ((((Ideal.ofBits .f32 0x41300000#32 * pick (sl.v17 (F := Ideal) c M h x0) j) * pick (sl.r_14 (F := Ideal) c M h x0) j) - (Ideal.ofBits .f32 0x41000000#32 * pick (sl.v94 (F := Ideal) c M h x0) j)) * Named.named (F := Ideal) κ "third" (φ := .f32) 0x3EAAAAAB#32) := rfl
  rw [e, at_r_14, at_v17, at_v94, bits_num_11, bits_num_8, named_third] <;> rfl

theorem at_r_16 : pick (sl.r_16 (F := Ideal) c M h x0) j = legs (pick (sl.v2 (F := Ideal) c M h x0) j) (pick (sl.v3 (F := Ideal) c M h x0) j) (pick (sl.v4 (F := Ideal) c M h x0) j) 4 2 := by
  have e : pick (sl.r_16 (F := Ideal) c M h x0) j = ((((Ideal.ofBits .f32 0x41300000#32 * pick (sl.v17 (F := Ideal) c M h x0) j) * pick (sl.v97 (F := Ideal) c M h x0) j) - (Ideal.ofBits .f32 0x41100000#32 * pick (sl.v76 (F := Ideal) c M h x0) j)) * Ideal.ofBits .f32 0x3F000000#32) := rfl
  rw [e, at_v17, at_v76, at_v97, bits_num_11, bits_num_9, bits_recip_2] <;> rfl

theorem row_0 : pick (sl.r_17 (F := Ideal)) j = basis (pick (sl.v2 (F := Ideal) c M h x0) j) (pick (sl.v3 (F := Ideal) c M h x0) j) (pick (sl.v4 (F := Ideal) c M h x0) j) 0 0 := by
  have e : pick (sl.r_17 (F := Ideal)) j = (Ideal.ofBits .f32 0x3F800000#32 * Ideal.ofBits .f32 0x3F800000#32) := rfl
  rw [e, bits_num_1]
  show num 1 * num 1 = w 0 0 * num 1
  rw [← num_w_0_0]

theorem row_1 : pick (sl.r_18 (F := Ideal) c M h x0) j = basis (pick (sl.v2 (F := Ideal) c M h x0) j) (pick (sl.v3 (F := Ideal) c M h x0) j) (pick (sl.v4 (F := Ideal) c M h x0) j) 1 0 := by
  have e : pick (sl.r_18 (F := Ideal) c M h x0) j = ((Named.named (F := Ideal) κ "y10" (φ := .f32) 0x3FDDB3D7#32 * pick (sl.v67 (F := Ideal) c M h x0) j) * pick (sl.v33 (F := Ideal) c M h x0) j) := rfl
  rw [e, at_v33, at_v67, named_y10, named_y11] <;> rfl

theorem row_2 : pick (sl.r_19 (F := Ideal) c M h x0) j = basis (pick (sl.v2 (F := Ideal) c M h x0) j) (pick (sl.v3 (F := Ideal) c M h x0) j) (pick (sl.v4 (F := Ideal) c M h x0) j) 1 1 := by
  have e : pick (sl.r_19 (F := Ideal) c M h x0) j = (Named.named (F := Ideal) κ "y10" (φ := .f32) 0x3FDDB3D7#32 * pick (sl.v85 (F := Ideal) c M h x0) j) := rfl
  rw [e, at_v85, named_y10] <;> rfl

theorem row_3 : pick (sl.r_20 (F := Ideal) c M h x0) j = basis (pick (sl.v2 (F := Ideal) c M h x0) j) (pick (sl.v3 (F := Ideal) c M h x0) j) (pick (sl.v4 (F := Ideal) c M h x0) j) 1 2 := by
  have e : pick (sl.r_20 (F := Ideal) c M h x0) j = ((Named.named (F := Ideal) κ "y10" (φ := .f32) 0x3FDDB3D7#32 * pick (sl.v67 (F := Ideal) c M h x0) j) * pick (sl.v32 (F := Ideal) c M h x0) j) := rfl
  rw [e, at_v32, at_v67, named_y10, named_y11] <;> rfl

theorem row_4 : pick (sl.r_21 (F := Ideal) c M h x0) j = basis (pick (sl.v2 (F := Ideal) c M h x0) j) (pick (sl.v3 (F := Ideal) c M h x0) j) (pick (sl.v4 (F := Ideal) c M h x0) j) 2 0 := by
  have e : pick (sl.r_21 (F := Ideal) c M h x0) j = ((Named.named (F := Ideal) κ "y22" (φ := .f32) 0x3F253F4E#32 * pick (sl.v70 (F := Ideal) c M h x0) j) * pick (sl.v39 (F := Ideal) c M h x0) j) := rfl
  rw [e, at_v39, at_v70, named_y22] <;> rfl

theorem row_5 : pick (sl.r_22 (F := Ideal) c M h x0) j = basis (pick (sl.v2 (F := Ideal) c M h x0) j) (pick (sl.v3 (F := Ideal) c M h x0) j) (pick (sl.v4 (F := Ideal) c M h x0) j) 2 1 := by
  have e : pick (sl.r_22 (F := Ideal) c M h x0) j = ((Named.named (F := Ideal) κ "y21" (φ := .f32) 0x3FA53F4E#32 * pick (sl.v88 (F := Ideal) c M h x0) j) * pick (sl.v33 (F := Ideal) c M h x0) j) := rfl
  rw [e, at_v33, at_v88, named_y21] <;> rfl

theorem row_6 : pick (sl.r_23 (F := Ideal) c M h x0) j = basis (pick (sl.v2 (F := Ideal) c M h x0) j) (pick (sl.v3 (F := Ideal) c M h x0) j) (pick (sl.v4 (F := Ideal) c M h x0) j) 2 2 := by
  have e : pick (sl.r_23 (F := Ideal) c M h x0) j = (Named.named (F := Ideal) κ "y20" (φ := .f32) 0x400F1BBD#32 * pick (sl.r_1 (F := Ideal) c M h x0) j) := rfl
  rw [e, at_r_1, named_y20] <;> rfl

theorem row_7 : pick (sl.r_24 (F := Ideal) c M h x0) j = basis (pick (sl.v2 (F := Ideal) c M h x0) j) (pick (sl.v3 (F := Ideal) c M h x0) j) (pick (sl.v4 (F := Ideal) c M h x0) j) 2 3 := by
  have e : pick (sl.r_24 (F := Ideal) c M h x0) j = ((Named.named (F := Ideal) κ "y21" (φ := .f32) 0x3FA53F4E#32 * pick (sl.v88 (F := Ideal) c M h x0) j) * pick (sl.v32 (F := Ideal) c M h x0) j) := rfl
  rw [e, at_v32, at_v88, named_y21] <;> rfl

theorem row_8 : pick (sl.r_25 (F := Ideal) c M h x0) j = basis (pick (sl.v2 (F := Ideal) c M h x0) j) (pick (sl.v3 (F := Ideal) c M h x0) j) (pick (sl.v4 (F := Ideal) c M h x0) j) 2 4 := by
  have e : pick (sl.r_25 (F := Ideal) c M h x0) j = ((Named.named (F := Ideal) κ "y22" (φ := .f32) 0x3F253F4E#32 * pick (sl.v70 (F := Ideal) c M h x0) j) * pick (sl.v36 (F := Ideal) c M h x0) j) := rfl
  rw [e, at_v36, at_v70, named_y22] <;> rfl

theorem row_9 : pick (sl.r_26 (F := Ideal) c M h x0) j = basis (pick (sl.v2 (F := Ideal) c M h x0) j) (pick (sl.v3 (F := Ideal) c M h x0) j) (pick (sl.v4 (F := Ideal) c M h x0) j) 3 0 := by
  have e : pick (sl.r_26 (F := Ideal) c M h x0) j = ((Named.named (F := Ideal) κ "y33" (φ := .f32) 0x3E0ECA3C#32 * pick (sl.v73 (F := Ideal) c M h x0) j) * pick (sl.v45 (F := Ideal) c M h x0) j) := rfl
  rw [e, at_v45, at_v73, named_y33] <;> rfl

theorem row_10 : pick (sl.r_27 (F := Ideal) c M h x0) j = basis (pick (sl.v2 (F := Ideal) c M h x0) j) (pick (sl.v3 (F := Ideal) c M h x0) j) (pick (sl.v4 (F := Ideal) c M h x0) j) 3 1 := by
  have e : pick (sl.r_27 (F := Ideal) c M h x0) j = ((Named.named (F := Ideal) κ "y32" (φ := .f32) 0x3EAEE19C#32 * pick (sl.v91 (F := Ideal) c M h x0) j) * pick (sl.v39 (F := Ideal) c M h x0) j) := rfl
  rw [e, at_v39, at_v91, named_y32] <;> rfl

theorem row_11 : pick (sl.r_28 (F := Ideal) c M h x0) j = basis (pick (sl.v2 (F := Ideal) c M h x0) j) (pick (sl.v3 (F := Ideal) c M h x0) j) (pick (sl.v4 (F := Ideal) c M h x0) j) 3 2 := by
  have e : pick (sl.r_28 (F := Ideal) c M h x0) j = ((Named.named (F := Ideal) κ "y31" (φ := .f32) 0x3F8A417C#32 * pick (sl.r_6 (F := Ideal) c M h x0) j) * pick (sl.v33 (F := Ideal) c M h x0) j) := rfl
  rw [e, at_r_6, at_v33, named_y31] <;> rfl

theorem row_12 : pick (sl.r_29 (F := Ideal) c M h x0) j = basis (pick (sl.v2 (F := Ideal) c M h x0) j) (pick (sl.v3 (F := Ideal) c M h x0) j) (pick (sl.v4 (F := Ideal) c M h x0) j) 3 3 := by
  have e : pick (sl.r_29 (F := Ideal) c M h x0) j = (Named.named (F := Ideal) κ "y30" (φ := .f32) 0x402953FD#32 * pick (sl.r_2 (F := Ideal) c M h x0) j) := rfl
  rw [e, at_r_2, named_y30] <;> rfl

theorem row_13 : pick (sl.r_30 (F := Ideal) c M h x0) j = basis (pick (sl.v2 (F := Ideal) c M h x0) j) (pick (sl.v3 (F := Ideal) c M h x0) j) (pick (sl.v4 (F := Ideal) c M h x0) j) 3 4 := by
  have e : pick (sl.r_30 (F := Ideal) c M h x0) j = ((Named.named (F := Ideal) κ "y31" (φ := .f32) 0x3F8A417C#32 * pick (sl.r_6 (F := Ideal) c M h x0) j) * pick (sl.v32 (F := Ideal) c M h x0) j) := rfl
  rw [e, at_r_6, at_v32, named_y31] <;> rfl

theorem row_14 : pick (sl.r_31 (F := Ideal) c M h x0) j = basis (pick (sl.v2 (F := Ideal) c M h x0) j) (pick (sl.v3 (F := Ideal) c M h x0) j) (pick (sl.v4 (F := Ideal) c M h x0) j) 3 5 := by
  have e : pick (sl.r_31 (F := Ideal) c M h x0) j = ((Named.named (F := Ideal) κ "y32" (φ := .f32) 0x3EAEE19C#32 * pick (sl.v91 (F := Ideal) c M h x0) j) * pick (sl.v36 (F := Ideal) c M h x0) j) := rfl
  rw [e, at_v36, at_v91, named_y32] <;> rfl

theorem row_15 : pick (sl.r_32 (F := Ideal) c M h x0) j = basis (pick (sl.v2 (F := Ideal) c M h x0) j) (pick (sl.v3 (F := Ideal) c M h x0) j) (pick (sl.v4 (F := Ideal) c M h x0) j) 3 6 := by
  have e : pick (sl.r_32 (F := Ideal) c M h x0) j = ((Named.named (F := Ideal) κ "y33" (φ := .f32) 0x3E0ECA3C#32 * pick (sl.v73 (F := Ideal) c M h x0) j) * pick (sl.v42 (F := Ideal) c M h x0) j) := rfl
  rw [e, at_v42, at_v73, named_y33] <;> rfl

theorem row_16 : pick (sl.r_33 (F := Ideal) c M h x0) j = basis (pick (sl.v2 (F := Ideal) c M h x0) j) (pick (sl.v3 (F := Ideal) c M h x0) j) (pick (sl.v4 (F := Ideal) c M h x0) j) 4 0 := by
  have e : pick (sl.r_33 (F := Ideal) c M h x0) j = ((Named.named (F := Ideal) κ "y44" (φ := .f32) 0x3CAD166C#32 * pick (sl.v76 (F := Ideal) c M h x0) j) * pick (sl.v51 (F := Ideal) c M h x0) j) := rfl
  rw [e, at_v51, at_v76, named_y44] <;> rfl

theorem row_17 : pick (sl.r_34 (F := Ideal) c M h x0) j = basis (pick (sl.v2 (F := Ideal) c M h x0) j) (pick (sl.v3 (F := Ideal) c M h x0) j) (pick (sl.v4 (F := Ideal) c M h x0) j) 4 1 := by
  have e : pick (sl.r_34 (F := Ideal) c M h x0) j = ((Named.named (F := Ideal) κ "y43" (φ := .f32) 0x3D74C867#32 * pick (sl.v94 (F := Ideal) c M h x0) j) * pick (sl.v45 (F := Ideal) c M h x0) j) := rfl
  rw [e, at_v45, at_v94, named_y43] <;> rfl

theorem row_18 : pick (sl.r_36 (F := Ideal) c M h x0) j = basis (pick (sl.v2 (F := Ideal) c M h x0) j) (pick (sl.v3 (F := Ideal) c M h x0) j) (pick (sl.v4 (F := Ideal) c M h x0) j) 4 2 := by
  have e : pick (sl.r_36 (F := Ideal) c M h x0) j = ((Named.named (F := Ideal) κ "y42" (φ := .f32) 0x3E64F92E#32 * pick (sl.r_10 (F := Ideal) c M h x0) j) * pick (sl.v39 (F := Ideal) c M h x0) j) := rfl
  rw [e, at_r_10, at_v39, named_y42] <;> rfl

theorem row_19 : pick (sl.r_37 (F := Ideal) c M h x0) j = basis (pick (sl.v2 (F := Ideal) c M h x0) j) (pick (sl.v3 (F := Ideal) c M h x0) j) (pick (sl.v4 (F := Ideal) c M h x0) j) 4 3 := by
  have e : pick (sl.r_37 (F := Ideal) c M h x0) j = ((Named.named (F := Ideal) κ "y41" (φ := .f32) 0x3F72DCE9#32 * pick (sl.r_7 (F := Ideal) c M h x0) j) * pick (sl.v33 (F := Ideal) c M h x0) j) := rfl
  rw [e, at_r_7, at_v33, named_y41] <;> rfl

theorem row_20 : pick (sl.r_38 (F := Ideal) c M h x0) j = basis (pick (sl.v2 (F := Ideal) c M h x0) j) (pick (sl.v3 (F := Ideal) c M h x0) j) (pick (sl.v4 (F := Ideal) c M h x0) j) 4 4 := by
  have e : pick (sl.r_38 (F := Ideal) c M h x0) j = (Ideal.ofBits .f32 0x40400000#32 * pick (sl.r_3 (F := Ideal) c M h x0) j) := rfl
  rw [e, at_r_3, bits_num_3, num_w_4_0] <;> rfl

theorem row_21 : pick (sl.r_39 (F := Ideal) c M h x0) j = basis (pick (sl.v2 (F := Ideal) c M h x0) j) (pick (sl.v3 (F := Ideal) c M h x0) j) (pick (sl.v4 (F := Ideal) c M h x0) j) 4 5 := by
  have e : pick (sl.r_39 (F := Ideal) c M h x0) j = ((Named.named (F := Ideal) κ "y41" (φ := .f32) 0x3F72DCE9#32 * pick (sl.r_7 (F := Ideal) c M h x0) j) * pick (sl.v32 (F := Ideal) c M h x0) j) := rfl
  rw [e, at_r_7, at_v32, named_y41] <;> rfl

theorem row_22 : pick (sl.r_40 (F := Ideal) c M h x0) j = basis (pick (sl.v2 (F := Ideal) c M h x0) j) (pick (sl.v3 (F := Ideal) c M h x0) j) (pick (sl.v4 (F := Ideal) c M h x0) j) 4 6 := by
  have e : pick (sl.r_40 (F := Ideal) c M h x0) j = ((Named.named (F := Ideal) κ "y42" (φ := .f32) 0x3E64F92E#32 * pick (sl.r_10 (F := Ideal) c M h x0) j) * pick (sl.v36 (F := Ideal) c M h x0) j) := rfl
  rw [e, at_r_10, at_v36, named_y42] <;> rfl

theorem row_23 : pick (sl.r_41 (F := Ideal) c M h x0) j = basis (pick (sl.v2 (F := Ideal) c M h x0) j) (pick (sl.v3 (F := Ideal) c M h x0) j) (pick (sl.v4 (F := Ideal) c M h x0) j) 4 7 := by
  have e : pick (sl.r_41 (F := Ideal) c M h x0) j = ((Named.named (F := Ideal) κ "y43" (φ := .f32) 0x3D74C867#32 * pick (sl.v94 (F := Ideal) c M h x0) j) * pick (sl.v42 (F := Ideal) c M h x0) j) := rfl
  rw [e, at_v42, at_v94, named_y43] <;> rfl

theorem row_24 : pick (sl.r_42 (F := Ideal) c M h x0) j = basis (pick (sl.v2 (F := Ideal) c M h x0) j) (pick (sl.v3 (F := Ideal) c M h x0) j) (pick (sl.v4 (F := Ideal) c M h x0) j) 4 8 := by
  have e : pick (sl.r_42 (F := Ideal) c M h x0) j = ((Named.named (F := Ideal) κ "y44" (φ := .f32) 0x3CAD166C#32 * pick (sl.v76 (F := Ideal) c M h x0) j) * pick (sl.v48 (F := Ideal) c M h x0) j) := rfl
  rw [e, at_v48, at_v76, named_y44] <;> rfl

theorem row_25 : pick (sl.r_43 (F := Ideal) c M h x0) j = basis (pick (sl.v2 (F := Ideal) c M h x0) j) (pick (sl.v3 (F := Ideal) c M h x0) j) (pick (sl.v4 (F := Ideal) c M h x0) j) 5 0 := by
  have e : pick (sl.r_43 (F := Ideal) c M h x0) j = ((Named.named (F := Ideal) κ "y55" (φ := .f32) 0x3B215D7B#32 * pick (sl.v79 (F := Ideal) c M h x0) j) * pick (sl.v57 (F := Ideal) c M h x0) j) := rfl
  rw [e, at_v57, at_v79, named_y55] <;> rfl

theorem row_26 : pick (sl.r_44 (F := Ideal) c M h x0) j = basis (pick (sl.v2 (F := Ideal) c M h x0) j) (pick (sl.v3 (F := Ideal) c M h x0) j) (pick (sl.v4 (F := Ideal) c M h x0) j) 5 1 := by
  have e : pick (sl.r_44 (F := Ideal) c M h x0) j = ((Named.named (F := Ideal) κ "y54" (φ := .f32) 0x3BFF2406#32 * pick (sl.v97 (F := Ideal) c M h x0) j) * pick (sl.v51 (F := Ideal) c M h x0) j) := rfl
  rw [e, at_v51, at_v97, named_y54] <;> rfl

theorem row_27 : pick (sl.r_45 (F := Ideal) c M h x0) j = basis (pick (sl.v2 (F := Ideal) c M h x0) j) (pick (sl.v3 (F := Ideal) c M h x0) j) (pick (sl.v4 (F := Ideal) c M h x0) j) 5 2 := by
  have e : pick (sl.r_45 (F := Ideal) c M h x0) j = ((Named.named (F := Ideal) κ "y53" (φ := .f32) 0x3D074F0D#32 * pick (sl.r_14 (F := Ideal) c M h x0) j) * pick (sl.v45 (F := Ideal) c M h x0) j) := rfl
  rw [e, at_r_14, at_v45, named_y53] <;> rfl

theorem row_28 : pick (sl.r_46 (F := Ideal) c M h x0) j = basis (pick (sl.v2 (F := Ideal) c M h x0) j) (pick (sl.v3 (F := Ideal) c M h x0) j) (pick (sl.v4 (F := Ideal) c M h x0) j) 5 3 := by
  have e : pick (sl.r_46 (F := Ideal) c M h x0) j = ((Named.named (F := Ideal) κ "y52" (φ := .f32) 0x3E25B800#32 * pick (sl.r_12 (F := Ideal) c M h x0) j) * pick (sl.v39 (F := Ideal) c M h x0) j) := rfl
  rw [e, at_r_12, at_v39, named_y52] <;> rfl

theorem row_29 : pick (sl.r_47 (F := Ideal) c M h x0) j = basis (pick (sl.v2 (F := Ideal) c M h x0) j) (pick (sl.v3 (F := Ideal) c M h x0) j) (pick (sl.v4 (F := Ideal) c M h x0) j) 5 4 := by
  have e : pick (sl.r_47 (F := Ideal) c M h x0) j = ((Named.named (F := Ideal) κ "y51" (φ := .f32) 0x3F5B39AD#32 * pick (sl.r_8 (F := Ideal) c M h x0) j) * pick (sl.v33 (F := Ideal) c M h x0) j) := rfl
  rw [e, at_r_8, at_v33, named_y51] <;> rfl

theorem row_30 : pick (sl.r_48 (F := Ideal) c M h x0) j = basis (pick (sl.v2 (F := Ideal) c M h x0) j) (pick (sl.v3 (F := Ideal) c M h x0) j) (pick (sl.v4 (F := Ideal) c M h x0) j) 5 5 := by
  have e : pick (sl.r_48 (F := Ideal) c M h x0) j = (Named.named (F := Ideal) κ "y50" (φ := .f32) 0x40544395#32 * pick (sl.r_4 (F := Ideal) c M h x0) j) := rfl
  rw [e, at_r_4, named_y50] <;> rfl

theorem row_31 : pick (sl.r_49 (F := Ideal) c M h x0) j = basis (pick (sl.v2 (F := Ideal) c M h x0) j) (pick (sl.v3 (F := Ideal) c M h x0) j) (pick (sl.v4 (F := Ideal) c M h x0) j) 5 6 := by
  have e : pick (sl.r_49 (F := Ideal) c M h x0) j = ((Named.named (F := Ideal) κ "y51" (φ := .f32) 0x3F5B39AD#32 * pick (sl.r_8 (F := Ideal) c M h x0) j) * pick (sl.v32 (F := Ideal) c M h x0) j) := rfl
  rw [e, at_r_8, at_v32, named_y51] <;> rfl

theorem row_32 : pick (sl.r_50 (F := Ideal) c M h x0) j = basis (pick (sl.v2 (F := Ideal) c M h x0) j) (pick (sl.v3 (F := Ideal) c M h x0) j) (pick (sl.v4 (F := Ideal) c M h x0) j) 5 7 := by
  have e : pick (sl.r_50 (F := Ideal) c M h x0) j = ((Named.named (F := Ideal) κ "y52" (φ := .f32) 0x3E25B800#32 * pick (sl.r_12 (F := Ideal) c M h x0) j) * pick (sl.v36 (F := Ideal) c M h x0) j) := rfl
  rw [e, at_r_12, at_v36, named_y52] <;> rfl

theorem row_33 : pick (sl.r_51 (F := Ideal) c M h x0) j = basis (pick (sl.v2 (F := Ideal) c M h x0) j) (pick (sl.v3 (F := Ideal) c M h x0) j) (pick (sl.v4 (F := Ideal) c M h x0) j) 5 8 := by
  have e : pick (sl.r_51 (F := Ideal) c M h x0) j = ((Named.named (F := Ideal) κ "y53" (φ := .f32) 0x3D074F0D#32 * pick (sl.r_14 (F := Ideal) c M h x0) j) * pick (sl.v42 (F := Ideal) c M h x0) j) := rfl
  rw [e, at_r_14, at_v42, named_y53] <;> rfl

theorem row_34 : ((Named.named (F := Ideal) κ "y54" (φ := .f32) 0x3BFF2406#32 * pick (sl.v97 (F := Ideal) c M h x0) j) * pick (sl.v48 (F := Ideal) c M h x0) j) = basis (pick (sl.v2 (F := Ideal) c M h x0) j) (pick (sl.v3 (F := Ideal) c M h x0) j) (pick (sl.v4 (F := Ideal) c M h x0) j) 5 9 := by
  rw [at_v48, at_v97, named_y54] <;> rfl

theorem row_35 : ((Named.named (F := Ideal) κ "y55" (φ := .f32) 0x3B215D7B#32 * pick (sl.v79 (F := Ideal) c M h x0) j) * pick (sl.v54 (F := Ideal) c M h x0) j) = basis (pick (sl.v2 (F := Ideal) c M h x0) j) (pick (sl.v3 (F := Ideal) c M h x0) j) (pick (sl.v4 (F := Ideal) c M h x0) j) 5 10 := by
  rw [at_v54, at_v79, named_y55] <;> rfl

theorem row_36 : ((Named.named (F := Ideal) κ "y66" (φ := .f32) 0x39744C07#32 * pick (sl.v82 (F := Ideal) c M h x0) j) * pick (sl.v63 (F := Ideal) c M h x0) j) = basis (pick (sl.v2 (F := Ideal) c M h x0) j) (pick (sl.v3 (F := Ideal) c M h x0) j) (pick (sl.v4 (F := Ideal) c M h x0) j) 6 0 := by
  rw [at_v63, at_v82, named_y66] <;> rfl

theorem row_37 : ((Named.named (F := Ideal) κ "y65" (φ := .f32) 0x3A539141#32 * pick (sl.r (F := Ideal) c M h x0) j) * pick (sl.v57 (F := Ideal) c M h x0) j) = basis (pick (sl.v2 (F := Ideal) c M h x0) j) (pick (sl.v3 (F := Ideal) c M h x0) j) (pick (sl.v4 (F := Ideal) c M h x0) j) 6 1 := by
  rw [at_r, at_v57, named_y65] <;> rfl

theorem row_38 : ((Named.named (F := Ideal) κ "y64" (φ := .f32) 0x3B7815B3#32 * pick (sl.r_16 (F := Ideal) c M h x0) j) * pick (sl.v51 (F := Ideal) c M h x0) j) = basis (pick (sl.v2 (F := Ideal) c M h x0) j) (pick (sl.v3 (F := Ideal) c M h x0) j) (pick (sl.v4 (F := Ideal) c M h x0) j) 6 2 := by
  rw [at_r_16, at_v51, named_y64] <;> rfl

theorem row_39 : ((Named.named (F := Ideal) κ "y63" (φ := .f32) 0x3CA9DA1E#32 * pick (sl.r_15 (F := Ideal) c M h x0) j) * pick (sl.v45 (F := Ideal) c M h x0) j) = basis (pick (sl.v2 (F := Ideal) c M h x0) j) (pick (sl.v3 (F := Ideal) c M h x0) j) (pick (sl.v4 (F := Ideal) c M h x0) j) 6 3 := by
  rw [at_r_15, at_v45, named_y63] <;> rfl

theorem row_40 : ((Named.named (F := Ideal) κ "y62" (φ := .f32) 0x3DFEC72D#32 * pick (sl.r_13 (F := Ideal) c M h x0) j) * pick (sl.v39 (F := Ideal) c M h x0) j) = basis (pick (sl.v2 (F := Ideal) c M h x0) j) (pick (sl.v3 (F := Ideal) c M h x0) j) (pick (sl.v4 (F := Ideal) c M h x0) j) 6 4 := by
  rw [at_r_13, at_v39, named_y62] <;> rfl

theorem row_41 : ((Named.named (F := Ideal) κ "y61" (φ := .f32) 0x3F496B73#32 * pick (sl.r_9 (F := Ideal) c M h x0) j) * pick (sl.v33 (F := Ideal) c M h x0) j) = basis (pick (sl.v2 (F := Ideal) c M h x0) j) (pick (sl.v3 (F := Ideal) c M h x0) j) (pick (sl.v4 (F := Ideal) c M h x0) j) 6 5 := by
  rw [at_r_9, at_v33, named_y61] <;> rfl

theorem row_42 : (Named.named (F := Ideal) κ "y60" (φ := .f32) 0x4066C15A#32 * pick (sl.r_5 (F := Ideal) c M h x0) j) = basis (pick (sl.v2 (F := Ideal) c M h x0) j) (pick (sl.v3 (F := Ideal) c M h x0) j) (pick (sl.v4 (F := Ideal) c M h x0) j) 6 6 := by
  rw [at_r_5, named_y60] <;> rfl

theorem row_43 : ((Named.named (F := Ideal) κ "y61" (φ := .f32) 0x3F496B73#32 * pick (sl.r_9 (F := Ideal) c M h x0) j) * pick (sl.v32 (F := Ideal) c M h x0) j) = basis (pick (sl.v2 (F := Ideal) c M h x0) j) (pick (sl.v3 (F := Ideal) c M h x0) j) (pick (sl.v4 (F := Ideal) c M h x0) j) 6 7 := by
  rw [at_r_9, at_v32, named_y61] <;> rfl

theorem row_44 : ((Named.named (F := Ideal) κ "y62" (φ := .f32) 0x3DFEC72D#32 * pick (sl.r_13 (F := Ideal) c M h x0) j) * pick (sl.v36 (F := Ideal) c M h x0) j) = basis (pick (sl.v2 (F := Ideal) c M h x0) j) (pick (sl.v3 (F := Ideal) c M h x0) j) (pick (sl.v4 (F := Ideal) c M h x0) j) 6 8 := by
  rw [at_r_13, at_v36, named_y62] <;> rfl

theorem row_45 : ((Named.named (F := Ideal) κ "y63" (φ := .f32) 0x3CA9DA1E#32 * pick (sl.r_15 (F := Ideal) c M h x0) j) * pick (sl.v42 (F := Ideal) c M h x0) j) = basis (pick (sl.v2 (F := Ideal) c M h x0) j) (pick (sl.v3 (F := Ideal) c M h x0) j) (pick (sl.v4 (F := Ideal) c M h x0) j) 6 9 := by
  rw [at_r_15, at_v42, named_y63] <;> rfl

theorem row_46 : ((Named.named (F := Ideal) κ "y64" (φ := .f32) 0x3B7815B3#32 * pick (sl.r_16 (F := Ideal) c M h x0) j) * pick (sl.v48 (F := Ideal) c M h x0) j) = basis (pick (sl.v2 (F := Ideal) c M h x0) j) (pick (sl.v3 (F := Ideal) c M h x0) j) (pick (sl.v4 (F := Ideal) c M h x0) j) 6 10 := by
  rw [at_r_16, at_v48, named_y64] <;> rfl

theorem row_47 : ((Named.named (F := Ideal) κ "y65" (φ := .f32) 0x3A539141#32 * pick (sl.r (F := Ideal) c M h x0) j) * pick (sl.v54 (F := Ideal) c M h x0) j) = basis (pick (sl.v2 (F := Ideal) c M h x0) j) (pick (sl.v3 (F := Ideal) c M h x0) j) (pick (sl.v4 (F := Ideal) c M h x0) j) 6 11 := by
  rw [at_r, at_v54, named_y65] <;> rfl

theorem row_48 : ((Named.named (F := Ideal) κ "y66" (φ := .f32) 0x39744C07#32 * pick (sl.v82 (F := Ideal) c M h x0) j) * pick (sl.v60 (F := Ideal) c M h x0) j) = basis (pick (sl.v2 (F := Ideal) c M h x0) j) (pick (sl.v3 (F := Ideal) c M h x0) j) (pick (sl.v4 (F := Ideal) c M h x0) j) 6 12 := by
  rw [at_v60, at_v82, named_y66] <;> rfl

/-- The stacked rows at one lane. -/
theorem rows_at (k : Fin 49) (t : Fin 2048) :
    (sl.r_52 (F := Ideal) c M h x0) (ix2 k t)
      = row (pick (sl.v2 (F := Ideal) c M h x0) (ix2 0 t)) (pick (sl.v3 (F := Ideal) c M h x0) (ix2 0 t))
          (pick (sl.v4 (F := Ideal) c M h x0) (ix2 0 t)) k := by
  unfold sl.r_52 k0_pay91
  concat_tiles i hk
  all_goals
    (change (k : ℕ) = _ at hk
     obtain rfl : i = ix2 0 t := by
       funext b
       match b with
       | ⟨0, _⟩ => exact Fin.ext hk0
       | ⟨1, _⟩ => exact Fin.ext hk1
     rw [hk]
     clear hk)
  exacts [row_0 c M h x0 (ix2 0 t), row_1 c M h x0 (ix2 0 t), row_2 c M h x0 (ix2 0 t), row_3 c M h x0 (ix2 0 t), row_4 c M h x0 (ix2 0 t), row_5 c M h x0 (ix2 0 t), row_6 c M h x0 (ix2 0 t), row_7 c M h x0 (ix2 0 t), row_8 c M h x0 (ix2 0 t), row_9 c M h x0 (ix2 0 t), row_10 c M h x0 (ix2 0 t), row_11 c M h x0 (ix2 0 t), row_12 c M h x0 (ix2 0 t), row_13 c M h x0 (ix2 0 t), row_14 c M h x0 (ix2 0 t), row_15 c M h x0 (ix2 0 t), row_16 c M h x0 (ix2 0 t), row_17 c M h x0 (ix2 0 t), row_18 c M h x0 (ix2 0 t), row_19 c M h x0 (ix2 0 t), row_20 c M h x0 (ix2 0 t), row_21 c M h x0 (ix2 0 t), row_22 c M h x0 (ix2 0 t), row_23 c M h x0 (ix2 0 t), row_24 c M h x0 (ix2 0 t), row_25 c M h x0 (ix2 0 t), row_26 c M h x0 (ix2 0 t), row_27 c M h x0 (ix2 0 t), row_28 c M h x0 (ix2 0 t), row_29 c M h x0 (ix2 0 t), row_30 c M h x0 (ix2 0 t), row_31 c M h x0 (ix2 0 t), row_32 c M h x0 (ix2 0 t), row_33 c M h x0 (ix2 0 t), row_34 c M h x0 (ix2 0 t), row_35 c M h x0 (ix2 0 t), row_36 c M h x0 (ix2 0 t), row_37 c M h x0 (ix2 0 t), row_38 c M h x0 (ix2 0 t), row_39 c M h x0 (ix2 0 t), row_40 c M h x0 (ix2 0 t), row_41 c M h x0 (ix2 0 t), row_42 c M h x0 (ix2 0 t), row_43 c M h x0 (ix2 0 t), row_44 c M h x0 (ix2 0 t), row_45 c M h x0 (ix2 0 t), row_46 c M h x0 (ix2 0 t), row_47 c M h x0 (ix2 0 t), row_48 c M h x0 (ix2 0 t)]

end Cert.KernelIdeal.Row

end
-- ==== Proof.KernelBlock.lean ====
/- What one block of 2048 atoms adds to the kernel's array: at feature `f` and segment `s`, the sum over the atoms of
   the harmonic row `f / 20`, the radial function `f % 20`, and the one-hot word of the atom's segment. -/
module

public import proofs.«01_k».proof.Proof.KernelRow

@[expose] public section

noncomputable section

namespace Cert.KernelIdeal.Block

open Cert.KernelIdeal Cert.KernelIdeal.Gen Cert.KernelIdeal.Row Cert.Sph Idealize.ShloMosaic

/-- What the atom at lane `t` of the block adds at feature `f` and segment `s`. -/
def term (x0 : FVec Ideal S1x3x2048 .f32) (x1 : IVec S1x2048x1 32) (f s : ℕ) (t : Fin 2048) : EReal :=
  row (x0 (ix3 0 0 t)) (x0 (ix3 0 1 t)) (x0 (ix3 0 2 t)) (f / 20)
    * radial (len (x0 (ix3 0 0 t)) (x0 (ix3 0 1 t)) (x0 (ix3 0 2 t))) (f % 20) * hot (x1 (ix3 0 t 0)) s

/-- A small word is read as its number. -/
theorem sitofp_small (n : ℕ) (h : n < 2 ^ 31) : FloatOps.sitofp (F := Ideal) .f32 (BitVec.ofNat 32 n) = num n := by
  show (((BitVec.ofNat 32 n).toInt : ℝ) : EReal) = num n
  have e : (BitVec.ofNat 32 n).toInt = (n : ℤ) := by
    rw [BitVec.toInt_eq_toNat_of_lt] <;> rw [BitVec.toNat_ofNat] <;> omega
  rw [e, num, Int.cast_natCast]

/-- The comparison of two words, widened and read as a number. -/
theorem sitofp_eq (g : BitVec 32) (s : ℕ) :
    FloatOps.sitofp (F := Ideal) .f32 (BitVec.setWidth 32 (IntOp.cmpi CmpIPredicate.eq g (BitVec.ofNat 32 s))) = hot g s := by
  unfold hot
  by_cases e : g = BitVec.ofNat 32 s
  · rw [if_pos e, show IntOp.cmpi CmpIPredicate.eq g (BitVec.ofNat 32 s) = 1#1 from by simp [IntOp.cmpi, e]]
    exact (sitofp_small 1 (by norm_num)).trans num_one
  · rw [if_neg e, show IntOp.cmpi CmpIPredicate.eq g (BitVec.ofNat 32 s) = 0#1 from by simp [IntOp.cmpi, beq_eq_false_iff_ne.mpr e]]
    exact (sitofp_small 0 (by norm_num)).trans num_zero

variable (c : Dev nD) (M : Memref sig .tc .vmem S1x3x2048 .f32) (h : M.IsWhole) (x0 : Vec Ideal S1x3x2048 .f32)

theorem x_at (t : Fin 2048) : pick (kernelRun0_A.sl.v2 (F := Ideal) c M h x0) (ix2 0 t) = x0 (ix3 0 0 t) := by
  unfold kernelRun0_A.sl.v2 kernelRun0_A.sl.v1
  simp (disch := decide) only [View.readAt_eq_ld, Memref.IsWhole.read_unread, View.ld_unit_lit']
  pointwise

theorem y_at (t : Fin 2048) : pick (kernelRun0_A.sl.v3 (F := Ideal) c M h x0) (ix2 0 t) = x0 (ix3 0 1 t) := by
  unfold kernelRun0_A.sl.v3 kernelRun0_A.sl.v1
  simp (disch := decide) only [View.readAt_eq_ld, Memref.IsWhole.read_unread, View.ld_unit_lit']
  pointwise

theorem z_at (t : Fin 2048) : pick (kernelRun0_A.sl.v4 (F := Ideal) c M h x0) (ix2 0 t) = x0 (ix3 0 2 t) := by
  unfold kernelRun0_A.sl.v4 kernelRun0_A.sl.v1
  simp (disch := decide) only [View.readAt_eq_ld, Memref.IsWhole.read_unread, View.ld_unit_lit']
  pointwise

/-- The product payload at an index, over any radii and rows. -/
theorem product_at (r : FVec Ideal S1x2048 .f32) (b : FVec Ideal S49x2048 .f32) (g : IVec S1x2048x1 32)
    (f : Fin 980) (s : Fin 64) :
    k0_pay92 (F := Ideal) r b (Scalar.ofBits .f32 0x358637BD#32) g (ix2 f s)
      = ∑ t : Fin 2048, b (ix2 ⟨f / 20, by omega⟩ t) * radial (r (ix2 0 t)) (f % 20) * hot (g (ix3 0 t 0)) s := by
  pointwise [k0_pay92]
  refine Finset.sum_congr rfl fun t _ => ?_
  rw [sitofp_eq, sitofp_small _ (by omega), named_pi_over_rcut, named_root_2_over_rcut, radial, num_one]
  rfl

/-- The block's contribution. -/
theorem block_at (x1 : IVec S1x2048x1 32) (f : Fin 980) (s : Fin 64) :
    k0_pay92 (F := Ideal) (kernelRun0_A.sl.v10 c M h x0) (kernelRun0_A.sl.r_52 c M h x0) kernelRun0_A.sl.cst_114 x1
      (ix2 f s) = ∑ t : Fin 2048, term x0 x1 f s t := by
  refine (product_at _ _ x1 f s).trans (Finset.sum_congr rfl fun t _ => ?_)
  have hr : (kernelRun0_A.sl.v10 (F := Ideal) c M h x0) (ix2 0 t)
      = len (x0 (ix3 0 0 t)) (x0 (ix3 0 1 t)) (x0 (ix3 0 2 t)) := by
    refine (at_v10 c M h x0 (ix2 0 t)).trans ?_
    rw [x_at, y_at, z_at]
  rw [rows_at, hr, x_at, y_at, z_at]
  rfl

section cases
variable (i : grid0.Coords) (arg2 : Memref sig .tc .vmem S1x2048x1 .i32) (harg2 : arg2.IsWhole)
  (arg3 : Memref sig .tc .vmem S980x64 .f32) (harg3 : arg3.IsWhole) (x1 : Vec Ideal S1x2048x1 .i32)

/-- The first point's output is its block's contribution. -/
theorem first (hc0 : cond0_0 i) (hc1 : ¬cond0_1 i) (f : Fin 980) (s : Fin 64) :
    out0_A_2 c i M h arg2 harg2 arg3 harg3 hc0 hc1 x0 x1 (ix2 f s) = ∑ t : Fin 2048, term x0 x1 f s t := by
  refine Eq.trans ?_ (block_at c M h x0 x1 f s)
  unfold out0_A_2; unfold kernelRun0_A; dsimp only
  simp (disch := decide) only [View.read_writes_junk_eq_canon, View.canon_cons_unit_lit', View.ld_unit_lit',
    View.readCov_unit_lit', View.readCov_cons_unit_lit', View.readAt_eq_ld, Memref.IsWhole.read_unread]

/-- A later point's output is what was there and its block's contribution. -/
theorem later (hc0 : ¬cond0_0 i) (hc1 : cond0_1 i) (xo2 : Vec Ideal S980x64 .f32) (f : Fin 980) (s : Fin 64) :
    out0_B_2 c i M h arg2 harg2 arg3 harg3 hc0 hc1 x0 x1 xo2 (ix2 f s)
      = (show EReal from xo2 (ix2 f s)) + ∑ t : Fin 2048, term x0 x1 f s t := by
  have e : out0_B_2 c i M h arg2 harg2 arg3 harg3 hc0 hc1 x0 x1 xo2
      = k0_pay1 (kernelRun0_B.sl.r_53 c M h arg2 harg2 x0 x1) xo2 := by
    unfold out0_B_2; unfold kernelRun0_B; dsimp only
    simp (disch := decide) only [View.read_writes_junk_eq_canon, View.canon_cons_unit_lit', View.ld_unit_lit',
      View.readCov_unit_lit', View.readCov_cons_unit_lit', View.readAt_eq_ld, Memref.IsWhole.read_unread]
  have e53 : kernelRun0_B.sl.r_53 c M h arg2 harg2 x0 x1
      = k0_pay92 (kernelRun0_A.sl.v10 c M h x0) (kernelRun0_A.sl.r_52 c M h x0) kernelRun0_A.sl.cst_114 x1 := by
    unfold kernelRun0_B.sl.r_53
    simp (disch := decide) only [View.readAt_eq_ld, Memref.IsWhole.read_unread, View.ld_unit_lit']
    rfl
  rw [e, e53, ← block_at c M h x0 x1 f s]
  pointwise [k0_pay1]

end cases

end Cert.KernelIdeal.Block

end
-- ==== Proof.KernelArray.lean ====
/- What the kernel's array holds at the end of the launch: at feature `f` and segment `s`, the sum over the eight blocks
   of 2048 atoms of what each atom adds. -/
module

public import proofs.«01_k».proof.Proof.KernelBlock
public import proofs.«01_k».proof.Proof.Gen.KernelIdeal.Frame
public import Idealize.ShloMosaic.Lib.Pipeline.ValueKit
public import Idealize.ShloMosaic.Lib.Claim

@[expose] public section

noncomputable section

namespace Cert.KernelIdeal.Array

open Cert.KernelIdeal Cert.KernelIdeal.Gen Cert.KernelIdeal.Block Cert.Sph Idealize.ShloMosaic
open Idealize.ShloMosaic.TcCoe Idealize.ShloMosaic.Pipeline

variable (m : (ℓ : Loc nD τ sig) → Buf (Elt Ideal) ℓ)

theorem index0 : ∀ t : Fin cfg0.N, win0_0.index t = ![t.val, 0, 0] := (by decide +kernel : ∀ t : Fin grid0.N, _)

theorem index1 : ∀ t : Fin cfg0.N, win0_1.index t = ![t.val, 0, 0] := (by decide +kernel : ∀ t : Fin grid0.N, _)

/-- The atom at lane `x` of block `t`. -/
def atom (t x : ℕ) (ht : t < 8) (hx : x < 2048) : Fin 16384 := ⟨t * 2048 + x, by omega⟩

/-- The coordinates as the launch finds them. -/
theorem coord_entry (c : Dev nD) :
    (V m c main_v5 : FVec Ideal S8x3x2048 .f32)
      = transpose S8x3x2048 [1, 0, 2] (shapeCast S3x8x2048 (transpose S3x16384 [1, 0]
          (m ((c : Thread nD τ).loc main_arg0) : FVec Ideal S16384x3 .f32) Gen.transposes_S16384x3_S3x16384_1_0)
          Gen.shapeCasts_S3x16384_S3x8x2048) Gen.transposes_S3x8x2048_S8x3x2048_1_0_2 := by
  entry_read
  try rfl

/-- The segment words as the launch finds them. -/
theorem seg_entry (c : Dev nD) :
    (V m c main_v6 : IVec S8x2048x1 32)
      = shapeCast S8x2048x1 (addi (muli (m ((c : Thread nD τ).loc main_arg2) : IVec S16384 32)
          (broadcastInDim S16384 ![] Gen.bcast_S_S16384 (constantI S_ 32 4#32)))
          (m ((c : Thread nD τ).loc main_arg1))) Gen.shapeCasts_S16384_S8x2048x1 := by
  entry_read
  try rfl

theorem coord_moved (X : FVec Ideal S16384x3 .f32) (t : Fin 8) (a : Fin 3) (x : Fin 2048) :
    transpose S8x3x2048 [1, 0, 2] (shapeCast S3x8x2048 (transpose S3x16384 [1, 0] X Gen.transposes_S16384x3_S3x16384_1_0)
          Gen.shapeCasts_S3x16384_S3x8x2048) Gen.transposes_S3x8x2048_S8x3x2048_1_0_2 (ix3 t a x)
      = X (ix2 (atom t x t.isLt x.isLt) a) := by
  unfold atom
  pointwise

theorem seg_moved (X : IVec S16384 32) (t : Fin 8) (x : Fin 2048) :
    shapeCast S8x2048x1 X Gen.shapeCasts_S16384_S8x2048x1 (ix3 t x 0) = X (ix1 (atom t x t.isLt x.isLt)) := by
  unfold atom
  pointwise

/-- A block of coordinates is the input's rows. -/
theorem coord_at (c : Dev nD) (t : Fin cfg0.N) (a : Fin 3) (x : Fin 2048) :
    (show FVec Ideal S1x3x2048 .f32 from iblk m c 0 t) (ix3 0 a x)
      = m ((c : Thread nD τ).loc main_arg0) (ix2 (atom t x (lt_of_lt_of_eq t.isLt N_0) x.isLt) a) := by
  have ht : t.val < 8 := lt_of_lt_of_eq t.isLt N_0
  have e : (show FVec Ideal S1x3x2048 .f32 from iblk m c 0 t) (ix3 0 a x)
      = (V m c main_v5 : FVec Ideal S8x3x2048 .f32) (ix3 ⟨t, ht⟩ a x) := by
    blk_point [iblk, index0 t]
  rw [e, coord_entry]
  exact coord_moved _ ⟨t, ht⟩ a x

/-- A block of segment words is the second index times four, and the first. -/
theorem seg_at (c : Dev nD) (t : Fin cfg0.N) (x : Fin 2048) :
    (show IVec S1x2048x1 32 from iblk m c 1 t) (ix3 0 x 0)
      = IntOp.addi (IntOp.muli (m ((c : Thread nD τ).loc main_arg2) (ix1 (atom t x (lt_of_lt_of_eq t.isLt N_0) x.isLt))) 4#32)
          (m ((c : Thread nD τ).loc main_arg1) (ix1 (atom t x (lt_of_lt_of_eq t.isLt N_0) x.isLt))) := by
  have ht : t.val < 8 := lt_of_lt_of_eq t.isLt N_0
  have e : (show IVec S1x2048x1 32 from iblk m c 1 t) (ix3 0 x 0)
      = (V m c main_v6 : IVec S8x2048x1 32) (ix3 ⟨t, ht⟩ x 0) := by
    blk_point [iblk, index1 t]
  rw [e, seg_entry]
  exact seg_moved _ ⟨t, ht⟩ x

/-- What the point's block adds at `j`. -/
def part (c : Dev nD) (t : Fin cfg0.N) (j : S980x64.Idx) : EReal :=
  ∑ x : Fin 2048, term (show FVec Ideal S1x3x2048 .f32 from iblk m c 0 t) (show IVec S1x2048x1 32 from iblk m c 1 t) (j 0) (j 1) x

/-- The array after the last point. -/
theorem array_eq (c : Dev nD) :
    (dats m 0 c).arrAt 2 (cfgs 0).N = (fun j => ∑ t : Fin cfg0.N, part m c t j : FVec Ideal S980x64 .f32) := by
  refine (dats m 0 c).arrAt_eq_of_after_last 2 t0_7 (by decide +kernel) _ fun j => ?_
  blk_simp
  rw [after0_2, Pipeline.eq_sum_fin_of_reset_step_apply_last (fun n h => outsAt0 m c n h) 8 (fun _ => 0) (fun t j => part m c t j)
    (fun t h j => by
      rw [outsAt0_A m c t h (by have := lt_of_lt_of_eq t.isLt N_0; omega), zero_add]
      obtain ⟨f, s, rfl⟩ : ∃ f s, j = ix2 f s := ⟨j 0, j 1, by ext a; fin_cases a <;> rfl⟩
      exact first ..)
    (fun t h j => by
      rw [outsAt0_B m c t h (by omega)]
      obtain ⟨f, s, rfl⟩ : ∃ f s, j = ix2 f s := ⟨j 0, j 1, by ext a; fin_cases a <;> rfl⟩
      exact later ..)
    (le_of_eq N_0) t0_7 rfl j, zero_add]

end Cert.KernelIdeal.Array

end
-- ==== Proof.KernelPieces.lean ====
/- Where the words of the kernel's result lie in its array, degree by degree. -/
module

public import proofs.«01_k».proof.Proof.Gen.KernelIdeal
public import Idealize.ShloMosaic.Lib.Claim
public import Idealize.ShloMosaic.Lib.Pipeline.ValueKit

@[expose] public section

noncomputable section

namespace Cert.KernelIdeal.Pieces

open Cert.KernelIdeal Idealize.ShloMosaic

/-- Where a word of degree 0 lies in the kernel's array. -/
theorem moved0 (A : FVec Ideal S980x64 .f32) (b : Fin 16) (q : Fin 80) :
    (shapeCast S16x80 (transpose S16x4x20x1 [0, 1, 3, 2] (extractStridedSlice S16x4x1x20 ![0, 0, 0, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x1x20_0_0_0_0)
        Gen.transposes_S16x4x1x20_S16x4x20x1_0_1_3_2) Gen.shapeCasts_S16x4x20x1_S16x80 : FVec Ideal S16x80 .f32) (ix2 b q)
      = A (ix2 ⟨(0 + q % 1) * 20 + q / 1 % 20, by omega⟩ ⟨b * 4 + q / 20, by omega⟩) := by
  pointwise
  all_goals blk_ext

/-- Where a word of degree 1 lies in the kernel's array. -/
theorem moved1 (A : FVec Ideal S980x64 .f32) (b : Fin 16) (q : Fin 240) :
    (shapeCast S16x240 (transpose S16x4x20x3 [0, 1, 3, 2] (extractStridedSlice S16x4x3x20 ![0, 0, 1, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x3x20_0_0_1_0)
        Gen.transposes_S16x4x3x20_S16x4x20x3_0_1_3_2) Gen.shapeCasts_S16x4x20x3_S16x240 : FVec Ideal S16x240 .f32) (ix2 b q)
      = A (ix2 ⟨(1 + q % 3) * 20 + q / 3 % 20, by omega⟩ ⟨b * 4 + q / 60, by omega⟩) := by
  pointwise
  all_goals blk_ext

/-- Where a word of degree 2 lies in the kernel's array. -/
theorem moved2 (A : FVec Ideal S980x64 .f32) (b : Fin 16) (q : Fin 400) :
    (shapeCast S16x400 (transpose S16x4x20x5 [0, 1, 3, 2] (extractStridedSlice S16x4x5x20 ![0, 0, 4, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x5x20_0_0_4_0)
        Gen.transposes_S16x4x5x20_S16x4x20x5_0_1_3_2) Gen.shapeCasts_S16x4x20x5_S16x400 : FVec Ideal S16x400 .f32) (ix2 b q)
      = A (ix2 ⟨(4 + q % 5) * 20 + q / 5 % 20, by omega⟩ ⟨b * 4 + q / 100, by omega⟩) := by
  pointwise
  all_goals blk_ext

/-- Where a word of degree 3 lies in the kernel's array. -/
theorem moved3 (A : FVec Ideal S980x64 .f32) (b : Fin 16) (q : Fin 560) :
    (shapeCast S16x560 (transpose S16x4x20x7 [0, 1, 3, 2] (extractStridedSlice S16x4x7x20 ![0, 0, 9, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x7x20_0_0_9_0)
        Gen.transposes_S16x4x7x20_S16x4x20x7_0_1_3_2) Gen.shapeCasts_S16x4x20x7_S16x560 : FVec Ideal S16x560 .f32) (ix2 b q)
      = A (ix2 ⟨(9 + q % 7) * 20 + q / 7 % 20, by omega⟩ ⟨b * 4 + q / 140, by omega⟩) := by
  pointwise
  all_goals blk_ext

/-- Where a word of degree 4 lies in the kernel's array. -/
theorem moved4 (A : FVec Ideal S980x64 .f32) (b : Fin 16) (q : Fin 720) :
    (shapeCast S16x720 (transpose S16x4x20x9 [0, 1, 3, 2] (extractStridedSlice S16x4x9x20 ![0, 0, 16, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x9x20_0_0_16_0)
        Gen.transposes_S16x4x9x20_S16x4x20x9_0_1_3_2) Gen.shapeCasts_S16x4x20x9_S16x720 : FVec Ideal S16x720 .f32) (ix2 b q)
      = A (ix2 ⟨(16 + q % 9) * 20 + q / 9 % 20, by omega⟩ ⟨b * 4 + q / 180, by omega⟩) := by
  pointwise
  all_goals blk_ext

/-- Where a word of degree 5 lies in the kernel's array. -/
theorem moved5 (A : FVec Ideal S980x64 .f32) (b : Fin 16) (q : Fin 880) :
    (shapeCast S16x880 (transpose S16x4x20x11 [0, 1, 3, 2] (extractStridedSlice S16x4x11x20 ![0, 0, 25, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x11x20_0_0_25_0)
        Gen.transposes_S16x4x11x20_S16x4x20x11_0_1_3_2) Gen.shapeCasts_S16x4x20x11_S16x880 : FVec Ideal S16x880 .f32) (ix2 b q)
      = A (ix2 ⟨(25 + q % 11) * 20 + q / 11 % 20, by omega⟩ ⟨b * 4 + q / 220, by omega⟩) := by
  pointwise
  all_goals blk_ext

/-- Where a word of degree 6 lies in the kernel's array. -/
theorem moved6 (A : FVec Ideal S980x64 .f32) (b : Fin 16) (q : Fin 1040) :
    (shapeCast S16x1040 (transpose S16x4x20x13 [0, 1, 3, 2] (extractStridedSlice S16x4x13x20 ![0, 0, 36, 0]
      (transpose S16x4x49x20 [2, 3, 0, 1] (shapeCast S49x20x16x4 A Gen.shapeCasts_S980x64_S49x20x16x4)
        Gen.transposes_S49x20x16x4_S16x4x49x20_2_3_0_1) Gen.slices_S16x4x49x20_S16x4x13x20_0_0_36_0)
        Gen.transposes_S16x4x13x20_S16x4x20x13_0_1_3_2) Gen.shapeCasts_S16x4x20x13_S16x1040 : FVec Ideal S16x1040 .f32) (ix2 b q)
      = A (ix2 ⟨(36 + q % 13) * 20 + q / 13 % 20, by omega⟩ ⟨b * 4 + q / 260, by omega⟩) := by
  pointwise
  all_goals blk_ext

end Cert.KernelIdeal.Pieces

end
-- ==== Proof.Angle.lean ====
/- The azimuth: away from the axis the addition formulas started from the normalized coordinates give the cosines and
   sines of the multiples of the two-argument arctangent. -/
module

public import proofs.«01_k».proof.Proof.Spec

@[expose] public section

noncomputable section

namespace Cert.Sph

open Idealize.ShloMosaic

/-- The angle of the point `(u, v)` of the plane. -/
def ang (v u : ℝ) : ℝ :=
  if 0 < u then Real.arctan (v / u)
  else if u < 0 then (if 0 ≤ v then Real.arctan (v / u) + Real.pi else Real.arctan (v / u) - Real.pi)
  else if 0 < v then Real.pi / 2 else if v < 0 then -(Real.pi / 2) else 0

theorem atan2_coe (v u : ℝ) : Ideal.atan2 (v : EReal) (u : EReal) = ((ang v u : ℝ) : EReal) := rfl

/-- The root of one plus a squared slope. -/
theorem root_slope (v u : ℝ) (hu : u ≠ 0) :
    Real.sqrt (1 + (v / u) ^ 2) = Real.sqrt (u * u + v * v) / |u| := by
  have h : 1 + (v / u) ^ 2 = (u * u + v * v) / (u * u) := by field_simp
  rw [h, Real.sqrt_div' _ (mul_self_nonneg u), Real.sqrt_mul_self_eq_abs]

/-- The cosine of the angle is the first coordinate over the distance. -/
theorem cos_ang (v u : ℝ) (h : u ≠ 0 ∨ v ≠ 0) : Real.cos (ang v u) = u / Real.sqrt (u * u + v * v) := by
  unfold ang
  rcases lt_trichotomy u 0 with hu | hu | hu
  · have hc : Real.cos (Real.arctan (v / u)) = -(u / Real.sqrt (u * u + v * v)) := by
      rw [Real.cos_arctan, root_slope v u hu.ne, abs_of_neg hu, one_div_div, neg_div]
    rw [if_neg hu.le.not_gt, if_pos hu]
    split_ifs
    · rw [Real.cos_add_pi, hc, neg_neg]
    · rw [Real.cos_sub_pi, hc, neg_neg]
  · subst hu
    have hv : v ≠ 0 := h.resolve_left (fun h => h rfl)
    simp only [lt_irrefl, if_false, zero_div]
    rcases lt_or_gt_of_ne hv with hv | hv
    · rw [if_neg hv.le.not_gt, if_pos hv, Real.cos_neg, Real.cos_pi_div_two]
    · rw [if_pos hv, Real.cos_pi_div_two]
  · rw [if_pos hu, Real.cos_arctan, root_slope v u hu.ne', abs_of_pos hu, one_div_div]

/-- The sine of the angle is the second coordinate over the distance. -/
theorem sin_ang (v u : ℝ) (h : u ≠ 0 ∨ v ≠ 0) : Real.sin (ang v u) = v / Real.sqrt (u * u + v * v) := by
  unfold ang
  rcases lt_trichotomy u 0 with hu | hu | hu
  · have hs : Real.sin (Real.arctan (v / u)) = -(v / Real.sqrt (u * u + v * v)) := by
      rw [Real.sin_arctan, root_slope v u hu.ne, abs_of_neg hu, div_div_eq_mul_div, mul_neg,
        div_mul_cancel₀ v hu.ne, neg_div]
    rw [if_neg hu.le.not_gt, if_pos hu]
    split_ifs
    · rw [Real.sin_add_pi, hs, neg_neg]
    · rw [Real.sin_sub_pi, hs, neg_neg]
  · subst hu
    have hv : v ≠ 0 := h.resolve_left (fun h => h rfl)
    simp only [lt_irrefl, if_false, zero_mul, zero_add, Real.sqrt_mul_self_eq_abs]
    rcases lt_or_gt_of_ne hv with hv | hv
    · rw [if_neg hv.le.not_gt, if_pos hv, Real.sin_neg, Real.sin_pi_div_two, abs_of_neg hv, div_neg,
        div_self hv.ne]
    · rw [if_pos hv, Real.sin_pi_div_two, abs_of_pos hv, div_self hv.ne']
  · rw [if_pos hu, Real.sin_arctan, root_slope v u hu.ne', abs_of_pos hu, div_div_eq_mul_div,
      div_mul_cancel₀ v hu.ne']

/-- The addition formulas started from a cosine and a sine give those of every multiple. -/
theorem turn_coe (t : ℝ) (m : ℕ) :
    turn ((Real.cos t : ℝ) : EReal) ((Real.sin t : ℝ) : EReal) m
      = (((Real.cos ((m + 1 : ℕ) * t) : ℝ) : EReal), ((Real.sin ((m + 1 : ℕ) * t) : ℝ) : EReal)) := by
  induction m with
  | zero => simp [turn]
  | succ m ih =>
    have e : ((m + 1 + 1 : ℕ) : ℝ) * t = (m + 1 : ℕ) * t + t := by push_cast; ring
    rw [turn, ih, e, Real.cos_add, Real.sin_add, Prod.mk.injEq]
    constructor <;> norm_cast

/-- The floor under the distance from the axis is a positive real. -/
theorem tiny_pos : ∃ e : ℝ, tiny = (e : EReal) ∧ 0 < e := by
  refine ⟨_, rfl, ?_⟩
  simp [Ideal.ieee]

theorem lo_pos : ∃ e : ℝ, lo = (e : EReal) ∧ 0 < e := by
  refine ⟨_, rfl, ?_⟩
  simp [Ideal.ieee]

end Cert.Sph

end
-- ==== Proof.RefWords.lean ====
/- The reference's arrays per atom, word by word, as the basis functions of that atom. -/
module

public import proofs.«01_k».proof.Proof.Angle
public import proofs.«01_k».proof.Proof.Consts
public import proofs.«01_k».proof.Proof.Gen.ReferenceIdeal.Run
public import Idealize.ShloMosaic.Lib.Pointwise
public import Idealize.ShloMosaic.Lib.IdealHost

@[expose] public section

noncomputable section

namespace Cert.ReferenceIdeal.Atom

open Cert.ReferenceIdeal Cert.ReferenceIdeal.Gen Cert.ReferenceIdeal.Value Cert.Sph Idealize.ShloMosaic

/-- An array's element at `j`, as an extended real. -/
abbrev pick {s : Shape} (v : FVec Ideal s .f32) (j : s.Idx) : EReal := v j

variable (V0 : Valuation τ sig (Elt Ideal)) (i : Fin 16384)

/-- The atoms' coordinates. -/
abbrev X : FVec Ideal S16384x3 .f32 := V0 (Proc.devRef .tc main_arg0)

/-- The three coordinates of atom `i`. -/
abbrev cx : EReal := X V0 (ix2 i 0)
abbrev cy : EReal := X V0 (ix2 i 1)
abbrev cz : EReal := X V0 (ix2 i 2)

/-- The azimuth of atom `i`. -/
def phi : EReal := Ideal.atan2 (uy (cx V0 i) (cy V0 i) (cz V0 i)) (ux (cx V0 i) (cy V0 i) (cz V0 i))

/-- Cosine and sine of `m + 1` times the azimuth. -/
def cosm (m : ℕ) : EReal := Ideal.cos (num (m + 1) * phi V0 i)
def sinm (m : ℕ) : EReal := Ideal.sin (num (m + 1) * phi V0 i)

/-- The Legendre value of order `m` and degree `m + d` at atom `i`. -/
def lg (m d : ℕ) : EReal := legs (cx V0 i) (cy V0 i) (cz V0 i) m d

theorem floor_ne (r : EReal) : max lo r ≠ 0 := by
  obtain ⟨e, he, h⟩ := lo_pos
  refine (lt_of_lt_of_le ?_ (le_max_left lo r)).ne'
  rw [he]
  exact_mod_cast h

theorem inv_of_floor (x r : EReal) : Ideal.div x (max lo r) = x * Ideal.div (num 1) (max r lo) := by
  have h := floor_ne r
  rw [max_comm r lo, Ideal.div, Ideal.div, if_neg h, if_neg h, num_one, one_mul]

theorem at_v0 : pick (res_main_v0 V0) (ix1 i) = len (cx V0 i) (cy V0 i) (cz V0 i) := by
  unfold res_main_v0
  pointwise
  rw [Fin.sum_univ_three]
  rfl

theorem at_v4 (a : Fin 3) :
    pick (res_main_v4 V0) (ix2 i a) = X V0 (ix2 i a) * inv (cx V0 i) (cy V0 i) (cz V0 i) := by
  have e : pick (res_main_v4 V0) (ix2 i a) = Ideal.div (X V0 (ix2 i a)) (max lo (pick (res_main_v0 V0) (ix1 i))) := by
    unfold res_main_v4
    pointwise
    rfl
  rw [e, at_v0, inv_of_floor]
  rfl

theorem at_v10 : pick (res_main_v10 V0) (ix1 i) = uz (cx V0 i) (cy V0 i) (cz V0 i) := by
  refine Eq.trans ?_ (at_v4 V0 i 2)
  unfold res_main_v10
  pointwise

theorem sine_form (A : FVec Ideal S16384 .f32) :
    Host.sqrt (maximumf (broadcastInDim S16384 ![] Gen.bcast_S_S16384 (id (constant S_ .f32 0x2B8CBCCC#32)))
        (subf (broadcastInDim S16384 ![] Gen.bcast_S_S16384 (constant S_ .f32 0x3F800000#32)) (mulf A A))) (ix1 i)
      = Ideal.sqrt (max lo (Ideal.ofBits .f32 0x3F800000#32 - pick A (ix1 i) * pick A (ix1 i))) := rfl

theorem at_v15 : pick (res_main_v15 V0) (ix1 i) = sine (uz (cx V0 i) (cy V0 i) (cz V0 i)) := by
  refine (sine_form i (res_main_v10 V0)).trans ?_
  rw [at_v10, bits_num_1, max_comm]
  rfl

theorem at_v16 : pick (res_main_v16 V0) (ix1 i) = phi V0 i := by
  have ex : pick (res_main_v4 V0) (ix2 i 0) = ux (cx V0 i) (cy V0 i) (cz V0 i) := at_v4 V0 i 0
  have ey : pick (res_main_v4 V0) (ix2 i 1) = uy (cx V0 i) (cy V0 i) (cz V0 i) := at_v4 V0 i 1
  rw [phi, ← ex, ← ey]
  unfold res_main_v16
  pointwise

theorem at_v17 : pick (res_main_v17 V0) (ix1 i) = num 1 := bits_num_1

/-- The product of a constant and two arrays at an index. -/
theorem diag_form (c : BitVec 32) (A B : FVec Ideal S16384 .f32) :
    mulf (mulf (broadcastInDim S16384 ![] Gen.bcast_S_S16384 (constant S_ .f32 c)) A) B (ix1 i)
      = Ideal.ofBits .f32 c * pick A (ix1 i) * pick B (ix1 i) := rfl

/-- The three-term step at an index. -/
theorem step_form (c c' c'' : BitVec 32) (A B D : FVec Ideal S16384 .f32) :
    Host.divf (subf (mulf (mulf (broadcastInDim S16384 ![] Gen.bcast_S_S16384 (constant S_ .f32 c)) A) B)
        (mulf (broadcastInDim S16384 ![] Gen.bcast_S_S16384 (constant S_ .f32 c')) D))
        (broadcastInDim S16384 ![] Gen.bcast_S_S16384 (constant S_ .f32 c'')) (ix1 i)
      = Ideal.div (Ideal.ofBits .f32 c * pick A (ix1 i) * pick B (ix1 i) - Ideal.ofBits .f32 c' * pick D (ix1 i))
          (Ideal.ofBits .f32 c'') := rfl

theorem at_v20 : pick (res_main_v20 V0) (ix1 i) = lg V0 i 1 0 := by
  refine (diag_form i 0xBF800000#32 (res_main_v15 V0) (res_main_v17 V0)).trans ?_
  rw [at_v15, at_v17, bits_neg_1]
  rfl

theorem at_v23 : pick (res_main_v23 V0) (ix1 i) = lg V0 i 2 0 := by
  refine (diag_form i 0xC0400000#32 (res_main_v15 V0) (res_main_v20 V0)).trans ?_
  rw [at_v15, at_v20, bits_neg_3]
  rfl

theorem at_v26 : pick (res_main_v26 V0) (ix1 i) = lg V0 i 3 0 := by
  refine (diag_form i 0xC0A00000#32 (res_main_v15 V0) (res_main_v23 V0)).trans ?_
  rw [at_v15, at_v23, bits_neg_5]
  rfl

theorem at_v29 : pick (res_main_v29 V0) (ix1 i) = lg V0 i 4 0 := by
  refine (diag_form i 0xC0E00000#32 (res_main_v15 V0) (res_main_v26 V0)).trans ?_
  rw [at_v15, at_v26, bits_neg_7]
  rfl

theorem at_v32 : pick (res_main_v32 V0) (ix1 i) = lg V0 i 5 0 := by
  refine (diag_form i 0xC1100000#32 (res_main_v15 V0) (res_main_v29 V0)).trans ?_
  rw [at_v15, at_v29, bits_neg_9]
  rfl

theorem at_v35 : pick (res_main_v35 V0) (ix1 i) = lg V0 i 6 0 := by
  refine (diag_form i 0xC1300000#32 (res_main_v15 V0) (res_main_v32 V0)).trans ?_
  rw [at_v15, at_v32, bits_neg_11]
  rfl

theorem at_v38 : pick (res_main_v38 V0) (ix1 i) = lg V0 i 0 1 := by
  refine (diag_form i 0x3F800000#32 (res_main_v10 V0) (res_main_v17 V0)).trans ?_
  rw [at_v10, at_v17, bits_num_1]
  rfl

theorem at_v41 : pick (res_main_v41 V0) (ix1 i) = lg V0 i 1 1 := by
  refine (diag_form i 0x40400000#32 (res_main_v10 V0) (res_main_v20 V0)).trans ?_
  rw [at_v10, at_v20, bits_num_3]
  rfl

theorem at_v44 : pick (res_main_v44 V0) (ix1 i) = lg V0 i 2 1 := by
  refine (diag_form i 0x40A00000#32 (res_main_v10 V0) (res_main_v23 V0)).trans ?_
  rw [at_v10, at_v23, bits_num_5]
  rfl

theorem at_v47 : pick (res_main_v47 V0) (ix1 i) = lg V0 i 3 1 := by
  refine (diag_form i 0x40E00000#32 (res_main_v10 V0) (res_main_v26 V0)).trans ?_
  rw [at_v10, at_v26, bits_num_7]
  rfl

theorem at_v50 : pick (res_main_v50 V0) (ix1 i) = lg V0 i 4 1 := by
  refine (diag_form i 0x41100000#32 (res_main_v10 V0) (res_main_v29 V0)).trans ?_
  rw [at_v10, at_v29, bits_num_9]
  rfl

theorem at_v53 : pick (res_main_v53 V0) (ix1 i) = lg V0 i 5 1 := by
  refine (diag_form i 0x41300000#32 (res_main_v10 V0) (res_main_v32 V0)).trans ?_
  rw [at_v10, at_v32, bits_num_11]
  rfl

theorem at_v61 : pick (res_main_v61 V0) (ix1 i) = lg V0 i 0 2 := by
  refine (step_form i 0x40400000#32 0x3F800000#32 0x40000000#32 (res_main_v10 V0) (res_main_v38 V0) (res_main_v17 V0)).trans ?_
  rw [at_v10, at_v38, at_v17, bits_num_3, bits_num_1, bits_num_2, div_num _ (by norm_num)]
  rfl

theorem at_v69 : pick (res_main_v69 V0) (ix1 i) = lg V0 i 0 3 := by
  refine (step_form i 0x40A00000#32 0x40000000#32 0x40400000#32 (res_main_v10 V0) (res_main_v61 V0) (res_main_v38 V0)).trans ?_
  rw [at_v10, at_v61, at_v38, bits_num_5, bits_num_2, bits_num_3, div_num _ (by norm_num)]
  rfl

theorem at_v77 : pick (res_main_v77 V0) (ix1 i) = lg V0 i 0 4 := by
  refine (step_form i 0x40E00000#32 0x40400000#32 0x40800000#32 (res_main_v10 V0) (res_main_v69 V0) (res_main_v61 V0)).trans ?_
  rw [at_v10, at_v69, at_v61, bits_num_7, bits_num_3, bits_num_4, div_num _ (by norm_num)]
  rfl

theorem at_v85 : pick (res_main_v85 V0) (ix1 i) = lg V0 i 0 5 := by
  refine (step_form i 0x41100000#32 0x40800000#32 0x40A00000#32 (res_main_v10 V0) (res_main_v77 V0) (res_main_v69 V0)).trans ?_
  rw [at_v10, at_v77, at_v69, bits_num_9, bits_num_4, bits_num_5, div_num _ (by norm_num)]
  rfl

theorem at_v101 : pick (res_main_v101 V0) (ix1 i) = lg V0 i 1 2 := by
  refine (step_form i 0x40A00000#32 0x40400000#32 0x40000000#32 (res_main_v10 V0) (res_main_v41 V0) (res_main_v20 V0)).trans ?_
  rw [at_v10, at_v41, at_v20, bits_num_5, bits_num_3, bits_num_2, div_num _ (by norm_num)]
  rfl

theorem at_v109 : pick (res_main_v109 V0) (ix1 i) = lg V0 i 1 3 := by
  refine (step_form i 0x40E00000#32 0x40800000#32 0x40400000#32 (res_main_v10 V0) (res_main_v101 V0) (res_main_v41 V0)).trans ?_
  rw [at_v10, at_v101, at_v41, bits_num_7, bits_num_4, bits_num_3, div_num _ (by norm_num)]
  rfl

theorem at_v117 : pick (res_main_v117 V0) (ix1 i) = lg V0 i 1 4 := by
  refine (step_form i 0x41100000#32 0x40A00000#32 0x40800000#32 (res_main_v10 V0) (res_main_v109 V0) (res_main_v101 V0)).trans ?_
  rw [at_v10, at_v109, at_v101, bits_num_9, bits_num_5, bits_num_4, div_num _ (by norm_num)]
  rfl

theorem at_v125 : pick (res_main_v125 V0) (ix1 i) = lg V0 i 1 5 := by
  refine (step_form i 0x41300000#32 0x40C00000#32 0x40A00000#32 (res_main_v10 V0) (res_main_v117 V0) (res_main_v109 V0)).trans ?_
  rw [at_v10, at_v117, at_v109, bits_num_11, bits_num_6, bits_num_5, div_num _ (by norm_num)]
  rfl

theorem at_v133 : pick (res_main_v133 V0) (ix1 i) = lg V0 i 2 2 := by
  refine (step_form i 0x40E00000#32 0x40A00000#32 0x40000000#32 (res_main_v10 V0) (res_main_v44 V0) (res_main_v23 V0)).trans ?_
  rw [at_v10, at_v44, at_v23, bits_num_7, bits_num_5, bits_num_2, div_num _ (by norm_num)]
  rfl

theorem at_v141 : pick (res_main_v141 V0) (ix1 i) = lg V0 i 2 3 := by
  refine (step_form i 0x41100000#32 0x40C00000#32 0x40400000#32 (res_main_v10 V0) (res_main_v133 V0) (res_main_v44 V0)).trans ?_
  rw [at_v10, at_v133, at_v44, bits_num_9, bits_num_6, bits_num_3, div_num _ (by norm_num)]
  rfl

theorem at_v149 : pick (res_main_v149 V0) (ix1 i) = lg V0 i 2 4 := by
  refine (step_form i 0x41300000#32 0x40E00000#32 0x40800000#32 (res_main_v10 V0) (res_main_v141 V0) (res_main_v133 V0)).trans ?_
  rw [at_v10, at_v141, at_v133, bits_num_11, bits_num_7, bits_num_4, div_num _ (by norm_num)]
  rfl

theorem at_v157 : pick (res_main_v157 V0) (ix1 i) = lg V0 i 3 2 := by
  refine (step_form i 0x41100000#32 0x40E00000#32 0x40000000#32 (res_main_v10 V0) (res_main_v47 V0) (res_main_v26 V0)).trans ?_
  rw [at_v10, at_v47, at_v26, bits_num_9, bits_num_7, bits_num_2, div_num _ (by norm_num)]
  rfl

theorem at_v165 : pick (res_main_v165 V0) (ix1 i) = lg V0 i 3 3 := by
  refine (step_form i 0x41300000#32 0x41000000#32 0x40400000#32 (res_main_v10 V0) (res_main_v157 V0) (res_main_v47 V0)).trans ?_
  rw [at_v10, at_v157, at_v47, bits_num_11, bits_num_8, bits_num_3, div_num _ (by norm_num)]
  rfl

theorem at_v173 : pick (res_main_v173 V0) (ix1 i) = lg V0 i 4 2 := by
  refine (step_form i 0x41300000#32 0x41100000#32 0x40000000#32 (res_main_v10 V0) (res_main_v50 V0) (res_main_v29 V0)).trans ?_
  rw [at_v10, at_v50, at_v29, bits_num_11, bits_num_9, bits_num_2, div_num _ (by norm_num)]
  rfl

theorem at_v175 (j : S_.Idx) : pick (res_main_v175 V0) j = num 4 * circ := by
  have e : pick (res_main_v175 V0) j = Ideal.ofBits .f32 0x40800000#32
      * Ideal.atan2 (Ideal.ofBits .f32 0x00000000#32) (Ideal.ofBits .f32 0xBF800000#32) := rfl
  rw [e, bits_num_4, bits_num_0, bits_neg_1, circ]

theorem at_v176 (j : S_.Idx) : pick (res_main_v176 V0) j = two := by
  have e : pick (res_main_v176 V0) j = Ideal.sqrt (Ideal.ofBits .f32 0x40000000#32) := rfl
  rw [e, bits_num_2, two]

theorem at_v177 (j : S_.Idx) : pick (res_main_v177 V0) j = root := by
  have e : pick (res_main_v177 V0) j = Ideal.sqrt (pick (res_main_v175 V0) j) := rfl
  rw [e, at_v175, root]

/-- The orthonormal normalization from its constants. -/
theorem norm_form (a b c : BitVec 32) (l m : ℕ) (ha : Ideal.ofBits .f32 a = num (2 * l + 1))
    (hb : Ideal.ofBits .f32 b = num (l - m).factorial) (hc : Ideal.ofBits .f32 c = num (l + m).factorial) (j : S_.Idx) :
    pick (Host.sqrt (Host.divf (mulf (Host.divf (constant S_ .f32 a) (res_main_v175 V0)) (constant S_ .f32 b))
      (constant S_ .f32 c))) j = nw l m := by
  have e : pick (Host.sqrt (Host.divf (mulf (Host.divf (constant S_ .f32 a) (res_main_v175 V0)) (constant S_ .f32 b))
      (constant S_ .f32 c))) j
      = Ideal.sqrt (Ideal.div (Ideal.div (Ideal.ofBits .f32 a) (pick (res_main_v175 V0) j) * Ideal.ofBits .f32 b)
          (Ideal.ofBits .f32 c)) := rfl
  rw [e, at_v175, ha, hb, hc, nw]

theorem at_v189 (j : S_.Idx) : pick (res_main_v189 V0) j = nw 1 1 :=
  norm_form V0 0x40400000#32 0x3F800000#32 0x40000000#32 1 1 bits_num_3 (bits_num_1.trans (congrArg num (by decide))) (bits_num_2.trans (congrArg num (by decide))) j

theorem at_v197 (j : S_.Idx) : pick (res_main_v197 V0) j = nw 2 1 :=
  norm_form V0 0x40A00000#32 0x3F800000#32 0x40C00000#32 2 1 bits_num_5 (bits_num_1.trans (congrArg num (by decide))) (bits_num_6.trans (congrArg num (by decide))) j

theorem at_v201 (j : S_.Idx) : pick (res_main_v201 V0) j = nw 2 2 :=
  norm_form V0 0x40A00000#32 0x3F800000#32 0x41C00000#32 2 2 bits_num_5 (bits_num_1.trans (congrArg num (by decide))) (bits_num_24.trans (congrArg num (by decide))) j

theorem at_v209 (j : S_.Idx) : pick (res_main_v209 V0) j = nw 3 1 :=
  norm_form V0 0x40E00000#32 0x40000000#32 0x41C00000#32 3 1 bits_num_7 (bits_num_2.trans (congrArg num (by decide))) (bits_num_24.trans (congrArg num (by decide))) j

theorem at_v213 (j : S_.Idx) : pick (res_main_v213 V0) j = nw 3 2 :=
  norm_form V0 0x40E00000#32 0x3F800000#32 0x42F00000#32 3 2 bits_num_7 (bits_num_1.trans (congrArg num (by decide))) (bits_num_120.trans (congrArg num (by decide))) j

theorem at_v217 (j : S_.Idx) : pick (res_main_v217 V0) j = nw 3 3 :=
  norm_form V0 0x40E00000#32 0x3F800000#32 0x44340000#32 3 3 bits_num_7 (bits_num_1.trans (congrArg num (by decide))) (bits_num_720.trans (congrArg num (by decide))) j

theorem at_v225 (j : S_.Idx) : pick (res_main_v225 V0) j = nw 4 1 :=
  norm_form V0 0x41100000#32 0x40C00000#32 0x42F00000#32 4 1 bits_num_9 (bits_num_6.trans (congrArg num (by decide))) (bits_num_120.trans (congrArg num (by decide))) j

theorem at_v229 (j : S_.Idx) : pick (res_main_v229 V0) j = nw 4 2 :=
  norm_form V0 0x41100000#32 0x40000000#32 0x44340000#32 4 2 bits_num_9 (bits_num_2.trans (congrArg num (by decide))) (bits_num_720.trans (congrArg num (by decide))) j

theorem at_v233 (j : S_.Idx) : pick (res_main_v233 V0) j = nw 4 3 :=
  norm_form V0 0x41100000#32 0x3F800000#32 0x459D8000#32 4 3 bits_num_9 (bits_num_1.trans (congrArg num (by decide))) (bits_num_5040.trans (congrArg num (by decide))) j

theorem at_v237 (j : S_.Idx) : pick (res_main_v237 V0) j = nw 4 4 :=
  norm_form V0 0x41100000#32 0x3F800000#32 0x471D8000#32 4 4 bits_num_9 (bits_num_1.trans (congrArg num (by decide))) (bits_num_40320.trans (congrArg num (by decide))) j

theorem at_v245 (j : S_.Idx) : pick (res_main_v245 V0) j = nw 5 1 :=
  norm_form V0 0x41300000#32 0x41C00000#32 0x44340000#32 5 1 bits_num_11 (bits_num_24.trans (congrArg num (by decide))) (bits_num_720.trans (congrArg num (by decide))) j

theorem at_v249 (j : S_.Idx) : pick (res_main_v249 V0) j = nw 5 2 :=
  norm_form V0 0x41300000#32 0x40C00000#32 0x459D8000#32 5 2 bits_num_11 (bits_num_6.trans (congrArg num (by decide))) (bits_num_5040.trans (congrArg num (by decide))) j

theorem at_v253 (j : S_.Idx) : pick (res_main_v253 V0) j = nw 5 3 :=
  norm_form V0 0x41300000#32 0x40000000#32 0x471D8000#32 5 3 bits_num_11 (bits_num_2.trans (congrArg num (by decide))) (bits_num_40320.trans (congrArg num (by decide))) j

theorem at_v257 (j : S_.Idx) : pick (res_main_v257 V0) j = nw 5 4 :=
  norm_form V0 0x41300000#32 0x3F800000#32 0x48B13000#32 5 4 bits_num_11 (bits_num_1.trans (congrArg num (by decide))) (bits_num_362880.trans (congrArg num (by decide))) j

theorem at_v261 (j : S_.Idx) : pick (res_main_v261 V0) j = nw 5 5 :=
  norm_form V0 0x41300000#32 0x3F800000#32 0x4A5D7C00#32 5 5 bits_num_11 (bits_num_1.trans (congrArg num (by decide))) (bits_num_3628800.trans (congrArg num (by decide))) j

theorem at_v269 (j : S_.Idx) : pick (res_main_v269 V0) j = nw 6 1 :=
  norm_form V0 0x41500000#32 0x42F00000#32 0x459D8000#32 6 1 bits_num_13 (bits_num_120.trans (congrArg num (by decide))) (bits_num_5040.trans (congrArg num (by decide))) j

theorem at_v273 (j : S_.Idx) : pick (res_main_v273 V0) j = nw 6 2 :=
  norm_form V0 0x41500000#32 0x41C00000#32 0x471D8000#32 6 2 bits_num_13 (bits_num_24.trans (congrArg num (by decide))) (bits_num_40320.trans (congrArg num (by decide))) j

theorem at_v277 (j : S_.Idx) : pick (res_main_v277 V0) j = nw 6 3 :=
  norm_form V0 0x41500000#32 0x40C00000#32 0x48B13000#32 6 3 bits_num_13 (bits_num_6.trans (congrArg num (by decide))) (bits_num_362880.trans (congrArg num (by decide))) j

theorem at_v281 (j : S_.Idx) : pick (res_main_v281 V0) j = nw 6 4 :=
  norm_form V0 0x41500000#32 0x40000000#32 0x4A5D7C00#32 6 4 bits_num_13 (bits_num_2.trans (congrArg num (by decide))) (bits_num_3628800.trans (congrArg num (by decide))) j

theorem at_v285 (j : S_.Idx) : pick (res_main_v285 V0) j = nw 6 5 :=
  norm_form V0 0x41500000#32 0x3F800000#32 0x4C184540#32 6 5 bits_num_13 (bits_num_1.trans (congrArg num (by decide))) (bits_num_39916800.trans (congrArg num (by decide))) j

theorem at_v289 (j : S_.Idx) : pick (res_main_v289 V0) j = nw 6 6 :=
  norm_form V0 0x41500000#32 0x3F800000#32 0x4DE467E0#32 6 6 bits_num_13 (bits_num_1.trans (congrArg num (by decide))) (bits_num_479001600.trans (congrArg num (by decide))) j

/-- A harmonic of positive order: the array of one column, from its factors. -/
theorem col_form (n : FVec Ideal S_ .f32) (p t : FVec Ideal S16384 .f32) :
    pick (broadcastInDim S16384x1 ![0] Gen.bcast_S16384_S16384x1_0 (mulf (mulf (mulf (broadcastInDim S16384 ![] Gen.bcast_S_S16384
      (mulf (res_main_v176 V0) n)) p) t) (broadcastInDim S16384 ![] Gen.bcast_S_S16384 (res_main_v177 V0)))) (ix2 i 0)
      = two * pick n ix0 * pick p (ix1 i) * pick t (ix1 i) * root := by
  rw [← at_v176 V0 ix0, ← at_v177 V0 ix0]
  pointwise

/-- A harmonic of order zero: the array of one column, from its factors. -/
theorem col0_form (n : FVec Ideal S_ .f32) (p : FVec Ideal S16384 .f32) :
    pick (broadcastInDim S16384x1 ![0] Gen.bcast_S16384_S16384x1_0 (mulf (mulf (broadcastInDim S16384 ![] Gen.bcast_S_S16384 n) p)
      (broadcastInDim S16384 ![] Gen.bcast_S_S16384 (res_main_v177 V0)))) (ix2 i 0)
      = pick n ix0 * pick p (ix1 i) * root := by
  rw [← at_v177 V0 ix0]
  pointwise

theorem sin_form (c : BitVec 32) (m : ℕ) (hc : Ideal.ofBits .f32 c = num (m + 1)) :
    pick (Host.sin (mulf (broadcastInDim S16384 ![] Gen.bcast_S_S16384 (constant S_ .f32 c)) (res_main_v16 V0))) (ix1 i)
      = sinm V0 i m := by
  have e : pick (Host.sin (mulf (broadcastInDim S16384 ![] Gen.bcast_S_S16384 (constant S_ .f32 c)) (res_main_v16 V0))) (ix1 i)
      = Ideal.sin (Ideal.ofBits .f32 c * pick (res_main_v16 V0) (ix1 i)) := rfl
  rw [e, hc, at_v16, sinm]

theorem cos_form (c : BitVec 32) (m : ℕ) (hc : Ideal.ofBits .f32 c = num (m + 1)) :
    pick (Host.cos (mulf (broadcastInDim S16384 ![] Gen.bcast_S_S16384 (constant S_ .f32 c)) (res_main_v16 V0))) (ix1 i)
      = cosm V0 i m := by
  have e : pick (Host.cos (mulf (broadcastInDim S16384 ![] Gen.bcast_S_S16384 (constant S_ .f32 c)) (res_main_v16 V0))) (ix1 i)
      = Ideal.cos (Ideal.ofBits .f32 c * pick (res_main_v16 V0) (ix1 i)) := rfl
  rw [e, hc, at_v16, cosm]

/-- The harmonic `k` of degree `l` at atom `i`, as the reference computes it. -/
def sph (l k : ℕ) : EReal := harm' (lg V0 i) (cosm V0 i) (sinm V0 i) l k

theorem at_y0 : pick (broadcastInDim S16384x1 ![0] Gen.bcast_S16384_S16384x1_0 (mulf (mulf (broadcastInDim S16384 ![] Gen.bcast_S_S16384 (Host.sqrt (Host.divf (mulf (Host.divf (constant S_ .f32 0x3F800000#32) (res_main_v175 V0)) (constant S_ .f32 0x3F800000#32)) (constant S_ .f32 0x3F800000#32)))) (res_main_v17 V0)) (broadcastInDim S16384 ![] Gen.bcast_S_S16384 (res_main_v177 V0)))) (ix2 i 0) = sph V0 i 0 0 := by
  rw [col0_form, norm_form V0 0x3F800000#32 0x3F800000#32 0x3F800000#32 0 0 bits_num_1 (bits_num_1.trans (congrArg num (by decide))) (bits_num_1.trans (congrArg num (by decide))), at_v17]
  rfl

theorem at_y1_0 : pick (broadcastInDim S16384x1 ![0] Gen.bcast_S16384_S16384x1_0 (mulf (mulf (mulf (broadcastInDim S16384 ![] Gen.bcast_S_S16384 (mulf (res_main_v176 V0) (res_main_v189 V0))) (res_main_v20 V0)) (Host.sin (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 1 0 := by
  rw [col_form, at_v189, at_v20, sin_form V0 i 0x3F800000#32 0 bits_num_1]
  rfl

theorem at_y1_1 : pick (broadcastInDim S16384x1 ![0] Gen.bcast_S16384_S16384x1_0 (mulf (mulf (broadcastInDim S16384 ![] Gen.bcast_S_S16384 (Host.sqrt (Host.divf (mulf (Host.divf (constant S_ .f32 0x40400000#32) (res_main_v175 V0)) (constant S_ .f32 0x3F800000#32)) (constant S_ .f32 0x3F800000#32)))) (res_main_v38 V0)) (broadcastInDim S16384 ![] Gen.bcast_S_S16384 (res_main_v177 V0)))) (ix2 i 0) = sph V0 i 1 1 := by
  rw [col0_form, norm_form V0 0x40400000#32 0x3F800000#32 0x3F800000#32 1 0 bits_num_3 (bits_num_1.trans (congrArg num (by decide))) (bits_num_1.trans (congrArg num (by decide))), at_v38]
  rfl

theorem at_y1_2 : pick (broadcastInDim S16384x1 ![0] Gen.bcast_S16384_S16384x1_0 (mulf (mulf (mulf (broadcastInDim S16384 ![] Gen.bcast_S_S16384 (mulf (res_main_v176 V0) (res_main_v189 V0))) (res_main_v20 V0)) (Host.cos (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 1 2 := by
  rw [col_form, at_v189, at_v20, cos_form V0 i 0x3F800000#32 0 bits_num_1]
  rfl

theorem at_y2_0 : pick (broadcastInDim S16384x1 ![0] Gen.bcast_S16384_S16384x1_0 (mulf (mulf (mulf (broadcastInDim S16384 ![] Gen.bcast_S_S16384 (mulf (res_main_v176 V0) (res_main_v201 V0))) (res_main_v23 V0)) (Host.sin (mulf (broadcastInDim S16384 ![] Gen.bcast_S_S16384 (constant S_ .f32 0x40000000#32)) (res_main_v16 V0)))) (broadcastInDim S16384 ![] Gen.bcast_S_S16384 (res_main_v177 V0)))) (ix2 i 0) = sph V0 i 2 0 := by
  rw [col_form, at_v201, at_v23, sin_form V0 i 0x40000000#32 1 bits_num_2]
  rfl

theorem at_y2_1 : pick (broadcastInDim S16384x1 ![0] Gen.bcast_S16384_S16384x1_0 (mulf (mulf (mulf (broadcastInDim S16384 ![] Gen.bcast_S_S16384 (mulf (res_main_v176 V0) (res_main_v197 V0))) (res_main_v41 V0)) (Host.sin (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 2 1 := by
  rw [col_form, at_v197, at_v41, sin_form V0 i 0x3F800000#32 0 bits_num_1]
  rfl

theorem at_y2_2 : pick (broadcastInDim S16384x1 ![0] Gen.bcast_S16384_S16384x1_0 (mulf (mulf (broadcastInDim S16384 ![] Gen.bcast_S_S16384 (Host.sqrt (Host.divf (mulf (Host.divf (constant S_ .f32 0x40A00000#32) (res_main_v175 V0)) (constant S_ .f32 0x40000000#32)) (constant S_ .f32 0x40000000#32)))) (res_main_v61 V0)) (broadcastInDim S16384 ![] Gen.bcast_S_S16384 (res_main_v177 V0)))) (ix2 i 0) = sph V0 i 2 2 := by
  rw [col0_form, norm_form V0 0x40A00000#32 0x40000000#32 0x40000000#32 2 0 bits_num_5 (bits_num_2.trans (congrArg num (by decide))) (bits_num_2.trans (congrArg num (by decide))), at_v61]
  rfl

theorem at_y2_3 : pick (broadcastInDim S16384x1 ![0] Gen.bcast_S16384_S16384x1_0 (mulf (mulf (mulf (broadcastInDim S16384 ![] Gen.bcast_S_S16384 (mulf (res_main_v176 V0) (res_main_v197 V0))) (res_main_v41 V0)) (Host.cos (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 2 3 := by
  rw [col_form, at_v197, at_v41, cos_form V0 i 0x3F800000#32 0 bits_num_1]
  rfl

theorem at_y2_4 : pick (broadcastInDim S16384x1 ![0] Gen.bcast_S16384_S16384x1_0 (mulf (mulf (mulf (broadcastInDim S16384 ![] Gen.bcast_S_S16384 (mulf (res_main_v176 V0) (res_main_v201 V0))) (res_main_v23 V0)) (Host.cos (mulf (broadcastInDim S16384 ![] Gen.bcast_S_S16384 (constant S_ .f32 0x40000000#32)) (res_main_v16 V0)))) (broadcastInDim S16384 ![] Gen.bcast_S_S16384 (res_main_v177 V0)))) (ix2 i 0) = sph V0 i 2 4 := by
  rw [col_form, at_v201, at_v23, cos_form V0 i 0x40000000#32 1 bits_num_2]
  rfl

theorem at_y3_0 : pick (broadcastInDim S16384x1 ![0] Gen.bcast_S16384_S16384x1_0 (mulf (mulf (mulf (broadcastInDim S16384 ![] Gen.bcast_S_S16384 (mulf (res_main_v176 V0) (res_main_v217 V0))) (res_main_v26 V0)) (Host.sin (mulf (broadcastInDim S16384 ![] Gen.bcast_S_S16384 (constant S_ .f32 0x40400000#32)) (res_main_v16 V0)))) (broadcastInDim S16384 ![] Gen.bcast_S_S16384 (res_main_v177 V0)))) (ix2 i 0) = sph V0 i 3 0 := by
  rw [col_form, at_v217, at_v26, sin_form V0 i 0x40400000#32 2 bits_num_3]
  rfl

theorem at_y3_1 : pick (broadcastInDim S16384x1 ![0] Gen.bcast_S16384_S16384x1_0 (mulf (mulf (mulf (broadcastInDim S16384 ![] Gen.bcast_S_S16384 (mulf (res_main_v176 V0) (res_main_v213 V0))) (res_main_v44 V0)) (Host.sin (mulf (broadcastInDim S16384 ![] Gen.bcast_S_S16384 (constant S_ .f32 0x40000000#32)) (res_main_v16 V0)))) (broadcastInDim S16384 ![] Gen.bcast_S_S16384 (res_main_v177 V0)))) (ix2 i 0) = sph V0 i 3 1 := by
  rw [col_form, at_v213, at_v44, sin_form V0 i 0x40000000#32 1 bits_num_2]
  rfl

theorem at_y3_2 : pick (broadcastInDim S16384x1 ![0] Gen.bcast_S16384_S16384x1_0 (mulf (mulf (mulf (broadcastInDim S16384 ![] Gen.bcast_S_S16384 (mulf (res_main_v176 V0) (res_main_v209 V0))) (res_main_v101 V0)) (Host.sin (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 3 2 := by
  rw [col_form, at_v209, at_v101, sin_form V0 i 0x3F800000#32 0 bits_num_1]
  rfl

theorem at_y3_3 : pick (broadcastInDim S16384x1 ![0] Gen.bcast_S16384_S16384x1_0 (mulf (mulf (broadcastInDim S16384 ![] Gen.bcast_S_S16384 (Host.sqrt (Host.divf (mulf (Host.divf (constant S_ .f32 0x40E00000#32) (res_main_v175 V0)) (constant S_ .f32 0x40C00000#32)) (constant S_ .f32 0x40C00000#32)))) (res_main_v69 V0)) (broadcastInDim S16384 ![] Gen.bcast_S_S16384 (res_main_v177 V0)))) (ix2 i 0) = sph V0 i 3 3 := by
  rw [col0_form, norm_form V0 0x40E00000#32 0x40C00000#32 0x40C00000#32 3 0 bits_num_7 (bits_num_6.trans (congrArg num (by decide))) (bits_num_6.trans (congrArg num (by decide))), at_v69]
  rfl

theorem at_y3_4 : pick (broadcastInDim S16384x1 ![0] Gen.bcast_S16384_S16384x1_0 (mulf (mulf (mulf (broadcastInDim S16384 ![] Gen.bcast_S_S16384 (mulf (res_main_v176 V0) (res_main_v209 V0))) (res_main_v101 V0)) (Host.cos (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 3 4 := by
  rw [col_form, at_v209, at_v101, cos_form V0 i 0x3F800000#32 0 bits_num_1]
  rfl

theorem at_y3_5 : pick (broadcastInDim S16384x1 ![0] Gen.bcast_S16384_S16384x1_0 (mulf (mulf (mulf (broadcastInDim S16384 ![] Gen.bcast_S_S16384 (mulf (res_main_v176 V0) (res_main_v213 V0))) (res_main_v44 V0)) (Host.cos (mulf (broadcastInDim S16384 ![] Gen.bcast_S_S16384 (constant S_ .f32 0x40000000#32)) (res_main_v16 V0)))) (broadcastInDim S16384 ![] Gen.bcast_S_S16384 (res_main_v177 V0)))) (ix2 i 0) = sph V0 i 3 5 := by
  rw [col_form, at_v213, at_v44, cos_form V0 i 0x40000000#32 1 bits_num_2]
  rfl

theorem at_y3_6 : pick (broadcastInDim S16384x1 ![0] Gen.bcast_S16384_S16384x1_0 (mulf (mulf (mulf (broadcastInDim S16384 ![] Gen.bcast_S_S16384 (mulf (res_main_v176 V0) (res_main_v217 V0))) (res_main_v26 V0)) (Host.cos (mulf (broadcastInDim S16384 ![] Gen.bcast_S_S16384 (constant S_ .f32 0x40400000#32)) (res_main_v16 V0)))) (broadcastInDim S16384 ![] Gen.bcast_S_S16384 (res_main_v177 V0)))) (ix2 i 0) = sph V0 i 3 6 := by
  rw [col_form, at_v217, at_v26, cos_form V0 i 0x40400000#32 2 bits_num_3]
  rfl

theorem at_y4_0 : pick (broadcastInDim S16384x1 ![0] Gen.bcast_S16384_S16384x1_0 (mulf (mulf (mulf (broadcastInDim S16384 ![] Gen.bcast_S_S16384 (mulf (res_main_v176 V0) (res_main_v237 V0))) (res_main_v29 V0)) (Host.sin (mulf (broadcastInDim S16384 ![] Gen.bcast_S_S16384 (constant S_ .f32 0x40800000#32)) (res_main_v16 V0)))) (broadcastInDim S16384 ![] Gen.bcast_S_S16384 (res_main_v177 V0)))) (ix2 i 0) = sph V0 i 4 0 := by
  rw [col_form, at_v237, at_v29, sin_form V0 i 0x40800000#32 3 bits_num_4]
  rfl

theorem at_y4_1 : pick (broadcastInDim S16384x1 ![0] Gen.bcast_S16384_S16384x1_0 (mulf (mulf (mulf (broadcastInDim S16384 ![] Gen.bcast_S_S16384 (mulf (res_main_v176 V0) (res_main_v233 V0))) (res_main_v47 V0)) (Host.sin (mulf (broadcastInDim S16384 ![] Gen.bcast_S_S16384 (constant S_ .f32 0x40400000#32)) (res_main_v16 V0)))) (broadcastInDim S16384 ![] Gen.bcast_S_S16384 (res_main_v177 V0)))) (ix2 i 0) = sph V0 i 4 1 := by
  rw [col_form, at_v233, at_v47, sin_form V0 i 0x40400000#32 2 bits_num_3]
  rfl

theorem at_y4_2 : pick (broadcastInDim S16384x1 ![0] Gen.bcast_S16384_S16384x1_0 (mulf (mulf (mulf (broadcastInDim S16384 ![] Gen.bcast_S_S16384 (mulf (res_main_v176 V0) (res_main_v229 V0))) (res_main_v133 V0)) (Host.sin (mulf (broadcastInDim S16384 ![] Gen.bcast_S_S16384 (constant S_ .f32 0x40000000#32)) (res_main_v16 V0)))) (broadcastInDim S16384 ![] Gen.bcast_S_S16384 (res_main_v177 V0)))) (ix2 i 0) = sph V0 i 4 2 := by
  rw [col_form, at_v229, at_v133, sin_form V0 i 0x40000000#32 1 bits_num_2]
  rfl

theorem at_y4_3 : pick (broadcastInDim S16384x1 ![0] Gen.bcast_S16384_S16384x1_0 (mulf (mulf (mulf (broadcastInDim S16384 ![] Gen.bcast_S_S16384 (mulf (res_main_v176 V0) (res_main_v225 V0))) (res_main_v109 V0)) (Host.sin (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 4 3 := by
  rw [col_form, at_v225, at_v109, sin_form V0 i 0x3F800000#32 0 bits_num_1]
  rfl

theorem at_y4_4 : pick (broadcastInDim S16384x1 ![0] Gen.bcast_S16384_S16384x1_0 (mulf (mulf (broadcastInDim S16384 ![] Gen.bcast_S_S16384 (Host.sqrt (Host.divf (mulf (Host.divf (constant S_ .f32 0x41100000#32) (res_main_v175 V0)) (constant S_ .f32 0x41C00000#32)) (constant S_ .f32 0x41C00000#32)))) (res_main_v77 V0)) (broadcastInDim S16384 ![] Gen.bcast_S_S16384 (res_main_v177 V0)))) (ix2 i 0) = sph V0 i 4 4 := by
  rw [col0_form, norm_form V0 0x41100000#32 0x41C00000#32 0x41C00000#32 4 0 bits_num_9 (bits_num_24.trans (congrArg num (by decide))) (bits_num_24.trans (congrArg num (by decide))), at_v77]
  rfl

theorem at_y4_5 : pick (broadcastInDim S16384x1 ![0] Gen.bcast_S16384_S16384x1_0 (mulf (mulf (mulf (broadcastInDim S16384 ![] Gen.bcast_S_S16384 (mulf (res_main_v176 V0) (res_main_v225 V0))) (res_main_v109 V0)) (Host.cos (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 4 5 := by
  rw [col_form, at_v225, at_v109, cos_form V0 i 0x3F800000#32 0 bits_num_1]
  rfl

theorem at_y4_6 : pick (broadcastInDim S16384x1 ![0] Gen.bcast_S16384_S16384x1_0 (mulf (mulf (mulf (broadcastInDim S16384 ![] Gen.bcast_S_S16384 (mulf (res_main_v176 V0) (res_main_v229 V0))) (res_main_v133 V0)) (Host.cos (mulf (broadcastInDim S16384 ![] Gen.bcast_S_S16384 (constant S_ .f32 0x40000000#32)) (res_main_v16 V0)))) (broadcastInDim S16384 ![] Gen.bcast_S_S16384 (res_main_v177 V0)))) (ix2 i 0) = sph V0 i 4 6 := by
  rw [col_form, at_v229, at_v133, cos_form V0 i 0x40000000#32 1 bits_num_2]
  rfl

theorem at_y4_7 : pick (broadcastInDim S16384x1 ![0] Gen.bcast_S16384_S16384x1_0 (mulf (mulf (mulf (broadcastInDim S16384 ![] Gen.bcast_S_S16384 (mulf (res_main_v176 V0) (res_main_v233 V0))) (res_main_v47 V0)) (Host.cos (mulf (broadcastInDim S16384 ![] Gen.bcast_S_S16384 (constant S_ .f32 0x40400000#32)) (res_main_v16 V0)))) (broadcastInDim S16384 ![] Gen.bcast_S_S16384 (res_main_v177 V0)))) (ix2 i 0) = sph V0 i 4 7 := by
  rw [col_form, at_v233, at_v47, cos_form V0 i 0x40400000#32 2 bits_num_3]
  rfl

theorem at_y4_8 : pick (broadcastInDim S16384x1 ![0] Gen.bcast_S16384_S16384x1_0 (mulf (mulf (mulf (broadcastInDim S16384 ![] Gen.bcast_S_S16384 (mulf (res_main_v176 V0) (res_main_v237 V0))) (res_main_v29 V0)) (Host.cos (mulf (broadcastInDim S16384 ![] Gen.bcast_S_S16384 (constant S_ .f32 0x40800000#32)) (res_main_v16 V0)))) (broadcastInDim S16384 ![] Gen.bcast_S_S16384 (res_main_v177 V0)))) (ix2 i 0) = sph V0 i 4 8 := by
  rw [col_form, at_v237, at_v29, cos_form V0 i 0x40800000#32 3 bits_num_4]
  rfl

theorem at_y5_0 : pick (broadcastInDim S16384x1 ![0] Gen.bcast_S16384_S16384x1_0 (mulf (mulf (mulf (broadcastInDim S16384 ![] Gen.bcast_S_S16384 (mulf (res_main_v176 V0) (res_main_v261 V0))) (res_main_v32 V0)) (Host.sin (mulf (broadcastInDim S16384 ![] Gen.bcast_S_S16384 (constant S_ .f32 0x40A00000#32)) (res_main_v16 V0)))) (broadcastInDim S16384 ![] Gen.bcast_S_S16384 (res_main_v177 V0)))) (ix2 i 0) = sph V0 i 5 0 := by
  rw [col_form, at_v261, at_v32, sin_form V0 i 0x40A00000#32 4 bits_num_5]
  rfl

theorem at_y5_1 : pick (broadcastInDim S16384x1 ![0] Gen.bcast_S16384_S16384x1_0 (mulf (mulf (mulf (broadcastInDim S16384 ![] Gen.bcast_S_S16384 (mulf (res_main_v176 V0) (res_main_v257 V0))) (res_main_v50 V0)) (Host.sin (mulf (broadcastInDim S16384 ![] Gen.bcast_S_S16384 (constant S_ .f32 0x40800000#32)) (res_main_v16 V0)))) (broadcastInDim S16384 ![] Gen.bcast_S_S16384 (res_main_v177 V0)))) (ix2 i 0) = sph V0 i 5 1 := by
  rw [col_form, at_v257, at_v50, sin_form V0 i 0x40800000#32 3 bits_num_4]
  rfl

theorem at_y5_2 : pick (broadcastInDim S16384x1 ![0] Gen.bcast_S16384_S16384x1_0 (mulf (mulf (mulf (broadcastInDim S16384 ![] Gen.bcast_S_S16384 (mulf (res_main_v176 V0) (res_main_v253 V0))) (res_main_v157 V0)) (Host.sin (mulf (broadcastInDim S16384 ![] Gen.bcast_S_S16384 (constant S_ .f32 0x40400000#32)) (res_main_v16 V0)))) (broadcastInDim S16384 ![] Gen.bcast_S_S16384 (res_main_v177 V0)))) (ix2 i 0) = sph V0 i 5 2 := by
  rw [col_form, at_v253, at_v157, sin_form V0 i 0x40400000#32 2 bits_num_3]
  rfl

theorem at_y5_3 : pick (broadcastInDim S16384x1 ![0] Gen.bcast_S16384_S16384x1_0 (mulf (mulf (mulf (broadcastInDim S16384 ![] Gen.bcast_S_S16384 (mulf (res_main_v176 V0) (res_main_v249 V0))) (res_main_v141 V0)) (Host.sin (mulf (broadcastInDim S16384 ![] Gen.bcast_S_S16384 (constant S_ .f32 0x40000000#32)) (res_main_v16 V0)))) (broadcastInDim S16384 ![] Gen.bcast_S_S16384 (res_main_v177 V0)))) (ix2 i 0) = sph V0 i 5 3 := by
  rw [col_form, at_v249, at_v141, sin_form V0 i 0x40000000#32 1 bits_num_2]
  rfl

theorem at_y5_4 : pick (broadcastInDim S16384x1 ![0] Gen.bcast_S16384_S16384x1_0 (mulf (mulf (mulf (broadcastInDim S16384 ![] Gen.bcast_S_S16384 (mulf (res_main_v176 V0) (res_main_v245 V0))) (res_main_v117 V0)) (Host.sin (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 5 4 := by
  rw [col_form, at_v245, at_v117, sin_form V0 i 0x3F800000#32 0 bits_num_1]
  rfl

theorem at_y5_5 : pick (broadcastInDim S16384x1 ![0] Gen.bcast_S16384_S16384x1_0 (mulf (mulf (broadcastInDim S16384 ![] Gen.bcast_S_S16384 (Host.sqrt (Host.divf (mulf (Host.divf (constant S_ .f32 0x41300000#32) (res_main_v175 V0)) (constant S_ .f32 0x42F00000#32)) (constant S_ .f32 0x42F00000#32)))) (res_main_v85 V0)) (broadcastInDim S16384 ![] Gen.bcast_S_S16384 (res_main_v177 V0)))) (ix2 i 0) = sph V0 i 5 5 := by
  rw [col0_form, norm_form V0 0x41300000#32 0x42F00000#32 0x42F00000#32 5 0 bits_num_11 (bits_num_120.trans (congrArg num (by decide))) (bits_num_120.trans (congrArg num (by decide))), at_v85]
  rfl

theorem at_y5_6 : pick (broadcastInDim S16384x1 ![0] Gen.bcast_S16384_S16384x1_0 (mulf (mulf (mulf (broadcastInDim S16384 ![] Gen.bcast_S_S16384 (mulf (res_main_v176 V0) (res_main_v245 V0))) (res_main_v117 V0)) (Host.cos (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 5 6 := by
  rw [col_form, at_v245, at_v117, cos_form V0 i 0x3F800000#32 0 bits_num_1]
  rfl

theorem at_y5_7 : pick (broadcastInDim S16384x1 ![0] Gen.bcast_S16384_S16384x1_0 (mulf (mulf (mulf (broadcastInDim S16384 ![] Gen.bcast_S_S16384 (mulf (res_main_v176 V0) (res_main_v249 V0))) (res_main_v141 V0)) (Host.cos (mulf (broadcastInDim S16384 ![] Gen.bcast_S_S16384 (constant S_ .f32 0x40000000#32)) (res_main_v16 V0)))) (broadcastInDim S16384 ![] Gen.bcast_S_S16384 (res_main_v177 V0)))) (ix2 i 0) = sph V0 i 5 7 := by
  rw [col_form, at_v249, at_v141, cos_form V0 i 0x40000000#32 1 bits_num_2]
  rfl

theorem at_y5_8 : pick (broadcastInDim S16384x1 ![0] Gen.bcast_S16384_S16384x1_0 (mulf (mulf (mulf (broadcastInDim S16384 ![] Gen.bcast_S_S16384 (mulf (res_main_v176 V0) (res_main_v253 V0))) (res_main_v157 V0)) (Host.cos (mulf (broadcastInDim S16384 ![] Gen.bcast_S_S16384 (constant S_ .f32 0x40400000#32)) (res_main_v16 V0)))) (broadcastInDim S16384 ![] Gen.bcast_S_S16384 (res_main_v177 V0)))) (ix2 i 0) = sph V0 i 5 8 := by
  rw [col_form, at_v253, at_v157, cos_form V0 i 0x40400000#32 2 bits_num_3]
  rfl

theorem at_y5_9 : pick (broadcastInDim S16384x1 ![0] Gen.bcast_S16384_S16384x1_0 (mulf (mulf (mulf (broadcastInDim S16384 ![] Gen.bcast_S_S16384 (mulf (res_main_v176 V0) (res_main_v257 V0))) (res_main_v50 V0)) (Host.cos (mulf (broadcastInDim S16384 ![] Gen.bcast_S_S16384 (constant S_ .f32 0x40800000#32)) (res_main_v16 V0)))) (broadcastInDim S16384 ![] Gen.bcast_S_S16384 (res_main_v177 V0)))) (ix2 i 0) = sph V0 i 5 9 := by
  rw [col_form, at_v257, at_v50, cos_form V0 i 0x40800000#32 3 bits_num_4]
  rfl

theorem at_y5_10 : pick (broadcastInDim S16384x1 ![0] Gen.bcast_S16384_S16384x1_0 (mulf (mulf (mulf (broadcastInDim S16384 ![] Gen.bcast_S_S16384 (mulf (res_main_v176 V0) (res_main_v261 V0))) (res_main_v32 V0)) (Host.cos (mulf (broadcastInDim S16384 ![] Gen.bcast_S_S16384 (constant S_ .f32 0x40A00000#32)) (res_main_v16 V0)))) (broadcastInDim S16384 ![] Gen.bcast_S_S16384 (res_main_v177 V0)))) (ix2 i 0) = sph V0 i 5 10 := by
  rw [col_form, at_v261, at_v32, cos_form V0 i 0x40A00000#32 4 bits_num_5]
  rfl

theorem at_y6_0 : pick (broadcastInDim S16384x1 ![0] Gen.bcast_S16384_S16384x1_0 (mulf (mulf (mulf (broadcastInDim S16384 ![] Gen.bcast_S_S16384 (mulf (res_main_v176 V0) (res_main_v289 V0))) (res_main_v35 V0)) (Host.sin (mulf (broadcastInDim S16384 ![] Gen.bcast_S_S16384 (constant S_ .f32 0x40C00000#32)) (res_main_v16 V0)))) (broadcastInDim S16384 ![] Gen.bcast_S_S16384 (res_main_v177 V0)))) (ix2 i 0) = sph V0 i 6 0 := by
  rw [col_form, at_v289, at_v35, sin_form V0 i 0x40C00000#32 5 bits_num_6]
  rfl

theorem at_y6_1 : pick (broadcastInDim S16384x1 ![0] Gen.bcast_S16384_S16384x1_0 (mulf (mulf (mulf (broadcastInDim S16384 ![] Gen.bcast_S_S16384 (mulf (res_main_v176 V0) (res_main_v285 V0))) (res_main_v53 V0)) (Host.sin (mulf (broadcastInDim S16384 ![] Gen.bcast_S_S16384 (constant S_ .f32 0x40A00000#32)) (res_main_v16 V0)))) (broadcastInDim S16384 ![] Gen.bcast_S_S16384 (res_main_v177 V0)))) (ix2 i 0) = sph V0 i 6 1 := by
  rw [col_form, at_v285, at_v53, sin_form V0 i 0x40A00000#32 4 bits_num_5]
  rfl

theorem at_y6_2 : pick (broadcastInDim S16384x1 ![0] Gen.bcast_S16384_S16384x1_0 (mulf (mulf (mulf (broadcastInDim S16384 ![] Gen.bcast_S_S16384 (mulf (res_main_v176 V0) (res_main_v281 V0))) (res_main_v173 V0)) (Host.sin (mulf (broadcastInDim S16384 ![] Gen.bcast_S_S16384 (constant S_ .f32 0x40800000#32)) (res_main_v16 V0)))) (broadcastInDim S16384 ![] Gen.bcast_S_S16384 (res_main_v177 V0)))) (ix2 i 0) = sph V0 i 6 2 := by
  rw [col_form, at_v281, at_v173, sin_form V0 i 0x40800000#32 3 bits_num_4]
  rfl

theorem at_y6_3 : pick (broadcastInDim S16384x1 ![0] Gen.bcast_S16384_S16384x1_0 (mulf (mulf (mulf (broadcastInDim S16384 ![] Gen.bcast_S_S16384 (mulf (res_main_v176 V0) (res_main_v277 V0))) (res_main_v165 V0)) (Host.sin (mulf (broadcastInDim S16384 ![] Gen.bcast_S_S16384 (constant S_ .f32 0x40400000#32)) (res_main_v16 V0)))) (broadcastInDim S16384 ![] Gen.bcast_S_S16384 (res_main_v177 V0)))) (ix2 i 0) = sph V0 i 6 3 := by
  rw [col_form, at_v277, at_v165, sin_form V0 i 0x40400000#32 2 bits_num_3]
  rfl

theorem at_y6_4 : pick (broadcastInDim S16384x1 ![0] Gen.bcast_S16384_S16384x1_0 (mulf (mulf (mulf (broadcastInDim S16384 ![] Gen.bcast_S_S16384 (mulf (res_main_v176 V0) (res_main_v273 V0))) (res_main_v149 V0)) (Host.sin (mulf (broadcastInDim S16384 ![] Gen.bcast_S_S16384 (constant S_ .f32 0x40000000#32)) (res_main_v16 V0)))) (broadcastInDim S16384 ![] Gen.bcast_S_S16384 (res_main_v177 V0)))) (ix2 i 0) = sph V0 i 6 4 := by
  rw [col_form, at_v273, at_v149, sin_form V0 i 0x40000000#32 1 bits_num_2]
  rfl

theorem at_y6_5 : pick (broadcastInDim S16384x1 ![0] Gen.bcast_S16384_S16384x1_0 (mulf (mulf (mulf (broadcastInDim S16384 ![] Gen.bcast_S_S16384 (mulf (res_main_v176 V0) (res_main_v269 V0))) (res_main_v125 V0)) (Host.sin (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 6 5 := by
  rw [col_form, at_v269, at_v125, sin_form V0 i 0x3F800000#32 0 bits_num_1]
  rfl

theorem at_y6_6 : pick (broadcastInDim S16384x1 ![0] Gen.bcast_S16384_S16384x1_0 (mulf (mulf (broadcastInDim S16384 ![] Gen.bcast_S_S16384 (Host.sqrt (Host.divf (mulf (Host.divf (constant S_ .f32 0x41500000#32) (res_main_v175 V0)) (constant S_ .f32 0x44340000#32)) (constant S_ .f32 0x44340000#32)))) (Host.divf (subf (mulf (mulf (broadcastInDim S16384 ![] Gen.bcast_S_S16384 (constant S_ .f32 0x41300000#32)) (res_main_v10 V0)) (res_main_v85 V0)) (mulf (broadcastInDim S16384 ![] Gen.bcast_S_S16384 (constant S_ .f32 0x40A00000#32)) (res_main_v77 V0))) (broadcastInDim S16384 ![] Gen.bcast_S_S16384 (constant S_ .f32 0x40C00000#32)))) (broadcastInDim S16384 ![] Gen.bcast_S_S16384 (res_main_v177 V0)))) (ix2 i 0) = sph V0 i 6 6 := by
  have e := step_form i 0x41300000#32 0x40A00000#32 0x40C00000#32 (res_main_v10 V0) (res_main_v85 V0) (res_main_v77 V0)
  rw [at_v10, at_v85, at_v77, bits_num_11, bits_num_5, bits_num_6, div_num _ (by norm_num)] at e
  rw [col0_form, norm_form V0 0x41500000#32 0x44340000#32 0x44340000#32 6 0 bits_num_13 (bits_num_720.trans (congrArg num (by decide))) (bits_num_720.trans (congrArg num (by decide)))]
  unfold pick
  rw [e]
  rfl

theorem at_y6_7 : pick (broadcastInDim S16384x1 ![0] Gen.bcast_S16384_S16384x1_0 (mulf (mulf (mulf (broadcastInDim S16384 ![] Gen.bcast_S_S16384 (mulf (res_main_v176 V0) (res_main_v269 V0))) (res_main_v125 V0)) (Host.cos (mulf (broadcastInDim S16384 ![] Gen.bcast_S_S16384 (constant S_ .f32 0x3F800000#32)) (res_main_v16 V0)))) (broadcastInDim S16384 ![] Gen.bcast_S_S16384 (res_main_v177 V0)))) (ix2 i 0) = sph V0 i 6 7 := by
  rw [col_form, at_v269, at_v125, cos_form V0 i 0x3F800000#32 0 bits_num_1]
  rfl

theorem at_y6_8 : pick (broadcastInDim S16384x1 ![0] Gen.bcast_S16384_S16384x1_0 (mulf (mulf (mulf (broadcastInDim S16384 ![] Gen.bcast_S_S16384 (mulf (res_main_v176 V0) (res_main_v273 V0))) (res_main_v149 V0)) (Host.cos (mulf (broadcastInDim S16384 ![] Gen.bcast_S_S16384 (constant S_ .f32 0x40000000#32)) (res_main_v16 V0)))) (broadcastInDim S16384 ![] Gen.bcast_S_S16384 (res_main_v177 V0)))) (ix2 i 0) = sph V0 i 6 8 := by
  rw [col_form, at_v273, at_v149, cos_form V0 i 0x40000000#32 1 bits_num_2]
  rfl

theorem at_y6_9 : pick (broadcastInDim S16384x1 ![0] Gen.bcast_S16384_S16384x1_0 (mulf (mulf (mulf (broadcastInDim S16384 ![] Gen.bcast_S_S16384 (mulf (res_main_v176 V0) (res_main_v277 V0))) (res_main_v165 V0)) (Host.cos (mulf (broadcastInDim S16384 ![] Gen.bcast_S_S16384 (constant S_ .f32 0x40400000#32)) (res_main_v16 V0)))) (broadcastInDim S16384 ![] Gen.bcast_S_S16384 (res_main_v177 V0)))) (ix2 i 0) = sph V0 i 6 9 := by
  rw [col_form, at_v277, at_v165, cos_form V0 i 0x40400000#32 2 bits_num_3]
  rfl

theorem at_y6_10 : pick (broadcastInDim S16384x1 ![0] Gen.bcast_S16384_S16384x1_0 (mulf (mulf (mulf (broadcastInDim S16384 ![] Gen.bcast_S_S16384 (mulf (res_main_v176 V0) (res_main_v281 V0))) (res_main_v173 V0)) (Host.cos (mulf (broadcastInDim S16384 ![] Gen.bcast_S_S16384 (constant S_ .f32 0x40800000#32)) (res_main_v16 V0)))) (broadcastInDim S16384 ![] Gen.bcast_S_S16384 (res_main_v177 V0)))) (ix2 i 0) = sph V0 i 6 10 := by
  rw [col_form, at_v281, at_v173, cos_form V0 i 0x40800000#32 3 bits_num_4]
  rfl

theorem at_y6_11 : pick (broadcastInDim S16384x1 ![0] Gen.bcast_S16384_S16384x1_0 (mulf (mulf (mulf (broadcastInDim S16384 ![] Gen.bcast_S_S16384 (mulf (res_main_v176 V0) (res_main_v285 V0))) (res_main_v53 V0)) (Host.cos (mulf (broadcastInDim S16384 ![] Gen.bcast_S_S16384 (constant S_ .f32 0x40A00000#32)) (res_main_v16 V0)))) (broadcastInDim S16384 ![] Gen.bcast_S_S16384 (res_main_v177 V0)))) (ix2 i 0) = sph V0 i 6 11 := by
  rw [col_form, at_v285, at_v53, cos_form V0 i 0x40A00000#32 4 bits_num_5]
  rfl

theorem at_y6_12 : pick (broadcastInDim S16384x1 ![0] Gen.bcast_S16384_S16384x1_0 (mulf (mulf (mulf (broadcastInDim S16384 ![] Gen.bcast_S_S16384 (mulf (res_main_v176 V0) (res_main_v289 V0))) (res_main_v35 V0)) (Host.cos (mulf (broadcastInDim S16384 ![] Gen.bcast_S_S16384 (constant S_ .f32 0x40C00000#32)) (res_main_v16 V0)))) (broadcastInDim S16384 ![] Gen.bcast_S_S16384 (res_main_v177 V0)))) (ix2 i 0) = sph V0 i 6 12 := by
  rw [col_form, at_v289, at_v35, cos_form V0 i 0x40C00000#32 5 bits_num_6]
  rfl

end Cert.ReferenceIdeal.Atom

end
-- ==== Proof.RefFeature.lean ====
/- The reference's feature array: at atom `i` and the column of degree `l`, radial index `n` and order `k`, the radial
   function times the harmonic. -/
module

public import proofs.«01_k».proof.Proof.RefWords

@[expose] public section

noncomputable section

namespace Cert.ReferenceIdeal.Feature

open Cert.ReferenceIdeal Cert.ReferenceIdeal.Gen Cert.ReferenceIdeal.Value Cert.ReferenceIdeal.Atom Cert.Sph
open Idealize.ShloMosaic

variable (V0 : Valuation τ sig (Elt Ideal)) (i : Fin 16384)

/-- The radial function of the reference: a sine over the floored radius. -/
def rad (r : EReal) (n : ℕ) : EReal :=
  Ideal.div (Ideal.sqrt (Ideal.div (num 2) (num 10)) * Ideal.sin (Ideal.div ((num 1 + num n) * circ * max rmin r) (num 10)))
    (max rmin r)

theorem small_word (n : ℕ) (h : n < 2 ^ 31) : FloatOps.sitofp (F := Ideal) .f32 (BitVec.ofNat 32 n) = num n := by
  show (((BitVec.ofNat 32 n).toInt : ℝ) : EReal) = num n
  have e : (BitVec.ofNat 32 n).toInt = (n : ℤ) := by
    rw [BitVec.toInt_eq_toNat_of_lt] <;> rw [BitVec.toNat_ofNat] <;> omega
  rw [e, num, Int.cast_natCast]

theorem at_v755 : pick (res_main_v755 V0) (ix2 i 0) = max rmin (len (cx V0 i) (cy V0 i) (cz V0 i)) := by
  rw [← at_v0]
  unfold res_main_v755
  pointwise
  rfl

theorem at_v771 (n : Fin 20) : pick (res_main_v771 V0) (ix2 i n) = rad (len (cx V0 i) (cy V0 i) (cz V0 i)) n := by
  have e : pick (res_main_v771 V0) (ix2 i n)
      = Ideal.div (Ideal.sqrt (Ideal.div (Ideal.ofBits .f32 0x40000000#32) (Ideal.ofBits .f32 0x41200000#32))
          * Ideal.sin (Ideal.div ((Ideal.ofBits .f32 0x3F800000#32 + FloatOps.sitofp (F := Ideal) .f32 (BitVec.ofNat 32 n))
            * Ideal.atan2 (Ideal.ofBits .f32 0x00000000#32) (Ideal.ofBits .f32 0xBF800000#32)
            * pick (res_main_v755 V0) (ix2 i 0)) (Ideal.ofBits .f32 0x41200000#32)))
          (pick (res_main_v755 V0) (ix2 i 0)) := by
    unfold res_main_v771
    generalize res_main_v755 V0 = r
    pointwise
    try rfl
  rw [e, small_word _ (by omega), at_v755, bits_num_2, bits_num_10, bits_num_1, bits_num_0, bits_neg_1]
  rfl

theorem cat3 (p0 p1 p2 : FVec Ideal S16384x1 .f32) (f : ℕ → EReal) (h0 : pick p0 (ix2 i 0) = f 0) (h1 : pick p1 (ix2 i 0) = f 1) (h2 : pick p2 (ix2 i 0) = f 2) (k : Fin 3) :
    pick (concatenate S16384x3 1 [⟨S16384x1, p0⟩, ⟨S16384x1, p1⟩, ⟨S16384x1, p2⟩] Gen.concatenates_S16384x1_S16384x1_S16384x1_S16384x3_d1 : FVec Ideal S16384x3 .f32) (ix2 i k) = f k := by
  pointwise
  fin_vals k with hk
  all_goals simp only [hk, Nat.reduceSub, Nat.reduceLT, ↓reduceDIte]
  all_goals assumption

theorem cat5 (p0 p1 p2 p3 p4 : FVec Ideal S16384x1 .f32) (f : ℕ → EReal) (h0 : pick p0 (ix2 i 0) = f 0) (h1 : pick p1 (ix2 i 0) = f 1) (h2 : pick p2 (ix2 i 0) = f 2) (h3 : pick p3 (ix2 i 0) = f 3) (h4 : pick p4 (ix2 i 0) = f 4) (k : Fin 5) :
    pick (concatenate S16384x5 1 [⟨S16384x1, p0⟩, ⟨S16384x1, p1⟩, ⟨S16384x1, p2⟩, ⟨S16384x1, p3⟩, ⟨S16384x1, p4⟩] Gen.concatenates_S16384x1_S16384x1_S16384x1_S16384x1_S16384x1_S16384x5_d1 : FVec Ideal S16384x5 .f32) (ix2 i k) = f k := by
  pointwise
  fin_vals k with hk
  all_goals simp only [hk, Nat.reduceSub, Nat.reduceLT, ↓reduceDIte]
  all_goals assumption

theorem cat7 (p0 p1 p2 p3 p4 p5 p6 : FVec Ideal S16384x1 .f32) (f : ℕ → EReal) (h0 : pick p0 (ix2 i 0) = f 0) (h1 : pick p1 (ix2 i 0) = f 1) (h2 : pick p2 (ix2 i 0) = f 2) (h3 : pick p3 (ix2 i 0) = f 3) (h4 : pick p4 (ix2 i 0) = f 4) (h5 : pick p5 (ix2 i 0) = f 5) (h6 : pick p6 (ix2 i 0) = f 6) (k : Fin 7) :
    pick (concatenate S16384x7 1 [⟨S16384x1, p0⟩, ⟨S16384x1, p1⟩, ⟨S16384x1, p2⟩, ⟨S16384x1, p3⟩, ⟨S16384x1, p4⟩, ⟨S16384x1, p5⟩, ⟨S16384x1, p6⟩] Gen.concatenates_S16384x1_S16384x1_S16384x1_S16384x1_S16384x1_S16384x1_S16384x1_S16384x7_d1 : FVec Ideal S16384x7 .f32) (ix2 i k) = f k := by
  pointwise
  fin_vals k with hk
  all_goals simp only [hk, Nat.reduceSub, Nat.reduceLT, ↓reduceDIte]
  all_goals assumption

theorem cat9 (p0 p1 p2 p3 p4 p5 p6 p7 p8 : FVec Ideal S16384x1 .f32) (f : ℕ → EReal) (h0 : pick p0 (ix2 i 0) = f 0) (h1 : pick p1 (ix2 i 0) = f 1) (h2 : pick p2 (ix2 i 0) = f 2) (h3 : pick p3 (ix2 i 0) = f 3) (h4 : pick p4 (ix2 i 0) = f 4) (h5 : pick p5 (ix2 i 0) = f 5) (h6 : pick p6 (ix2 i 0) = f 6) (h7 : pick p7 (ix2 i 0) = f 7) (h8 : pick p8 (ix2 i 0) = f 8) (k : Fin 9) :
    pick (concatenate S16384x9 1 [⟨S16384x1, p0⟩, ⟨S16384x1, p1⟩, ⟨S16384x1, p2⟩, ⟨S16384x1, p3⟩, ⟨S16384x1, p4⟩, ⟨S16384x1, p5⟩, ⟨S16384x1, p6⟩, ⟨S16384x1, p7⟩, ⟨S16384x1, p8⟩] Gen.concatenates_S16384x1_S16384x1_S16384x1_S16384x1_S16384x1_S16384x1_S16384x1_S16384x1_S16384x1_S16384x9_d1 : FVec Ideal S16384x9 .f32) (ix2 i k) = f k := by
  pointwise
  fin_vals k with hk
  all_goals simp only [hk, Nat.reduceSub, Nat.reduceLT, ↓reduceDIte]
  all_goals assumption

theorem cat11 (p0 p1 p2 p3 p4 p5 p6 p7 p8 p9 p10 : FVec Ideal S16384x1 .f32) (f : ℕ → EReal) (h0 : pick p0 (ix2 i 0) = f 0) (h1 : pick p1 (ix2 i 0) = f 1) (h2 : pick p2 (ix2 i 0) = f 2) (h3 : pick p3 (ix2 i 0) = f 3) (h4 : pick p4 (ix2 i 0) = f 4) (h5 : pick p5 (ix2 i 0) = f 5) (h6 : pick p6 (ix2 i 0) = f 6) (h7 : pick p7 (ix2 i 0) = f 7) (h8 : pick p8 (ix2 i 0) = f 8) (h9 : pick p9 (ix2 i 0) = f 9) (h10 : pick p10 (ix2 i 0) = f 10) (k : Fin 11) :
    pick (concatenate S16384x11 1 [⟨S16384x1, p0⟩, ⟨S16384x1, p1⟩, ⟨S16384x1, p2⟩, ⟨S16384x1, p3⟩, ⟨S16384x1, p4⟩, ⟨S16384x1, p5⟩, ⟨S16384x1, p6⟩, ⟨S16384x1, p7⟩, ⟨S16384x1, p8⟩, ⟨S16384x1, p9⟩, ⟨S16384x1, p10⟩] Gen.concatenates_S16384x1_S16384x1_S16384x1_S16384x1_S16384x1_S16384x1_S16384x1_S16384x1_S16384x1_S16384x1_S16384x1_S16384x11_d1 : FVec Ideal S16384x11 .f32) (ix2 i k) = f k := by
  pointwise
  fin_vals k with hk
  all_goals simp only [hk, Nat.reduceSub, Nat.reduceLT, ↓reduceDIte]
  all_goals assumption

theorem cat13 (p0 p1 p2 p3 p4 p5 p6 p7 p8 p9 p10 p11 p12 : FVec Ideal S16384x1 .f32) (f : ℕ → EReal) (h0 : pick p0 (ix2 i 0) = f 0) (h1 : pick p1 (ix2 i 0) = f 1) (h2 : pick p2 (ix2 i 0) = f 2) (h3 : pick p3 (ix2 i 0) = f 3) (h4 : pick p4 (ix2 i 0) = f 4) (h5 : pick p5 (ix2 i 0) = f 5) (h6 : pick p6 (ix2 i 0) = f 6) (h7 : pick p7 (ix2 i 0) = f 7) (h8 : pick p8 (ix2 i 0) = f 8) (h9 : pick p9 (ix2 i 0) = f 9) (h10 : pick p10 (ix2 i 0) = f 10) (h11 : pick p11 (ix2 i 0) = f 11) (h12 : pick p12 (ix2 i 0) = f 12) (k : Fin 13) :
    pick (concatenate S16384x13 1 [⟨S16384x1, p0⟩, ⟨S16384x1, p1⟩, ⟨S16384x1, p2⟩, ⟨S16384x1, p3⟩, ⟨S16384x1, p4⟩, ⟨S16384x1, p5⟩, ⟨S16384x1, p6⟩, ⟨S16384x1, p7⟩, ⟨S16384x1, p8⟩, ⟨S16384x1, p9⟩, ⟨S16384x1, p10⟩, ⟨S16384x1, p11⟩, ⟨S16384x1, p12⟩] Gen.concatenates_S16384x1_S16384x1_S16384x1_S16384x1_S16384x1_S16384x1_S16384x1_S16384x1_S16384x1_S16384x1_S16384x1_S16384x1_S16384x1_S16384x13_d1 : FVec Ideal S16384x13 .f32) (ix2 i k) = f k := by
  pointwise
  fin_vals k with hk
  all_goals simp only [hk, Nat.reduceSub, Nat.reduceLT, ↓reduceDIte]
  all_goals assumption

theorem at_v624 (k : Fin 11) : pick (res_main_v624 V0) (ix2 i k) = sph V0 i 5 k := by
  exact cat11 i _ _ _ _ _ _ _ _ _ _ _ (sph V0 i 5) (at_y5_0 V0 i) (at_y5_1 V0 i) (at_y5_2 V0 i) (at_y5_3 V0 i) (at_y5_4 V0 i) (at_y5_5 V0 i) (at_y5_6 V0 i) (at_y5_7 V0 i) (at_y5_8 V0 i) (at_y5_9 V0 i) (at_y5_10 V0 i) k

theorem at_v750 (k : Fin 13) : pick (res_main_v750 V0) (ix2 i k) = sph V0 i 6 k := by
  exact cat13 i _ _ _ _ _ _ _ _ _ _ _ _ _ (sph V0 i 6) (at_y6_0 V0 i) (at_y6_1 V0 i) (at_y6_2 V0 i) (at_y6_3 V0 i) (at_y6_4 V0 i) (at_y6_5 V0 i) (at_y6_6 V0 i) (at_y6_7 V0 i) (at_y6_8 V0 i) (at_y6_9 V0 i) (at_y6_10 V0 i) (at_y6_11 V0 i) (at_y6_12 V0 i) k

theorem prod3 (R : FVec Ideal S16384x20 .f32) (Y : FVec Ideal S16384x3 .f32) (q : Fin 60) :
    pick (shapeCast S16384x60 (mulf (broadcastInDim S16384x20x3 ![0, 1, 2] Gen.bcast_S16384x20x1_S16384x20x3_0_1_2 (broadcastInDim S16384x20x1 ![0, 1] Gen.bcast_S16384x20_S16384x20x1_0_1 R))
      (broadcastInDim S16384x20x3 ![0, 1, 2] Gen.bcast_S16384x1x3_S16384x20x3_0_1_2
        (broadcastInDim S16384x1x3 ![0, 2] Gen.bcast_S16384x3_S16384x1x3_0_2 Y))) Gen.shapeCasts_S16384x20x3_S16384x60) (ix2 i q)
      = pick R (ix2 i ⟨q / 3, by omega⟩) * pick Y (ix2 i ⟨q % 3, by omega⟩) := by
  pointwise

theorem prod5 (R : FVec Ideal S16384x20 .f32) (Y : FVec Ideal S16384x5 .f32) (q : Fin 100) :
    pick (shapeCast S16384x100 (mulf (broadcastInDim S16384x20x5 ![0, 1, 2] Gen.bcast_S16384x20x1_S16384x20x5_0_1_2 (broadcastInDim S16384x20x1 ![0, 1] Gen.bcast_S16384x20_S16384x20x1_0_1 R))
      (broadcastInDim S16384x20x5 ![0, 1, 2] Gen.bcast_S16384x1x5_S16384x20x5_0_1_2
        (broadcastInDim S16384x1x5 ![0, 2] Gen.bcast_S16384x5_S16384x1x5_0_2 Y))) Gen.shapeCasts_S16384x20x5_S16384x100) (ix2 i q)
      = pick R (ix2 i ⟨q / 5, by omega⟩) * pick Y (ix2 i ⟨q % 5, by omega⟩) := by
  pointwise

theorem prod7 (R : FVec Ideal S16384x20 .f32) (Y : FVec Ideal S16384x7 .f32) (q : Fin 140) :
    pick (shapeCast S16384x140 (mulf (broadcastInDim S16384x20x7 ![0, 1, 2] Gen.bcast_S16384x20x1_S16384x20x7_0_1_2 (broadcastInDim S16384x20x1 ![0, 1] Gen.bcast_S16384x20_S16384x20x1_0_1 R))
      (broadcastInDim S16384x20x7 ![0, 1, 2] Gen.bcast_S16384x1x7_S16384x20x7_0_1_2
        (broadcastInDim S16384x1x7 ![0, 2] Gen.bcast_S16384x7_S16384x1x7_0_2 Y))) Gen.shapeCasts_S16384x20x7_S16384x140) (ix2 i q)
      = pick R (ix2 i ⟨q / 7, by omega⟩) * pick Y (ix2 i ⟨q % 7, by omega⟩) := by
  pointwise

theorem prod9 (R : FVec Ideal S16384x20 .f32) (Y : FVec Ideal S16384x9 .f32) (q : Fin 180) :
    pick (shapeCast S16384x180 (mulf (broadcastInDim S16384x20x9 ![0, 1, 2] Gen.bcast_S16384x20x1_S16384x20x9_0_1_2 (broadcastInDim S16384x20x1 ![0, 1] Gen.bcast_S16384x20_S16384x20x1_0_1 R))
      (broadcastInDim S16384x20x9 ![0, 1, 2] Gen.bcast_S16384x1x9_S16384x20x9_0_1_2
        (broadcastInDim S16384x1x9 ![0, 2] Gen.bcast_S16384x9_S16384x1x9_0_2 Y))) Gen.shapeCasts_S16384x20x9_S16384x180) (ix2 i q)
      = pick R (ix2 i ⟨q / 9, by omega⟩) * pick Y (ix2 i ⟨q % 9, by omega⟩) := by
  pointwise

theorem prod11 (R : FVec Ideal S16384x20 .f32) (Y : FVec Ideal S16384x11 .f32) (q : Fin 220) :
    pick (shapeCast S16384x220 (mulf (broadcastInDim S16384x20x11 ![0, 1, 2] Gen.bcast_S16384x20x1_S16384x20x11_0_1_2 (broadcastInDim S16384x20x1 ![0, 1] Gen.bcast_S16384x20_S16384x20x1_0_1 R))
      (broadcastInDim S16384x20x11 ![0, 1, 2] Gen.bcast_S16384x1x11_S16384x20x11_0_1_2
        (broadcastInDim S16384x1x11 ![0, 2] Gen.bcast_S16384x11_S16384x1x11_0_2 Y))) Gen.shapeCasts_S16384x20x11_S16384x220) (ix2 i q)
      = pick R (ix2 i ⟨q / 11, by omega⟩) * pick Y (ix2 i ⟨q % 11, by omega⟩) := by
  pointwise

theorem prod13 (R : FVec Ideal S16384x20 .f32) (Y : FVec Ideal S16384x13 .f32) (q : Fin 260) :
    pick (shapeCast S16384x260 (mulf (broadcastInDim S16384x20x13 ![0, 1, 2] Gen.bcast_S16384x20x1_S16384x20x13_0_1_2 (broadcastInDim S16384x20x1 ![0, 1] Gen.bcast_S16384x20_S16384x20x1_0_1 R))
      (broadcastInDim S16384x20x13 ![0, 1, 2] Gen.bcast_S16384x1x13_S16384x20x13_0_1_2
        (broadcastInDim S16384x1x13 ![0, 2] Gen.bcast_S16384x13_S16384x1x13_0_2 Y))) Gen.shapeCasts_S16384x20x13_S16384x260) (ix2 i q)
      = pick R (ix2 i ⟨q / 13, by omega⟩) * pick Y (ix2 i ⟨q % 13, by omega⟩) := by
  pointwise

theorem prod1 (R : FVec Ideal S16384x20 .f32) (Y : FVec Ideal S16384x1 .f32) (q : Fin 20) :
    pick (shapeCast S16384x20 (mulf (broadcastInDim S16384x20x1 ![0, 1] Gen.bcast_S16384x20_S16384x20x1_0_1 R)
      (broadcastInDim S16384x20x1 ![0, 1, 2] Gen.bcast_S16384x1x1_S16384x20x1_0_1_2
        (broadcastInDim S16384x1x1 ![0, 2] Gen.bcast_S16384x1_S16384x1x1_0_2 Y))) Gen.shapeCasts_S16384x20x1_S16384x20) (ix2 i q)
      = pick R (ix2 i q) * pick Y (ix2 i 0) := by
  pointwise

theorem part0 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 20) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨0 + q, by omega⟩) = pick p0 (ix2 i q) := by
  pointwise

theorem part1 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 60) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨20 + q, by omega⟩) = pick p1 (ix2 i q) := by
  pointwise

theorem part2 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 100) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨80 + q, by omega⟩) = pick p2 (ix2 i q) := by
  pointwise
  simp (disch := omega) only [dif_neg, dif_pos]
  exact congrArg (fun z => p2 (ix2 i z)) (Fin.ext (show _ = (q : ℕ) by dsimp only; omega))

theorem part3 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 140) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨180 + q, by omega⟩) = pick p3 (ix2 i q) := by
  pointwise
  simp (disch := omega) only [dif_neg, dif_pos]
  exact congrArg (fun z => p3 (ix2 i z)) (Fin.ext (show _ = (q : ℕ) by dsimp only; omega))

theorem part4 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 180) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨320 + q, by omega⟩) = pick p4 (ix2 i q) := by
  pointwise
  simp (disch := omega) only [dif_neg, dif_pos]
  exact congrArg (fun z => p4 (ix2 i z)) (Fin.ext (show _ = (q : ℕ) by dsimp only; omega))

theorem part5 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 220) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨500 + q, by omega⟩) = pick p5 (ix2 i q) := by
  pointwise
  simp (disch := omega) only [dif_neg, dif_pos]
  exact congrArg (fun z => p5 (ix2 i z)) (Fin.ext (show _ = (q : ℕ) by dsimp only; omega))

theorem part6 (p0 : FVec Ideal S16384x20 .f32) (p1 : FVec Ideal S16384x60 .f32) (p2 : FVec Ideal S16384x100 .f32) (p3 : FVec Ideal S16384x140 .f32) (p4 : FVec Ideal S16384x180 .f32) (p5 : FVec Ideal S16384x220 .f32) (p6 : FVec Ideal S16384x260 .f32) (q : Fin 260) :
    pick (concatenate S16384x980 1 [⟨S16384x20, p0⟩, ⟨S16384x60, p1⟩, ⟨S16384x100, p2⟩, ⟨S16384x140, p3⟩, ⟨S16384x180, p4⟩, ⟨S16384x220, p5⟩, ⟨S16384x260, p6⟩] Gen.concatenates_S16384x20_S16384x60_S16384x100_S16384x140_S16384x180_S16384x220_S16384x260_S16384x980_d1 : FVec Ideal S16384x980 .f32) (ix2 i ⟨720 + q, by omega⟩) = pick p6 (ix2 i q) := by
  pointwise
  simp (disch := omega) only [dif_neg, dif_pos]
  exact congrArg (fun z => p6 (ix2 i z)) (Fin.ext (show _ = (q : ℕ) by dsimp only; omega))

/-- The columns of degree 0. -/
theorem feature0 (q : Fin 20) : pick (res_main_v813 V0) (ix2 i ⟨0 + q, by omega⟩)
    = rad (len (cx V0 i) (cy V0 i) (cz V0 i)) (q / 1) * sph V0 i 0 (q % 1) := by
  refine (part0 i _ _ _ _ _ _ _ q).trans ?_
  refine (prod1 i (res_main_v771 V0) _ q).trans ?_
  rw [at_v771, at_y0, Nat.div_one, Nat.mod_one]

/-- The columns of degree 1. -/
theorem feature1 (q : Fin 60) : pick (res_main_v813 V0) (ix2 i ⟨20 + q, by omega⟩)
    = rad (len (cx V0 i) (cy V0 i) (cz V0 i)) (q / 3) * sph V0 i 1 (q % 3) := by
  refine (part1 i _ _ _ _ _ _ _ q).trans ?_
  refine (prod3 i (res_main_v771 V0) _ q).trans ?_
  rw [at_v771]
  exact congrArg _ (cat3 i _ _ _ (sph V0 i 1) (at_y1_0 V0 i) (at_y1_1 V0 i) (at_y1_2 V0 i) _)

/-- The columns of degree 2. -/
theorem feature2 (q : Fin 100) : pick (res_main_v813 V0) (ix2 i ⟨80 + q, by omega⟩)
    = rad (len (cx V0 i) (cy V0 i) (cz V0 i)) (q / 5) * sph V0 i 2 (q % 5) := by
  refine (part2 i _ _ _ _ _ _ _ q).trans ?_
  refine (prod5 i (res_main_v771 V0) _ q).trans ?_
  rw [at_v771]
  exact congrArg _ (cat5 i _ _ _ _ _ (sph V0 i 2) (at_y2_0 V0 i) (at_y2_1 V0 i) (at_y2_2 V0 i) (at_y2_3 V0 i) (at_y2_4 V0 i) _)

/-- The columns of degree 3. -/
theorem feature3 (q : Fin 140) : pick (res_main_v813 V0) (ix2 i ⟨180 + q, by omega⟩)
    = rad (len (cx V0 i) (cy V0 i) (cz V0 i)) (q / 7) * sph V0 i 3 (q % 7) := by
  refine (part3 i _ _ _ _ _ _ _ q).trans ?_
  refine (prod7 i (res_main_v771 V0) _ q).trans ?_
  rw [at_v771]
  exact congrArg _ (cat7 i _ _ _ _ _ _ _ (sph V0 i 3) (at_y3_0 V0 i) (at_y3_1 V0 i) (at_y3_2 V0 i) (at_y3_3 V0 i) (at_y3_4 V0 i) (at_y3_5 V0 i) (at_y3_6 V0 i) _)

/-- The columns of degree 4. -/
theorem feature4 (q : Fin 180) : pick (res_main_v813 V0) (ix2 i ⟨320 + q, by omega⟩)
    = rad (len (cx V0 i) (cy V0 i) (cz V0 i)) (q / 9) * sph V0 i 4 (q % 9) := by
  refine (part4 i _ _ _ _ _ _ _ q).trans ?_
  refine (prod9 i (res_main_v771 V0) _ q).trans ?_
  rw [at_v771]
  exact congrArg _ (cat9 i _ _ _ _ _ _ _ _ _ (sph V0 i 4) (at_y4_0 V0 i) (at_y4_1 V0 i) (at_y4_2 V0 i) (at_y4_3 V0 i) (at_y4_4 V0 i) (at_y4_5 V0 i) (at_y4_6 V0 i) (at_y4_7 V0 i) (at_y4_8 V0 i) _)

/-- The columns of degree 5. -/
theorem feature5 (q : Fin 220) : pick (res_main_v813 V0) (ix2 i ⟨500 + q, by omega⟩)
    = rad (len (cx V0 i) (cy V0 i) (cz V0 i)) (q / 11) * sph V0 i 5 (q % 11) := by
  refine (part5 i _ _ _ _ _ _ _ q).trans ?_
  refine (prod11 i (res_main_v771 V0) _ q).trans ?_
  rw [at_v771]
  exact congrArg _ (at_v624 V0 i _)

/-- The columns of degree 6. -/
theorem feature6 (q : Fin 260) : pick (res_main_v813 V0) (ix2 i ⟨720 + q, by omega⟩)
    = rad (len (cx V0 i) (cy V0 i) (cz V0 i)) (q / 13) * sph V0 i 6 (q % 13) := by
  refine (part6 i _ _ _ _ _ _ _ q).trans ?_
  refine (prod13 i (res_main_v771 V0) _ q).trans ?_
  rw [at_v771]
  exact congrArg _ (at_v750 V0 i _)

end Cert.ReferenceIdeal.Feature

end
-- ==== Proof.OffAxis.lean ====
/- Away from the axis: an atom whose distance from the axis on the unit sphere is at least the floor has real unit
   coordinates, and there the addition formulas give the cosines and sines of the multiples of the azimuth. -/
module

public import proofs.«01_k».proof.Proof.Angle

@[expose] public section

noncomputable section

namespace Cert.Sph

open Idealize.ShloMosaic

/-- The distance from the axis of the point on the unit sphere. -/
def rho (x y z : EReal) : EReal := Ideal.sqrt (ux x y z * ux x y z + uy x y z * uy x y z)

theorem sqrt_top : Ideal.sqrt ⊤ = ⊤ := rfl

theorem mul_self_nonneg' (x : EReal) : 0 ≤ x * x := by
  rcases le_total 0 x with h | h
  · exact EReal.mul_nonneg h h
  · have := EReal.mul_nonneg (EReal.neg_nonneg.mpr h) (EReal.neg_nonneg.mpr h)
    rwa [EReal.neg_mul, mul_neg, neg_neg] at this

theorem mul_self_top {x : EReal} (h : x = ⊤ ∨ x = ⊥) : x * x = ⊤ := by
  rcases h with rfl | rfl
  · exact EReal.top_mul_top
  · exact EReal.bot_mul_bot

theorem ne_bot_of_nonneg {x : EReal} (h : 0 ≤ x) : x ≠ ⊥ := (lt_of_lt_of_le EReal.bot_lt_zero h).ne'

/-- The length is infinite as soon as a coordinate is. -/
theorem len_top {x y z : EReal} (h : (x = ⊤ ∨ x = ⊥) ∨ (y = ⊤ ∨ y = ⊥)) : len x y z = ⊤ := by
  have e : x * x + y * y + z * z = ⊤ := by
    rcases h with h | h
    · rw [mul_self_top h, EReal.top_add_of_ne_bot (ne_bot_of_nonneg (mul_self_nonneg' y)),
        EReal.top_add_of_ne_bot (ne_bot_of_nonneg (mul_self_nonneg' z))]
    · rw [mul_self_top h, EReal.add_top_of_ne_bot (ne_bot_of_nonneg (mul_self_nonneg' x)),
        EReal.top_add_of_ne_bot (ne_bot_of_nonneg (mul_self_nonneg' z))]
  rw [len, e, sqrt_top]

/-- Over an infinite length the reciprocal is zero. -/
theorem inv_zero {x y z : EReal} (h : len x y z = ⊤) : inv x y z = 0 := by
  rw [inv, h, top_sup_eq, Ideal.div, if_neg EReal.top_ne_zero, EReal.inv_top, mul_zero]

/-- Where the reciprocal is zero the point is on the axis. -/
theorem rho_zero {x y z : EReal} (h : inv x y z = 0) : rho x y z = 0 := by
  have e : Ideal.sqrt 0 = 0 := by
    rw [← EReal.coe_zero, sqrt_real le_rfl, Real.sqrt_zero]
  rw [rho, ux, uy, h]
  simp only [mul_zero, add_zero, e]

/-- Off the axis the unit coordinates are real, and not both zero. -/
theorem real_of_off {x y z : EReal} (h : tiny ≤ rho x y z) :
    ∃ u v : ℝ, ux x y z = (u : EReal) ∧ uy x y z = (v : EReal) ∧ (u ≠ 0 ∨ v ≠ 0) := by
  obtain ⟨e, he, hpos⟩ := tiny_pos
  have hz : inv x y z ≠ 0 := fun h0 => by
    rw [rho_zero h0, he] at h
    exact absurd (EReal.coe_le_coe_iff.mp h) hpos.not_ge
  have hl : len x y z ≠ ⊤ := fun h0 => hz (inv_zero h0)
  have hx : ¬(x = ⊤ ∨ x = ⊥) := fun h0 => hl (len_top (Or.inl h0))
  have hy : ¬(y = ⊤ ∨ y = ⊥) := fun h0 => hl (len_top (Or.inr h0))
  obtain ⟨k, hk, kpos⟩ := lo_pos
  have hm : ∃ r : ℝ, inv x y z = (r : EReal) := by
    have h1 : max (len x y z) lo ≠ ⊤ := by
      intro h0
      rcases max_choice (len x y z) lo with h2 | h2
      · exact hl (h2.symm.trans h0)
      · rw [h2, hk] at h0
        exact EReal.coe_ne_top _ h0
    have h2 : max (len x y z) lo ≠ ⊥ := by
      refine (lt_of_lt_of_le ?_ (le_max_right _ lo)).ne'
      rw [hk]
      exact EReal.bot_lt_coe k
    have h3 : max (len x y z) lo ≠ 0 := by
      refine (lt_of_lt_of_le ?_ (le_max_right _ lo)).ne'
      rw [hk]
      exact_mod_cast kpos
    refine ⟨(max (len x y z) lo).toReal⁻¹, ?_⟩
    rw [inv, Ideal.div, if_neg h3, num_one, one_mul, EReal.coe_inv, EReal.coe_toReal h1 h2]
  obtain ⟨r, hr⟩ := hm
  have hu : ux x y z = ((x.toReal * r : ℝ) : EReal) := by
    rw [ux, hr, EReal.coe_mul, EReal.coe_toReal (fun h => hx (Or.inl h)) (fun h => hx (Or.inr h))]
  have hv : uy x y z = ((y.toReal * r : ℝ) : EReal) := by
    rw [uy, hr, EReal.coe_mul, EReal.coe_toReal (fun h => hy (Or.inl h)) (fun h => hy (Or.inr h))]
  refine ⟨_, _, hu, hv, ?_⟩
  by_contra hn
  push Not at hn
  have h0 : rho x y z = 0 := by
    rw [rho, hu, hv, hn.1, hn.2, EReal.coe_zero, mul_zero, add_zero, ← EReal.coe_zero, sqrt_real le_rfl, Real.sqrt_zero]
  rw [h0, he] at h
  exact absurd (EReal.coe_le_coe_iff.mp h) hpos.not_ge

/-- Off the axis the addition formulas give the cosines and sines of the multiples of the azimuth. -/
theorem turns_eq {x y z : EReal} (h : tiny ≤ rho x y z) (m : ℕ) :
    turns x y z m = (Ideal.cos (num (m + 1) * Ideal.atan2 (uy x y z) (ux x y z)),
      Ideal.sin (num (m + 1) * Ideal.atan2 (uy x y z) (ux x y z))) := by
  obtain ⟨u, v, hu, hv, hne⟩ := real_of_off h
  have hpos : 0 < u * u + v * v := by
    rcases hne with hne | hne
    · have := mul_self_pos.mpr hne
      have := mul_self_nonneg v
      linarith
    · have := mul_self_pos.mpr hne
      have := mul_self_nonneg u
      linarith
  have hd : Ideal.sqrt (ux x y z * ux x y z + uy x y z * uy x y z) = ((Real.sqrt (u * u + v * v) : ℝ) : EReal) := by
    rw [hu, hv, ← EReal.coe_mul, ← EReal.coe_mul, ← EReal.coe_add, sqrt_real hpos.le]
  have hs : Real.sqrt (u * u + v * v) ≠ 0 := (Real.sqrt_pos.mpr hpos).ne'
  have hsp : spin (ux x y z) (uy x y z) = (((Real.sqrt (u * u + v * v))⁻¹ : ℝ) : EReal) := by
    have h' : tiny ≤ Ideal.sqrt (ux x y z * ux x y z + uy x y z * uy x y z) := h
    rw [spin, max_eq_left h', hd, Ideal.div, if_neg (by exact_mod_cast hs), num_one, one_mul, EReal.coe_inv]
  have ha : Ideal.atan2 (uy x y z) (ux x y z) = ((ang v u : ℝ) : EReal) := by
    rw [hu, hv, atan2_coe]
  have hc : ux x y z * spin (ux x y z) (uy x y z) = ((Real.cos (ang v u) : ℝ) : EReal) := by
    rw [hsp, hu, ← EReal.coe_mul, cos_ang v u hne, div_eq_mul_inv]
  have hn : uy x y z * spin (ux x y z) (uy x y z) = ((Real.sin (ang v u) : ℝ) : EReal) := by
    rw [hsp, hv, ← EReal.coe_mul, sin_ang v u hne, div_eq_mul_inv]
  rw [turns, hc, hn, turn_coe, ha, num, ← EReal.coe_mul]
  rfl

end Cert.Sph

end
-- ==== Proof.Entry.lean ====
/- The common form of the two results: at graph `b`, of degree `l`, the word `q` of the row counts the segment, the radial
   function and the harmonic, and the entry is the sum over the atoms of that segment of harmonic times radial function. -/
module

public import proofs.«01_k».proof.Proof.RefFeature
public import proofs.«01_k».proof.Proof.OffAxis

@[expose] public section

noncomputable section

namespace Cert.Sph

open Idealize.ShloMosaic
open Cert.ReferenceIdeal.Feature (rad)
open Cert.ReferenceIdeal.Atom (cx cy cz sph)

/-- The entry of degree `l`, of `w` harmonics, at graph `b` and word `q`. -/
def entry (x y z : Fin 16384 → EReal) (g : Fin 16384 → BitVec 32) (l w b q : ℕ) : EReal :=
  ∑ i : Fin 16384, basis (x i) (y i) (z i) l (q % w) * radial (len (x i) (y i) (z i)) (q / w % 20)
    * hot (g i) (b * 4 + q / (20 * w))

/-- The entries of degree `l` as an array of `n` words per graph. -/
def words (x y z : Fin 16384 → EReal) (g : Fin 16384 → BitVec 32) (l w n : ℕ) : FVec Ideal ⟨2, ![16, n]⟩ .f32 :=
  fun j => entry x y z g l w (j 0) (j 1)

/-- The seven degrees one after the other. -/
def whole (x y z : Fin 16384 → EReal) (g : Fin 16384 → BitVec 32) : FVec Ideal ⟨2, ![16, 3920]⟩ .f32 :=
  concatenate ⟨2, ![16, 3920]⟩ 1 [⟨⟨2, ![16, 80]⟩, words x y z g 0 1 80⟩, ⟨⟨2, ![16, 240]⟩, words x y z g 1 3 240⟩,
    ⟨⟨2, ![16, 400]⟩, words x y z g 2 5 400⟩, ⟨⟨2, ![16, 560]⟩, words x y z g 3 7 560⟩,
    ⟨⟨2, ![16, 720]⟩, words x y z g 4 9 720⟩, ⟨⟨2, ![16, 880]⟩, words x y z g 5 11 880⟩,
    ⟨⟨2, ![16, 1040]⟩, words x y z g 6 13 1040⟩]
    Cert.ReferenceIdeal.Gen.concatenates_S16x80_S16x240_S16x400_S16x560_S16x720_S16x880_S16x1040_S16x3920_d1

/-- The floor of the radius is positive. -/
theorem rmin_ne (r : EReal) : max r rmin ≠ 0 := by
  have h : ∃ e : ℝ, rmin = (e : EReal) ∧ 0 < e := by
    refine ⟨_, rfl, ?_⟩
    simp [Ideal.ieee]
  obtain ⟨e, he, h⟩ := h
  refine (lt_of_lt_of_le ?_ (le_max_right r rmin)).ne'
  rw [he]
  exact_mod_cast h

/-- The two spellings of a radial function agree. -/
theorem rad_eq (r : EReal) (n : ℕ) : rad r n = radial r n := by
  have h := rmin_ne r
  have e2 : Ideal.sqrt (Ideal.div (num 2) (num 10)) = ((Real.sqrt (1 / 5) : ℝ) : EReal) := by
    rw [div_num _ (by norm_num), num, recip, ← EReal.coe_mul, sqrt_real (by positivity)]
    norm_num
  have e1 : Ideal.div ((num 1 + num n) * circ * max r rmin) (num 10)
      = (num n + num 1) * (((Real.pi * (1 / 10) : ℝ) : EReal) * max r rmin) := by
    have ht : ((Real.pi * (1 / 10) : ℝ) : EReal) = circ * recip 10 := by
      rw [circ_eq, recip, ← EReal.coe_mul]
      norm_num
    rw [div_num _ (by norm_num), ht, add_comm (num 1), mul_assoc, mul_assoc, mul_assoc, mul_comm (max r rmin)]
  rw [rad, radial, max_comm rmin r, e2, e1, Ideal.div, if_neg h, Ideal.div, if_neg h]
  rw [mul_comm ((Real.sqrt (1 / 5) : ℝ) : EReal) (Ideal.sin _), mul_assoc]

/-- Off the axis the reference's harmonic is the harmonic. -/
theorem sph_eq (V0 : Valuation Cert.ReferenceIdeal.τ Cert.ReferenceIdeal.sig (Elt Ideal)) (i : Fin 16384)
    (h : tiny ≤ rho (cx V0 i) (cy V0 i) (cz V0 i)) (l k : ℕ) :
    sph V0 i l k = basis (cx V0 i) (cy V0 i) (cz V0 i) l k := by
  rw [sph, harm'_eq]
  exact (harm_congr (fun m => congrArg Prod.fst (turns_eq h m)) (fun m => congrArg Prod.snd (turns_eq h m)) l k).symm

/-- A row's degree, and its place in the degree. -/
theorem row_deg (x y z : EReal) (l k : ℕ) (hl : l < 7) (hk : k < 2 * l + 1) : row x y z (l * l + k) = basis x y z l k := by
  have hd : deg (l * l + k) = l := by
    unfold deg
    interval_cases l <;> split_ifs <;> omega
  rw [row, hd, Nat.add_sub_cancel_left]

end Cert.Sph

end
-- ==== Proof.KernelResult.lean ====
/- The kernel's result: the seven degrees one after the other, each the sums over the atoms of every segment. -/
module

public import proofs.«01_k».proof.Proof.KernelArray
public import proofs.«01_k».proof.Proof.KernelPieces
public import proofs.«01_k».proof.Proof.Entry

@[expose] public section

noncomputable section

namespace Cert.KernelIdeal.Result

open Cert.KernelIdeal Cert.KernelIdeal.Gen Cert.KernelIdeal.Block Cert.KernelIdeal.Array Cert.KernelIdeal.Pieces Cert.Sph
open Idealize.ShloMosaic Idealize.ShloMosaic.TcCoe Idealize.ShloMosaic.Pipeline

variable (m : (ℓ : Loc nD τ sig) → Buf (Elt Ideal) ℓ) (c : Dev nD)

/-- The coordinates and the segment word of atom `i`. -/
def kx (i : Fin 16384) : EReal := (show FVec Ideal S16384x3 .f32 from m ((c : Thread nD τ).loc main_arg0)) (ix2 i 0)
def ky (i : Fin 16384) : EReal := (show FVec Ideal S16384x3 .f32 from m ((c : Thread nD τ).loc main_arg0)) (ix2 i 1)
def kz (i : Fin 16384) : EReal := (show FVec Ideal S16384x3 .f32 from m ((c : Thread nD τ).loc main_arg0)) (ix2 i 2)
def kseg (i : Fin 16384) : BitVec 32 :=
  IntOp.addi (IntOp.muli ((show IVec S16384 32 from m ((c : Thread nD τ).loc main_arg2)) (ix1 i)) 4#32)
    ((show IVec S16384 32 from m ((c : Thread nD τ).loc main_arg1)) (ix1 i))

/-- The kernel's array after the launch. -/
def total : FVec Ideal S980x64 .f32 := fun j => ∑ t : Fin cfg0.N, part m c t j

/-- What an atom adds, from what its lane holds. -/
theorem term_of (x0 : FVec Ideal S1x3x2048 .f32) (x1 : IVec S1x2048x1 32) (f s : ℕ) (t : Fin 2048) {a b d : EReal}
    {g : BitVec 32} (ha : x0 (ix3 0 0 t) = a) (hb : x0 (ix3 0 1 t) = b) (hd : x0 (ix3 0 2 t) = d) (hg : x1 (ix3 0 t 0) = g) :
    term x0 x1 f s t = row a b d (f / 20) * radial (len a b d) (f % 20) * hot g s := by
  rw [term, ha, hb, hd, hg]

/-- A word of the array is an entry of the common form. -/
theorem word_at (l w b q : ℕ) (hl : l < 7) (hw : w = 2 * l + 1) (f : Fin 980) (s : Fin 64)
    (hf : f.val = (l * l + q % w) * 20 + q / w % 20) (hs : s.val = b * 4 + q / (20 * w)) :
    total m c (ix2 f s) = entry (kx m c) (ky m c) (kz m c) (kseg m c) l w b q := by
  refine Fin.sum_mul_add_congr (S := cfg0.N) (n := 2048) (fun t x hx => ?_) (by rw [show cfg0.N = 8 from N_0])
  show term _ _ (f : ℕ) (s : ℕ) x = _
  have hm : q % w < w := Nat.mod_lt _ (by omega)
  have hn : q / w % 20 < 20 := Nat.mod_lt _ (by omega)
  have e1 : f.val / 20 = l * l + q % w := by omega
  have e2 : f.val % 20 = q / w % 20 := by omega
  refine (term_of _ _ _ _ x (coord_at m c t 0 x) (coord_at m c t 1 x) (coord_at m c t 2 x) (seg_at m c t x)).trans ?_
  rw [e1, e2, hs, row_deg _ _ _ _ _ hl (hw ▸ hm)]
  rfl

/-- The kernel's words of degree 0. -/
theorem words0 :
    (shapeCast S16x80 (transpose S16x4x20x1 [0, 1, 3, 2] (extractStridedSlice S16x4x1x20 ![0, 0, 0, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x1x20_0_0_0_0)
        Gen.transposes_S16x4x1x20_S16x4x20x1_0_1_3_2) Gen.shapeCasts_S16x4x20x1_S16x80 : FVec Ideal S16x80 .f32)
      = words (kx m c) (ky m c) (kz m c) (kseg m c) 0 1 80 := by
  funext j
  obtain ⟨b, q, rfl⟩ : ∃ b q, j = ix2 b q := ⟨j 0, j 1, by ext a; fin_cases a <;> rfl⟩
  exact (moved0 (total m c) b q).trans (word_at m c 0 1 b q (by omega) rfl _ _ rfl rfl)

/-- The kernel's words of degree 1. -/
theorem words1 :
    (shapeCast S16x240 (transpose S16x4x20x3 [0, 1, 3, 2] (extractStridedSlice S16x4x3x20 ![0, 0, 1, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x3x20_0_0_1_0)
        Gen.transposes_S16x4x3x20_S16x4x20x3_0_1_3_2) Gen.shapeCasts_S16x4x20x3_S16x240 : FVec Ideal S16x240 .f32)
      = words (kx m c) (ky m c) (kz m c) (kseg m c) 1 3 240 := by
  funext j
  obtain ⟨b, q, rfl⟩ : ∃ b q, j = ix2 b q := ⟨j 0, j 1, by ext a; fin_cases a <;> rfl⟩
  exact (moved1 (total m c) b q).trans (word_at m c 1 3 b q (by omega) rfl _ _ rfl rfl)

/-- The kernel's words of degree 2. -/
theorem words2 :
    (shapeCast S16x400 (transpose S16x4x20x5 [0, 1, 3, 2] (extractStridedSlice S16x4x5x20 ![0, 0, 4, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x5x20_0_0_4_0)
        Gen.transposes_S16x4x5x20_S16x4x20x5_0_1_3_2) Gen.shapeCasts_S16x4x20x5_S16x400 : FVec Ideal S16x400 .f32)
      = words (kx m c) (ky m c) (kz m c) (kseg m c) 2 5 400 := by
  funext j
  obtain ⟨b, q, rfl⟩ : ∃ b q, j = ix2 b q := ⟨j 0, j 1, by ext a; fin_cases a <;> rfl⟩
  exact (moved2 (total m c) b q).trans (word_at m c 2 5 b q (by omega) rfl _ _ rfl rfl)

/-- The kernel's words of degree 3. -/
theorem words3 :
    (shapeCast S16x560 (transpose S16x4x20x7 [0, 1, 3, 2] (extractStridedSlice S16x4x7x20 ![0, 0, 9, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x7x20_0_0_9_0)
        Gen.transposes_S16x4x7x20_S16x4x20x7_0_1_3_2) Gen.shapeCasts_S16x4x20x7_S16x560 : FVec Ideal S16x560 .f32)
      = words (kx m c) (ky m c) (kz m c) (kseg m c) 3 7 560 := by
  funext j
  obtain ⟨b, q, rfl⟩ : ∃ b q, j = ix2 b q := ⟨j 0, j 1, by ext a; fin_cases a <;> rfl⟩
  exact (moved3 (total m c) b q).trans (word_at m c 3 7 b q (by omega) rfl _ _ rfl rfl)

/-- The kernel's words of degree 4. -/
theorem words4 :
    (shapeCast S16x720 (transpose S16x4x20x9 [0, 1, 3, 2] (extractStridedSlice S16x4x9x20 ![0, 0, 16, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x9x20_0_0_16_0)
        Gen.transposes_S16x4x9x20_S16x4x20x9_0_1_3_2) Gen.shapeCasts_S16x4x20x9_S16x720 : FVec Ideal S16x720 .f32)
      = words (kx m c) (ky m c) (kz m c) (kseg m c) 4 9 720 := by
  funext j
  obtain ⟨b, q, rfl⟩ : ∃ b q, j = ix2 b q := ⟨j 0, j 1, by ext a; fin_cases a <;> rfl⟩
  exact (moved4 (total m c) b q).trans (word_at m c 4 9 b q (by omega) rfl _ _ rfl rfl)

/-- The kernel's words of degree 5. -/
theorem words5 :
    (shapeCast S16x880 (transpose S16x4x20x11 [0, 1, 3, 2] (extractStridedSlice S16x4x11x20 ![0, 0, 25, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x11x20_0_0_25_0)
        Gen.transposes_S16x4x11x20_S16x4x20x11_0_1_3_2) Gen.shapeCasts_S16x4x20x11_S16x880 : FVec Ideal S16x880 .f32)
      = words (kx m c) (ky m c) (kz m c) (kseg m c) 5 11 880 := by
  funext j
  obtain ⟨b, q, rfl⟩ : ∃ b q, j = ix2 b q := ⟨j 0, j 1, by ext a; fin_cases a <;> rfl⟩
  exact (moved5 (total m c) b q).trans (word_at m c 5 11 b q (by omega) rfl _ _ rfl rfl)

/-- The kernel's words of degree 6. -/
theorem words6 :
    (shapeCast S16x1040 (transpose S16x4x20x13 [0, 1, 3, 2] (extractStridedSlice S16x4x13x20 ![0, 0, 36, 0]
      (transpose S16x4x49x20 [2, 3, 0, 1] (shapeCast S49x20x16x4 (total m c) Gen.shapeCasts_S980x64_S49x20x16x4)
        Gen.transposes_S49x20x16x4_S16x4x49x20_2_3_0_1) Gen.slices_S16x4x49x20_S16x4x13x20_0_0_36_0)
        Gen.transposes_S16x4x13x20_S16x4x20x13_0_1_3_2) Gen.shapeCasts_S16x4x20x13_S16x1040 : FVec Ideal S16x1040 .f32)
      = words (kx m c) (ky m c) (kz m c) (kseg m c) 6 13 1040 := by
  funext j
  obtain ⟨b, q, rfl⟩ : ∃ b q, j = ix2 b q := ⟨j 0, j 1, by ext a; fin_cases a <;> rfl⟩
  exact (moved6 (total m c) b q).trans (word_at m c 6 13 b q (by omega) rfl _ _ rfl rfl)

end Cert.KernelIdeal.Result

end
-- ==== Proof.KernelRun.lean ====
/- The kernel's run: at its end the result is the seven degrees one after the other, and the arguments are unchanged. -/
module

public import proofs.«01_k».proof.Proof.KernelResult
public import Idealize.ShloMosaic.Adequacy

@[expose] public section

noncomputable section

namespace Cert.KernelIdeal.Result

open Cert.KernelIdeal Cert.KernelIdeal.Gen Cert.KernelIdeal.Array Cert.Sph
open Idealize.ShloMosaic Idealize.SL.Sem Idealize.ShloMosaic.TcCoe Idealize.ShloMosaic.Pipeline

/-- The result from the launch's array. -/
def laid (A : FVec Ideal S980x64 .f32) : FVec Ideal S16x3920 .f32 :=
  concatenate S16x3920 1 [⟨S16x80, (shapeCast S16x80 (transpose S16x4x20x1 [0, 1, 3, 2] (extractStridedSlice S16x4x1x20 ![0, 0, 0, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x1x20_0_0_0_0)
        Gen.transposes_S16x4x1x20_S16x4x20x1_0_1_3_2) Gen.shapeCasts_S16x4x20x1_S16x80 : FVec Ideal S16x80 .f32)⟩,
    ⟨S16x240, (shapeCast S16x240 (transpose S16x4x20x3 [0, 1, 3, 2] (extractStridedSlice S16x4x3x20 ![0, 0, 1, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x3x20_0_0_1_0)
        Gen.transposes_S16x4x3x20_S16x4x20x3_0_1_3_2) Gen.shapeCasts_S16x4x20x3_S16x240 : FVec Ideal S16x240 .f32)⟩,
    ⟨S16x400, (shapeCast S16x400 (transpose S16x4x20x5 [0, 1, 3, 2] (extractStridedSlice S16x4x5x20 ![0, 0, 4, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x5x20_0_0_4_0)
        Gen.transposes_S16x4x5x20_S16x4x20x5_0_1_3_2) Gen.shapeCasts_S16x4x20x5_S16x400 : FVec Ideal S16x400 .f32)⟩,
    ⟨S16x560, (shapeCast S16x560 (transpose S16x4x20x7 [0, 1, 3, 2] (extractStridedSlice S16x4x7x20 ![0, 0, 9, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x7x20_0_0_9_0)
        Gen.transposes_S16x4x7x20_S16x4x20x7_0_1_3_2) Gen.shapeCasts_S16x4x20x7_S16x560 : FVec Ideal S16x560 .f32)⟩,
    ⟨S16x720, (shapeCast S16x720 (transpose S16x4x20x9 [0, 1, 3, 2] (extractStridedSlice S16x4x9x20 ![0, 0, 16, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x9x20_0_0_16_0)
        Gen.transposes_S16x4x9x20_S16x4x20x9_0_1_3_2) Gen.shapeCasts_S16x4x20x9_S16x720 : FVec Ideal S16x720 .f32)⟩,
    ⟨S16x880, (shapeCast S16x880 (transpose S16x4x20x11 [0, 1, 3, 2] (extractStridedSlice S16x4x11x20 ![0, 0, 25, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x11x20_0_0_25_0)
        Gen.transposes_S16x4x11x20_S16x4x20x11_0_1_3_2) Gen.shapeCasts_S16x4x20x11_S16x880 : FVec Ideal S16x880 .f32)⟩,
    ⟨S16x1040, (shapeCast S16x1040 (transpose S16x4x20x13 [0, 1, 3, 2] (extractStridedSlice S16x4x13x20 ![0, 0, 36, 0]
        (transpose S16x4x49x20 [2, 3, 0, 1] (shapeCast S49x20x16x4 A Gen.shapeCasts_S980x64_S49x20x16x4)
        Gen.transposes_S49x20x16x4_S16x4x49x20_2_3_0_1) Gen.slices_S16x4x49x20_S16x4x13x20_0_0_36_0)
        Gen.transposes_S16x4x13x20_S16x4x20x13_0_1_3_2) Gen.shapeCasts_S16x4x20x13_S16x1040 : FVec Ideal S16x1040 .f32)⟩]
    Gen.concatenates_S16x80_S16x240_S16x400_S16x560_S16x720_S16x880_S16x1040_S16x3920_d1

/-- The operations after the launch. -/
theorem tail (W : Valuation τ sig (Elt Ideal)) :
    StableHlo.after hostOps1 W (Proc.devRef .tc main_v31) = laid (W (Proc.devRef .tc main_v7)) := by
  unfold laid
  after_results_simp
  rfl

/-- The array of the launch gives the seven degrees. -/
theorem laid_total (m : (ℓ : Loc nD τ sig) → Buf (Elt Ideal) ℓ) (c : Dev nD) :
    laid (total m c) = whole (kx m c) (ky m c) (kz m c) (kseg m c) := by
  unfold laid
  rw [words0, words1, words2, words3, words4, words5, words6]
  rfl

/-- What the result holds after the operations. -/
theorem after_tail (m : (ℓ : Loc nD τ sig) → Buf (Elt Ideal) ℓ) (c : Dev nD) :
    afterTail₀ cfgs (dats m) 0 (V0 m) [hostOps1] c main_v31 = whole (kx m c) (ky m c) (kz m c) (kseg m c) := by
  refine (tail _).trans (Eq.trans (congrArg laid ?_) (laid_total m c))
  refine (withArrays_arr (cfgs 0).spec (by decide) c (V0 m c) (fun w => (dats m 0 c).arrAt w (cfgs 0).N) 2).trans ?_
  exact array_eq m c

/-- The run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = whole (kx m c) (ky m c) (kz m c) (kseg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v31 (by decide)).trans (after_tail m c), h.2 c⟩)
    (θ_run_and (run_main m ρ) (unchanged m ρ))

end Cert.KernelIdeal.Result

end
-- ==== Proof.RefArray.lean ====
/- The reference's array: at segment `s` and a feature column, the sum over the atoms of that segment of the feature. -/
module

public import proofs.«01_k».proof.Proof.RefFeature
public import Idealize.ShloMosaic.Lib.Routing.OpsPair

@[expose] public section

noncomputable section

namespace Cert.ReferenceIdeal.Array

open Cert.ReferenceIdeal Cert.ReferenceIdeal.Gen Cert.ReferenceIdeal.Value Cert.ReferenceIdeal.Atom Cert.Sph
open Idealize.ShloMosaic

variable (V0 : Valuation τ sig (Elt Ideal))

/-- The segment word of atom `i`: the second index times four, and the first. -/
def seg (i : Fin 16384) : BitVec 32 :=
  IntOp.addi (IntOp.muli ((V0 (Proc.devRef .tc main_arg2) : IVec S16384 32) (ix1 i)) 4#32)
    ((V0 (Proc.devRef .tc main_arg1) : IVec S16384 32) (ix1 i))

/-- Where an update lands: on the row its word names, in its own column. -/
theorem lands (g : IVec S16384x1 32) (i : Fin 16384) (q : Fin 980) (s : Fin 64) (f : Fin 980) :
    scatter_S64x980_S16384x1_S16384x980_1_0_0_1.resultIdx? (ix2 i q) g = some (ix2 s f)
      ↔ g (ix2 i 0) = BitVec.ofNat 32 s ∧ q = f := by
  rw [Routing.resultIdx?_eq_some]
  have h0 : scatter_S64x980_S16384x1_S16384x980_1_0_0_1.start (ix2 i q) g 0 = (g (ix2 i 0)).toInt := by
    refine congrArg (fun k => (g k).toInt) (funext fun a => ?_)
    fin_cases a <;> rfl
  have h1 : scatter_S64x980_S16384x1_S16384x980_1_0_0_1.start (ix2 i q) g 1 = 0 := rfl
  have w0 : scatter_S64x980_S16384x1_S16384x980_1_0_0_1.window (ix2 i q) 0 = 0 := rfl
  have w1 : scatter_S64x980_S16384x1_S16384x980_1_0_0_1.window (ix2 i q) 1 = q := rfl
  have hw : (g (ix2 i 0)).toInt = ((s : ℕ) : ℤ) ↔ g (ix2 i 0) = BitVec.ofNat 32 s := by
    have e : (BitVec.ofNat 32 s).toInt = ((s : ℕ) : ℤ) := by
      rw [BitVec.toInt_eq_toNat_of_lt] <;> rw [BitVec.toNat_ofNat] <;> omega
    rw [← e, BitVec.toInt_inj]
  constructor
  · intro h
    have e0 := h 0
    have e1 := h 1
    rw [h0, w0] at e0
    rw [h1, w1] at e1
    refine ⟨hw.mp (by simpa using e0), Fin.ext ?_⟩
    have e1' : (0 : ℤ) + (q : ℕ) = ((f : ℕ) : ℤ) := e1
    omega
  · rintro ⟨hg, rfl⟩ a
    match a with
    | ⟨0, _⟩ =>
      refine (congrArg₂ (fun (x : ℤ) (y : ℕ) => x + (y : ℤ)) h0 w0).trans ?_
      simpa using hw.mpr hg
    | ⟨1, _⟩ =>
      refine (congrArg₂ (fun (x : ℤ) (y : ℕ) => x + (y : ℤ)) h1 w1).trans ?_
      show (0 : ℤ) + (q : ℕ) = ((q : ℕ) : ℤ)
      omega

/-- Adding rows at the rows their words name. -/
theorem rows_added (x : FVec Ideal S64x980 .f32) (g : IVec S16384x1 32) (u : FVec Ideal S16384x980 .f32) (s : Fin 64) (f : Fin 980) :
    pick (Host.scatterAdd scatter_S64x980_S16384x1_S16384x980_1_0_0_1 x g u) (ix2 s f)
      = pick x (ix2 s f) + ∑ i : Fin 16384, pick u (ix2 i f) * hot (g (ix2 i 0)) s := by
  have e : Host.scatterAdd scatter_S64x980_S16384x1_S16384x980_1_0_0_1 x g u
      = Ideal.hostScatterAdd scatter_S64x980_S16384x1_S16384x980_1_0_0_1 x g u := rfl
  rw [e]
  unfold Ideal.hostScatterAdd pick
  refine congrArg (x (ix2 s f) + ·) ?_
  have hs : ∀ i : Fin 16384, pick u (ix2 i f) * hot (g (ix2 i 0)) s = if g (ix2 i 0) = BitVec.ofNat 32 s then pick u (ix2 i f) else 0 := by
    intro i
    unfold hot
    split_ifs <;> simp
  rw [Finset.sum_congr rfl fun i _ => hs i, ← Finset.sum_filter]
  refine Finset.sum_bij' (fun j _ => j 0) (fun i _ => ix2 i f) ?_ ?_ ?_ ?_ ?_
  · intro j hj
    obtain ⟨i, q, rfl⟩ : ∃ i q, j = ix2 i q := ⟨j 0, j 1, by ext a; fin_cases a <;> rfl⟩
    simp only [Finset.mem_filter, Finset.mem_univ, true_and, lands] at hj
    exact Finset.mem_filter.mpr ⟨Finset.mem_univ _, hj.1⟩
  · intro i hi
    simp only [Finset.mem_filter, Finset.mem_univ, true_and] at hi
    exact Finset.mem_filter.mpr ⟨Finset.mem_univ _, (lands g i f s f).mpr ⟨hi, rfl⟩⟩
  · intro j hj
    obtain ⟨i, q, rfl⟩ : ∃ i q, j = ix2 i q := ⟨j 0, j 1, by ext a; fin_cases a <;> rfl⟩
    simp only [Finset.mem_filter, Finset.mem_univ, true_and, lands] at hj
    rw [← hj.2]
    rfl
  · intro i _
    rfl
  · intro j hj
    obtain ⟨i, q, rfl⟩ : ∃ i q, j = ix2 i q := ⟨j 0, j 1, by ext a; fin_cases a <;> rfl⟩
    simp only [Finset.mem_filter, Finset.mem_univ, true_and, lands] at hj
    rw [← hj.2]
    rfl

/-- The array by batch index and element: its rows are the segments. -/
theorem at_v820 (b : Fin 16) (e : Fin 4) (f : Fin 980) :
    pick (res_main_v820 V0) (ix3 b e f)
      = ∑ i : Fin 16384, pick (res_main_v813 V0) (ix2 i f) * hot (seg V0 i) (b * 4 + e) := by
  have r := rows_added (broadcastInDim S64x980 ![] Gen.bcast_S_S64x980 (constant S_ .f32 0x00000000#32))
    (broadcastInDim S16384x1 ![0] Gen.bcast_S16384_S16384x1_0 (addi (muli (V0 (Proc.devRef .tc main_arg2))
      (broadcastInDim S16384 ![] Gen.bcast_S_S16384 (constantI S_ 32 4#32))) (V0 (Proc.devRef .tc main_arg1))))
    (res_main_v813 V0) ⟨b * 4 + e, by omega⟩ f
  have z : pick (broadcastInDim S64x980 ![] Gen.bcast_S_S64x980 (constant (F := Ideal) S_ .f32 0x00000000#32))
      (ix2 ⟨b * 4 + e, by omega⟩ f) = 0 := bits_num_0.trans num_zero
  rw [z, zero_add] at r
  refine Eq.trans ?_ (r.trans (Finset.sum_congr rfl fun i _ => congrArg (fun g => pick (res_main_v813 V0) (ix2 i f) * hot g _) ?_))
  · unfold res_main_v820
    generalize Host.scatterAdd _ _ _ (res_main_v813 V0) = A
    pointwise
  · pointwise
    rfl

end Cert.ReferenceIdeal.Array

end
-- ==== Proof.RefPieces.lean ====
/- Where the words of the reference's result lie in its array, degree by degree. -/
module

public import proofs.«01_k».proof.Proof.Gen.ReferenceIdeal
public import Idealize.ShloMosaic.Lib.Claim
public import Idealize.ShloMosaic.Lib.Pipeline.ValueKit

@[expose] public section

noncomputable section

namespace Cert.ReferenceIdeal.Pieces

open Cert.ReferenceIdeal Idealize.ShloMosaic

/-- Where a word of degree 0 lies in the reference's array. -/
theorem moved0 (A : FVec Ideal S16x4x980 .f32) (b : Fin 16) (q : Fin 80) :
    (shapeCast S16x80 (extractStridedSlice S16x4x20 ![0, 0, 0] A Gen.slices_S16x4x980_S16x4x20_0_0_0)
      Gen.shapeCasts_S16x4x20_S16x80 : FVec Ideal S16x80 .f32) (ix2 b q)
      = A (ix3 b ⟨q / 20, by omega⟩ ⟨0 + q % 20, by omega⟩) := by
  pointwise
  all_goals blk_ext

/-- Where a word of degree 1 lies in the reference's array. -/
theorem moved1 (A : FVec Ideal S16x4x980 .f32) (b : Fin 16) (q : Fin 240) :
    (shapeCast S16x240 (extractStridedSlice S16x4x60 ![0, 0, 20] A Gen.slices_S16x4x980_S16x4x60_0_0_20)
      Gen.shapeCasts_S16x4x60_S16x240 : FVec Ideal S16x240 .f32) (ix2 b q)
      = A (ix3 b ⟨q / 60, by omega⟩ ⟨20 + q % 60, by omega⟩) := by
  pointwise
  all_goals blk_ext

/-- Where a word of degree 2 lies in the reference's array. -/
theorem moved2 (A : FVec Ideal S16x4x980 .f32) (b : Fin 16) (q : Fin 400) :
    (shapeCast S16x400 (extractStridedSlice S16x4x100 ![0, 0, 80] A Gen.slices_S16x4x980_S16x4x100_0_0_80)
      Gen.shapeCasts_S16x4x100_S16x400 : FVec Ideal S16x400 .f32) (ix2 b q)
      = A (ix3 b ⟨q / 100, by omega⟩ ⟨80 + q % 100, by omega⟩) := by
  pointwise
  all_goals blk_ext

/-- Where a word of degree 3 lies in the reference's array. -/
theorem moved3 (A : FVec Ideal S16x4x980 .f32) (b : Fin 16) (q : Fin 560) :
    (shapeCast S16x560 (extractStridedSlice S16x4x140 ![0, 0, 180] A Gen.slices_S16x4x980_S16x4x140_0_0_180)
      Gen.shapeCasts_S16x4x140_S16x560 : FVec Ideal S16x560 .f32) (ix2 b q)
      = A (ix3 b ⟨q / 140, by omega⟩ ⟨180 + q % 140, by omega⟩) := by
  pointwise
  all_goals blk_ext

/-- Where a word of degree 4 lies in the reference's array. -/
theorem moved4 (A : FVec Ideal S16x4x980 .f32) (b : Fin 16) (q : Fin 720) :
    (shapeCast S16x720 (extractStridedSlice S16x4x180 ![0, 0, 320] A Gen.slices_S16x4x980_S16x4x180_0_0_320)
      Gen.shapeCasts_S16x4x180_S16x720 : FVec Ideal S16x720 .f32) (ix2 b q)
      = A (ix3 b ⟨q / 180, by omega⟩ ⟨320 + q % 180, by omega⟩) := by
  pointwise
  all_goals blk_ext

/-- Where a word of degree 5 lies in the reference's array. -/
theorem moved5 (A : FVec Ideal S16x4x980 .f32) (b : Fin 16) (q : Fin 880) :
    (shapeCast S16x880 (extractStridedSlice S16x4x220 ![0, 0, 500] A Gen.slices_S16x4x980_S16x4x220_0_0_500)
      Gen.shapeCasts_S16x4x220_S16x880 : FVec Ideal S16x880 .f32) (ix2 b q)
      = A (ix3 b ⟨q / 220, by omega⟩ ⟨500 + q % 220, by omega⟩) := by
  pointwise
  all_goals blk_ext

/-- Where a word of degree 6 lies in the reference's array. -/
theorem moved6 (A : FVec Ideal S16x4x980 .f32) (b : Fin 16) (q : Fin 1040) :
    (shapeCast S16x1040 (extractStridedSlice S16x4x260 ![0, 0, 720] A Gen.slices_S16x4x980_S16x4x260_0_0_720)
      Gen.shapeCasts_S16x4x260_S16x1040 : FVec Ideal S16x1040 .f32) (ix2 b q)
      = A (ix3 b ⟨q / 260, by omega⟩ ⟨720 + q % 260, by omega⟩) := by
  pointwise
  all_goals blk_ext

end Cert.ReferenceIdeal.Pieces

end
-- ==== Proof.RefResult.lean ====
/- The reference's result: the seven degrees one after the other, each the sums over the atoms of every segment. -/
module

public import proofs.«01_k».proof.Proof.RefArray
public import proofs.«01_k».proof.Proof.RefPieces
public import proofs.«01_k».proof.Proof.Entry

@[expose] public section

noncomputable section

namespace Cert.ReferenceIdeal.Result

open Cert.ReferenceIdeal Cert.ReferenceIdeal.Gen Cert.ReferenceIdeal.Value Cert.ReferenceIdeal.Atom Cert.ReferenceIdeal.Feature
open Cert.ReferenceIdeal.Array Cert.ReferenceIdeal.Pieces Cert.Sph Idealize.ShloMosaic

variable (V0 : Valuation τ sig (Elt Ideal))

/-- Off the axis a feature at its segment is a summand of the common form. -/
theorem feature_word (i : Fin 16384) (h : tiny ≤ rho (cx V0 i) (cy V0 i) (cz V0 i)) (l w b q n k s : ℕ)
    (hn : n = q / w % 20) (hk : k = q % w) (hs : s = b * 4 + q / (20 * w)) :
    rad (len (cx V0 i) (cy V0 i) (cz V0 i)) n * sph V0 i l k * hot (seg V0 i) s
      = basis (cx V0 i) (cy V0 i) (cz V0 i) l (q % w) * radial (len (cx V0 i) (cy V0 i) (cz V0 i)) (q / w % 20)
          * hot (seg V0 i) (b * 4 + q / (20 * w)) := by
  rw [rad_eq, sph_eq V0 i h, hn, hk, hs, mul_comm (radial _ _)]

variable (h : ∀ i, tiny ≤ rho (cx V0 i) (cy V0 i) (cz V0 i))
include h

/-- The reference's words of degree 0. -/
theorem words0 :
    (shapeCast S16x80 (extractStridedSlice S16x4x20 ![0, 0, 0] (res_main_v820 V0) Gen.slices_S16x4x980_S16x4x20_0_0_0)
      Gen.shapeCasts_S16x4x20_S16x80 : FVec Ideal S16x80 .f32)
      = words (cx V0) (cy V0) (cz V0) (seg V0) 0 1 80 := by
  funext j
  obtain ⟨b, q, rfl⟩ : ∃ b q, j = ix2 b q := ⟨j 0, j 1, by ext a; fin_cases a <;> rfl⟩
  show _ = entry (cx V0) (cy V0) (cz V0) (seg V0) 0 1 b q
  rw [entry]
  refine (moved0 (res_main_v820 V0) b q).trans ((at_v820 V0 b ⟨q / 20, by omega⟩ ⟨0 + q % 20, by omega⟩).trans
    (Finset.sum_congr rfl fun i _ => ?_))
  rw [feature0 V0 i ⟨q % 20, by omega⟩]
  exact feature_word V0 i (h i) 0 1 b q _ _ _ (by dsimp only; omega) (by dsimp only; omega) (by dsimp only)

/-- The reference's words of degree 1. -/
theorem words1 :
    (shapeCast S16x240 (extractStridedSlice S16x4x60 ![0, 0, 20] (res_main_v820 V0) Gen.slices_S16x4x980_S16x4x60_0_0_20)
      Gen.shapeCasts_S16x4x60_S16x240 : FVec Ideal S16x240 .f32)
      = words (cx V0) (cy V0) (cz V0) (seg V0) 1 3 240 := by
  funext j
  obtain ⟨b, q, rfl⟩ : ∃ b q, j = ix2 b q := ⟨j 0, j 1, by ext a; fin_cases a <;> rfl⟩
  show _ = entry (cx V0) (cy V0) (cz V0) (seg V0) 1 3 b q
  rw [entry]
  refine (moved1 (res_main_v820 V0) b q).trans ((at_v820 V0 b ⟨q / 60, by omega⟩ ⟨20 + q % 60, by omega⟩).trans
    (Finset.sum_congr rfl fun i _ => ?_))
  rw [feature1 V0 i ⟨q % 60, by omega⟩]
  exact feature_word V0 i (h i) 1 3 b q _ _ _ (by dsimp only; omega) (by dsimp only; omega) (by dsimp only)

/-- The reference's words of degree 2. -/
theorem words2 :
    (shapeCast S16x400 (extractStridedSlice S16x4x100 ![0, 0, 80] (res_main_v820 V0) Gen.slices_S16x4x980_S16x4x100_0_0_80)
      Gen.shapeCasts_S16x4x100_S16x400 : FVec Ideal S16x400 .f32)
      = words (cx V0) (cy V0) (cz V0) (seg V0) 2 5 400 := by
  funext j
  obtain ⟨b, q, rfl⟩ : ∃ b q, j = ix2 b q := ⟨j 0, j 1, by ext a; fin_cases a <;> rfl⟩
  show _ = entry (cx V0) (cy V0) (cz V0) (seg V0) 2 5 b q
  rw [entry]
  refine (moved2 (res_main_v820 V0) b q).trans ((at_v820 V0 b ⟨q / 100, by omega⟩ ⟨80 + q % 100, by omega⟩).trans
    (Finset.sum_congr rfl fun i _ => ?_))
  rw [feature2 V0 i ⟨q % 100, by omega⟩]
  exact feature_word V0 i (h i) 2 5 b q _ _ _ (by dsimp only; omega) (by dsimp only; omega) (by dsimp only)

/-- The reference's words of degree 3. -/
theorem words3 :
    (shapeCast S16x560 (extractStridedSlice S16x4x140 ![0, 0, 180] (res_main_v820 V0) Gen.slices_S16x4x980_S16x4x140_0_0_180)
      Gen.shapeCasts_S16x4x140_S16x560 : FVec Ideal S16x560 .f32)
      = words (cx V0) (cy V0) (cz V0) (seg V0) 3 7 560 := by
  funext j
  obtain ⟨b, q, rfl⟩ : ∃ b q, j = ix2 b q := ⟨j 0, j 1, by ext a; fin_cases a <;> rfl⟩
  show _ = entry (cx V0) (cy V0) (cz V0) (seg V0) 3 7 b q
  rw [entry]
  refine (moved3 (res_main_v820 V0) b q).trans ((at_v820 V0 b ⟨q / 140, by omega⟩ ⟨180 + q % 140, by omega⟩).trans
    (Finset.sum_congr rfl fun i _ => ?_))
  rw [feature3 V0 i ⟨q % 140, by omega⟩]
  exact feature_word V0 i (h i) 3 7 b q _ _ _ (by dsimp only; omega) (by dsimp only; omega) (by dsimp only)

/-- The reference's words of degree 4. -/
theorem words4 :
    (shapeCast S16x720 (extractStridedSlice S16x4x180 ![0, 0, 320] (res_main_v820 V0) Gen.slices_S16x4x980_S16x4x180_0_0_320)
      Gen.shapeCasts_S16x4x180_S16x720 : FVec Ideal S16x720 .f32)
      = words (cx V0) (cy V0) (cz V0) (seg V0) 4 9 720 := by
  funext j
  obtain ⟨b, q, rfl⟩ : ∃ b q, j = ix2 b q := ⟨j 0, j 1, by ext a; fin_cases a <;> rfl⟩
  show _ = entry (cx V0) (cy V0) (cz V0) (seg V0) 4 9 b q
  rw [entry]
  refine (moved4 (res_main_v820 V0) b q).trans ((at_v820 V0 b ⟨q / 180, by omega⟩ ⟨320 + q % 180, by omega⟩).trans
    (Finset.sum_congr rfl fun i _ => ?_))
  rw [feature4 V0 i ⟨q % 180, by omega⟩]
  exact feature_word V0 i (h i) 4 9 b q _ _ _ (by dsimp only; omega) (by dsimp only; omega) (by dsimp only)

/-- The reference's words of degree 5. -/
theorem words5 :
    (shapeCast S16x880 (extractStridedSlice S16x4x220 ![0, 0, 500] (res_main_v820 V0) Gen.slices_S16x4x980_S16x4x220_0_0_500)
      Gen.shapeCasts_S16x4x220_S16x880 : FVec Ideal S16x880 .f32)
      = words (cx V0) (cy V0) (cz V0) (seg V0) 5 11 880 := by
  funext j
  obtain ⟨b, q, rfl⟩ : ∃ b q, j = ix2 b q := ⟨j 0, j 1, by ext a; fin_cases a <;> rfl⟩
  show _ = entry (cx V0) (cy V0) (cz V0) (seg V0) 5 11 b q
  rw [entry]
  refine (moved5 (res_main_v820 V0) b q).trans ((at_v820 V0 b ⟨q / 220, by omega⟩ ⟨500 + q % 220, by omega⟩).trans
    (Finset.sum_congr rfl fun i _ => ?_))
  rw [feature5 V0 i ⟨q % 220, by omega⟩]
  exact feature_word V0 i (h i) 5 11 b q _ _ _ (by dsimp only; omega) (by dsimp only; omega) (by dsimp only)

/-- The reference's words of degree 6. -/
theorem words6 :
    (shapeCast S16x1040 (extractStridedSlice S16x4x260 ![0, 0, 720] (res_main_v820 V0) Gen.slices_S16x4x980_S16x4x260_0_0_720)
      Gen.shapeCasts_S16x4x260_S16x1040 : FVec Ideal S16x1040 .f32)
      = words (cx V0) (cy V0) (cz V0) (seg V0) 6 13 1040 := by
  funext j
  obtain ⟨b, q, rfl⟩ : ∃ b q, j = ix2 b q := ⟨j 0, j 1, by ext a; fin_cases a <;> rfl⟩
  show _ = entry (cx V0) (cy V0) (cz V0) (seg V0) 6 13 b q
  rw [entry]
  refine (moved6 (res_main_v820 V0) b q).trans ((at_v820 V0 b ⟨q / 260, by omega⟩ ⟨720 + q % 260, by omega⟩).trans
    (Finset.sum_congr rfl fun i _ => ?_))
  rw [feature6 V0 i ⟨q % 260, by omega⟩]
  exact feature_word V0 i (h i) 6 13 b q _ _ _ (by dsimp only; omega) (by dsimp only; omega) (by dsimp only)

/-- The reference's result. -/
theorem result :
    (concatenate S16x3920 1 [⟨S16x80, shapeCast _ (extractStridedSlice S16x4x20 ![0, 0, 0] (res_main_v820 V0) Gen.slices_S16x4x980_S16x4x20_0_0_0) Gen.shapeCasts_S16x4x20_S16x80⟩,
      ⟨S16x240, shapeCast _ (extractStridedSlice S16x4x60 ![0, 0, 20] (res_main_v820 V0) Gen.slices_S16x4x980_S16x4x60_0_0_20) Gen.shapeCasts_S16x4x60_S16x240⟩,
      ⟨S16x400, shapeCast _ (extractStridedSlice S16x4x100 ![0, 0, 80] (res_main_v820 V0) Gen.slices_S16x4x980_S16x4x100_0_0_80) Gen.shapeCasts_S16x4x100_S16x400⟩,
      ⟨S16x560, shapeCast _ (extractStridedSlice S16x4x140 ![0, 0, 180] (res_main_v820 V0) Gen.slices_S16x4x980_S16x4x140_0_0_180) Gen.shapeCasts_S16x4x140_S16x560⟩,
      ⟨S16x720, shapeCast _ (extractStridedSlice S16x4x180 ![0, 0, 320] (res_main_v820 V0) Gen.slices_S16x4x980_S16x4x180_0_0_320) Gen.shapeCasts_S16x4x180_S16x720⟩,
      ⟨S16x880, shapeCast _ (extractStridedSlice S16x4x220 ![0, 0, 500] (res_main_v820 V0) Gen.slices_S16x4x980_S16x4x220_0_0_500) Gen.shapeCasts_S16x4x220_S16x880⟩,
      ⟨S16x1040, shapeCast _ (extractStridedSlice S16x4x260 ![0, 0, 720] (res_main_v820 V0) Gen.slices_S16x4x980_S16x4x260_0_0_720) Gen.shapeCasts_S16x4x260_S16x1040⟩]
      Gen.concatenates_S16x80_S16x240_S16x400_S16x560_S16x720_S16x880_S16x1040_S16x3920_d1 : FVec Ideal S16x3920 .f32)
      = whole (cx V0) (cy V0) (cz V0) (seg V0) := by
  rw [words0 V0 h, words1 V0 h, words2 V0 h, words3 V0 h, words4 V0 h, words5 V0 h, words6 V0 h]
  rfl

end Cert.ReferenceIdeal.Result

end
-- ==== Proof.Precondition.lean ====
/- The precondition read back: every atom's distance from the axis on the unit sphere is at least the floor. -/
module

public import proofs.«01_k».proof.Pre_off_axis
public import proofs.«01_k».proof.Proof.RefWords
public import proofs.«01_k».proof.Proof.OffAxis
public import Idealize.ShloMosaic.Lib.ReduceAll

@[expose] public section

noncomputable section

namespace Cert.Pre_off_axis.Read

open Cert.Pre_off_axis Cert.Sph Idealize.ShloMosaic
open Cert.ReferenceIdeal.Atom (pick inv_of_floor)

instance facts : Facts where
  reducesTo_S16384x3_S16384_d1 := by decide
  h_S_ := by decide
  bcast_S_S16384 := by decide
  bcast_S16384_S16384x1_0 := by decide
  bcast_S16384x1_S16384x3_0_1 := by decide
  slices_S16384x3_S16384x1_0_0 := by decide
  shapeCasts_S16384x1_S16384 := by decide
  slices_S16384x3_S16384x1_0_1 := by decide
  reducesTo_S16384_S_d0 := by decide

/-- The atoms on the unit sphere. -/
def unit (x : FVec Ideal S16384x3 .f32) : FVec Ideal S16384x3 .f32 :=
  Host.divf x (broadcastInDim S16384x3 ![0, 1] Facts.bcast_S16384x1_S16384x3_0_1
    (broadcastInDim S16384x1 ![0] Facts.bcast_S16384_S16384x1_0 (fn_clip (fn_norm x) (constant S_ .f32 0x2B8CBCCC#32))))

/-- Their distances from the axis, of their unit coordinates. -/
def dist (u : FVec Ideal S16384x3 .f32) : FVec Ideal S16384 .f32 :=
  let a := shapeCast S16384 (extractStridedSlice S16384x1 ![0, 0] u Facts.slices_S16384x3_S16384x1_0_0) Facts.shapeCasts_S16384x1_S16384
  let b := shapeCast S16384 (extractStridedSlice S16384x1 ![0, 1] u Facts.slices_S16384x3_S16384x1_0_1) Facts.shapeCasts_S16384x1_S16384
  Host.sqrt (addf (mulf a a) (mulf b b))

theorem norm_at (x : FVec Ideal S16384x3 .f32) (i : Fin 16384) :
    pick (fn_norm x) (ix1 i) = len (x (ix2 i 0)) (x (ix2 i 1)) (x (ix2 i 2)) := by
  unfold fn_norm
  pointwise
  rw [Fin.sum_univ_three]
  rfl

theorem unit_at (x : FVec Ideal S16384x3 .f32) (i : Fin 16384) (a : Fin 3) :
    pick (unit x) (ix2 i a) = x (ix2 i a) * inv (x (ix2 i 0)) (x (ix2 i 1)) (x (ix2 i 2)) := by
  have e : pick (unit x) (ix2 i a) = Ideal.div (x (ix2 i a)) (max lo (pick (fn_norm x) (ix1 i))) := by
    unfold unit fn_clip
    generalize fn_norm x = N
    pointwise
    rfl
  rw [e, norm_at, inv_of_floor]
  rfl

theorem dist_at (u : FVec Ideal S16384x3 .f32) (i : Fin 16384) :
    pick (dist u) (ix1 i)
      = Ideal.sqrt (pick u (ix2 i 0) * pick u (ix2 i 0) + pick u (ix2 i 1) * pick u (ix2 i 1)) := by
  unfold dist
  pointwise

/-- The comparison with the floor at an atom. -/
theorem floor_form (d : FVec Ideal S16384 .f32) (i : Fin 16384) :
    cmpf .oge d (broadcastInDim S16384 ![] Facts.bcast_S_S16384 (constant S_ .f32 0x1E3CE508#32)) (ix1 i)
      = BitVec.ofBool (decide (tiny ≤ pick d (ix1 i))) := rfl

/-- Under the precondition every atom is off the axis. -/
theorem off (x : FVec Ideal S16384x3 .f32) (p q : IVec S16384 32)
    (h : fn (F := Ideal) x p q = fun _ => 1#1) (i : Fin 16384) :
    tiny ≤ rho (x (ix2 i 0)) (x (ix2 i 1)) (x (ix2 i 2)) := by
  have e : fn (F := Ideal) x p q = Host.reduce IntOp.andi
      (cmpf .oge (dist (unit x)) (broadcastInDim S16384 ![] Facts.bcast_S_S16384 (constant S_ .f32 0x1E3CE508#32)))
      (constantI S_ 1 1#1) Facts.reducesTo_S16384_S_d0 Facts.h_S_ := rfl
  rw [e] at h
  have : Subsingleton S_.Idx := ⟨fun a b => funext fun k => k.elim0⟩
  have r := Host.reduce_andi_all _ _ _ _ _ (congrFun h (fun k => k.elim0)) (ix1 i)
  have r' : BitVec.ofBool (decide (tiny ≤ pick (dist (unit x)) (ix1 i))) = 1#1 :=
    (floor_form (dist (unit x)) i).symm.trans r
  have r2 : tiny ≤ pick (dist (unit x)) (ix1 i) := by
    by_contra hn
    rw [decide_eq_false hn] at r'
    exact absurd r' (by decide)
  rw [dist_at, unit_at, unit_at] at r2
  exact r2

end Cert.Pre_off_axis.Read

end
-- ==== Proof.Claims.lean ====
/- The five claims: the three programs run and leave their arguments unchanged, the named constants are those of the kernel,
   and off the axis the kernel and the reference give the same result. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefResult
public import proofs.«01_k».proof.Proof.Precondition
public import Idealize.ShloMosaic.PureOps.IdealRules
public import Idealize.ShloMosaic.Lib.Quiescent
public import Idealize.ShloMosaic.Lib.Claim
public import Idealize.ShloMosaic.Adequacy
public import Idealize.ShloMosaic.Init

@[expose] public section

noncomputable section

namespace Cert.Claims

open Idealize.ShloMosaic Idealize.SL.Sem Idealize.ShloMosaic.TcCoe Cert.Sph

/-- The kernel runs, leaves its arguments unchanged, and ends quiescent. -/
theorem frame_kernel : Cert.quiescent_Kernel := fun m g _ => Cert.Kernel.Gen.frame m g

/-- So does its idealization. -/
theorem frame_ideal : Cert.quiescent_KernelIdeal := fun m g _ => Cert.KernelIdeal.Gen.frame m g

theorem frame_ideal_off : Cert.quiescent_KernelIdeal_pre_off_axis := fun m g _ => Cert.KernelIdeal.Gen.frame m g

/-- The reference, from any memory. -/
theorem run_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem frame_reference : Cert.quiescent_ReferenceIdeal := fun m g _ => run_quiet m g

theorem frame_reference_off : Cert.quiescent_ReferenceIdeal_pre_off_axis := fun m g _ => run_quiet m g

/-- Each named constant's word in the kernel is its number, rounded. -/
theorem preserves : Cert.preserves_Kernel_KernelIdeal :=
  ⟨IdealRules.named_const.statement Cert.KernelIdeal.κ "third" .f32 0x3EAAAAAB#32 ((1 / 3 : ℝ) : EReal) rfl,
    IdealRules.named_const.statement Cert.KernelIdeal.κ "fifth" .f32 0x3E4CCCCD#32 ((1 / 5 : ℝ) : EReal) rfl,
    IdealRules.named_const.statement Cert.KernelIdeal.κ "sixth" .f32 0x3E2AAAAB#32 ((1 / 6 : ℝ) : EReal) rfl,
    IdealRules.named_const.statement Cert.KernelIdeal.κ "y10" .f32 0x3FDDB3D7#32 ((Real.sqrt 3 : ℝ) : EReal) rfl,
    IdealRules.named_const.statement Cert.KernelIdeal.κ "y22" .f32 0x3F253F4E#32 ((Real.sqrt (5 / 12) : ℝ) : EReal) rfl,
    IdealRules.named_const.statement Cert.KernelIdeal.κ "y21" .f32 0x3FA53F4E#32 ((Real.sqrt (5 / 3) : ℝ) : EReal) rfl,
    IdealRules.named_const.statement Cert.KernelIdeal.κ "y20" .f32 0x400F1BBD#32 ((Real.sqrt 5 : ℝ) : EReal) rfl,
    IdealRules.named_const.statement Cert.KernelIdeal.κ "y33" .f32 0x3E0ECA3C#32 ((Real.sqrt (7 / 360) : ℝ) : EReal) rfl,
    IdealRules.named_const.statement Cert.KernelIdeal.κ "y32" .f32 0x3EAEE19C#32 ((Real.sqrt (7 / 60) : ℝ) : EReal) rfl,
    IdealRules.named_const.statement Cert.KernelIdeal.κ "y31" .f32 0x3F8A417C#32 ((Real.sqrt (7 / 6) : ℝ) : EReal) rfl,
    IdealRules.named_const.statement Cert.KernelIdeal.κ "y30" .f32 0x402953FD#32 ((Real.sqrt 7 : ℝ) : EReal) rfl,
    IdealRules.named_const.statement Cert.KernelIdeal.κ "y44" .f32 0x3CAD166C#32 ((Real.sqrt (1 / 2240) : ℝ) : EReal) rfl,
    IdealRules.named_const.statement Cert.KernelIdeal.κ "y43" .f32 0x3D74C867#32 ((Real.sqrt (1 / 280) : ℝ) : EReal) rfl,
    IdealRules.named_const.statement Cert.KernelIdeal.κ "y42" .f32 0x3E64F92E#32 ((Real.sqrt (1 / 20) : ℝ) : EReal) rfl,
    IdealRules.named_const.statement Cert.KernelIdeal.κ "y41" .f32 0x3F72DCE9#32 ((Real.sqrt (9 / 10) : ℝ) : EReal) rfl,
    IdealRules.named_const.statement Cert.KernelIdeal.κ "y55" .f32 0x3B215D7B#32 ((Real.sqrt (11 / 1814400) : ℝ) : EReal) rfl,
    IdealRules.named_const.statement Cert.KernelIdeal.κ "y54" .f32 0x3BFF2406#32 ((Real.sqrt (11 / 181440) : ℝ) : EReal) rfl,
    IdealRules.named_const.statement Cert.KernelIdeal.κ "y53" .f32 0x3D074F0D#32 ((Real.sqrt (11 / 10080) : ℝ) : EReal) rfl,
    IdealRules.named_const.statement Cert.KernelIdeal.κ "y52" .f32 0x3E25B800#32 ((Real.sqrt (11 / 420) : ℝ) : EReal) rfl,
    IdealRules.named_const.statement Cert.KernelIdeal.κ "y51" .f32 0x3F5B39AD#32 ((Real.sqrt (11 / 15) : ℝ) : EReal) rfl,
    IdealRules.named_const.statement Cert.KernelIdeal.κ "y50" .f32 0x40544395#32 ((Real.sqrt 11 : ℝ) : EReal) rfl,
    IdealRules.named_const.statement Cert.KernelIdeal.κ "y66" .f32 0x39744C07#32 ((Real.sqrt (13 / 239500800) : ℝ) : EReal) rfl,
    IdealRules.named_const.statement Cert.KernelIdeal.κ "y65" .f32 0x3A539141#32 ((Real.sqrt (13 / 19958400) : ℝ) : EReal) rfl,
    IdealRules.named_const.statement Cert.KernelIdeal.κ "y64" .f32 0x3B7815B3#32 ((Real.sqrt (13 / 907200) : ℝ) : EReal) rfl,
    IdealRules.named_const.statement Cert.KernelIdeal.κ "y63" .f32 0x3CA9DA1E#32 ((Real.sqrt (13 / 30240) : ℝ) : EReal) rfl,
    IdealRules.named_const.statement Cert.KernelIdeal.κ "y62" .f32 0x3DFEC72D#32 ((Real.sqrt (13 / 840) : ℝ) : EReal) rfl,
    IdealRules.named_const.statement Cert.KernelIdeal.κ "y61" .f32 0x3F496B73#32 ((Real.sqrt (13 / 21) : ℝ) : EReal) rfl,
    IdealRules.named_const.statement Cert.KernelIdeal.κ "y60" .f32 0x4066C15A#32 ((Real.sqrt 13 : ℝ) : EReal) rfl,
    IdealRules.named_const.statement Cert.KernelIdeal.κ "root_2_over_rcut" .f32 0x3EE4F92E#32 ((Real.sqrt (1 / 5) : ℝ) : EReal) rfl,
    IdealRules.named_const.statement Cert.KernelIdeal.κ "pi_over_rcut" .f32 0x3EA0D97C#32 ((Real.pi * (1 / 10) : ℝ) : EReal) rfl⟩

/-- The reference's coordinates are the kernel's, where the programs are given the same arguments. -/
theorem coordinates (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (i : Fin 16384) (a : Fin 3) :
    Cert.ReferenceIdeal.Atom.X (StableHlo.launchContents m' c) (ix2 i a)
      = (show FVec Ideal Cert.KernelIdeal.S16384x3 .f32 from
          m ((c.tc : Thread Cert.KernelIdeal.nD Cert.KernelIdeal.τ).loc Cert.KernelIdeal.main_arg0)) (ix2 i a) :=
  congrFun h (ix2 i a)

/-- So are the segment words. -/
theorem segments (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (i : Fin 16384) :
    Cert.ReferenceIdeal.Array.seg (StableHlo.launchContents m' c) i = Cert.KernelIdeal.Result.kseg m c i :=
  congrArg₂ (fun x y => IntOp.addi (IntOp.muli x 4#32) y) (congrFun h2 (ix1 i)) (congrFun h1 (ix1 i))

/-- Off the axis the two results are equal. -/
theorem algebraic : Cert.algebraic_KernelIdeal_ReferenceIdeal_pre_off_axis := by
  intro m g m' g' hpre hagree
  have hx : ∀ c i a, _ := fun c i a => coordinates m m' c (hagree c).1 i a
  have hoff : ∀ c i, tiny ≤ rho (Cert.ReferenceIdeal.Atom.cx (StableHlo.launchContents m' c) i)
      (Cert.ReferenceIdeal.Atom.cy (StableHlo.launchContents m' c) i)
      (Cert.ReferenceIdeal.Atom.cz (StableHlo.launchContents m' c) i) := fun c i => by
    have r := Cert.Pre_off_axis.Read.off _ _ _ (hpre c) i
    rw [Cert.ReferenceIdeal.Atom.cx, Cert.ReferenceIdeal.Atom.cy, Cert.ReferenceIdeal.Atom.cz, hx c i 0, hx c i 1, hx c i 2]
    exact r
  refine ⟨fun c => whole (Cert.KernelIdeal.Result.kx m c) (Cert.KernelIdeal.Result.ky m c) (Cert.KernelIdeal.Result.kz m c)
    (Cert.KernelIdeal.Result.kseg m c), Cert.KernelIdeal.Result.run m g, ?_⟩
  refine (θ_run Cert.ReferenceIdeal.defs _ _).mono (fun r h c => ?_) (Cert.ReferenceIdeal.Value.run (F := Ideal) m' g')
  refine ⟨((h c).1.trans (Cert.ReferenceIdeal.Result.result (StableHlo.launchContents m' c) (hoff c))).trans ?_, (h c).2⟩
  rw [show Cert.ReferenceIdeal.Atom.cx (StableHlo.launchContents m' c) = Cert.KernelIdeal.Result.kx m c from
      funext fun i => hx c i 0,
    show Cert.ReferenceIdeal.Atom.cy (StableHlo.launchContents m' c) = Cert.KernelIdeal.Result.ky m c from
      funext fun i => hx c i 1,
    show Cert.ReferenceIdeal.Atom.cz (StableHlo.launchContents m' c) = Cert.KernelIdeal.Result.kz m c from
      funext fun i => hx c i 2,
    show Cert.ReferenceIdeal.Array.seg (StableHlo.launchContents m' c) = Cert.KernelIdeal.Result.kseg m c from
      funext fun i => segments m m' c (hagree c).2.1 (hagree c).2.2 i]

end Cert.Claims

end
-- ==== Proof.lean ====
module

public import proofs.«01_k».proof.Defs
public import proofs.«01_k».proof.Proof.Claims

@[expose] public section

noncomputable section

namespace Cert.Proof

open Idealize.ShloMosaic Idealize.SL.Sem

/-- Every claim holds. -/
theorem claim : Cert.Claim :=
  ⟨Cert.Kernel.Gen.facts, Cert.KernelIdeal.Gen.facts, Cert.ReferenceIdeal.Gen.facts, Cert.Pre_off_axis.Read.facts,
    Claims.frame_kernel, Claims.frame_ideal, Claims.frame_ideal_off, Claims.frame_reference, Claims.frame_reference_off,
    Claims.preserves, Claims.algebraic⟩

end Cert.Proof

end
